-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def preserves_Kernel_KernelIdeal : Prop :=
  IdealRules.named_const.Statement Cert.KernelIdeal.κ "dead" .f32 0xC2DC0000#32 ⊥
  ∧ IdealRules.named_const.Statement Cert.KernelIdeal.κ "unseen" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v7)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v7) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v11) = v0 c
          ∧ r.2.mem ((c.tc : Thread Cert.Reference27Ideal.nD Cert.Reference27Ideal.τ).loc Cert.Reference27Ideal.main_v20) = v1 c
          ∧ r.2.mem ((c.tc : Thread Cert.Reference27Ideal.nD Cert.Reference27Ideal.τ).loc Cert.Reference27Ideal.main_v17) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v34) = v0 c
          ∧ r.2.mem ((c.tc : Thread Cert.Reference28Ideal.nD Cert.Reference28Ideal.τ).loc Cert.Reference28Ideal.main_v36) = v1 c
          ∧ r.2.mem ((c.tc : Thread Cert.Reference28Ideal.nD Cert.Reference28Ideal.τ).loc Cert.Reference28Ideal.main_v17) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_2)) (v1 : (c : Dev Cert.Kernel33Ideal.nD) → Buf (Elt Ideal) ((c.tc : Thread Cert.Kernel33Ideal.nD Cert.Kernel33Ideal.τ).loc Cert.Kernel33Ideal.main_v0_0)) (v2 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_2) = v0 c
          ∧ r.2.mem ((c.tc : Thread Cert.Kernel33Ideal.nD Cert.Kernel33Ideal.τ).loc Cert.Kernel33Ideal.main_v0_0) = v1 c
          ∧ r.2.mem ((c.tc : Thread Cert.Kernel33Ideal.nD Cert.Kernel33Ideal.τ).loc Cert.Kernel33Ideal.main_v0_1) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v15) = v0 c
          ∧ r.2.mem ((c.tc : Thread Cert.Reference33Ideal.nD Cert.Reference33Ideal.τ).loc Cert.Reference33Ideal.main_v14) = v1 c
          ∧ r.2.mem ((c.tc : Thread Cert.Reference33Ideal.nD Cert.Reference33Ideal.τ).loc Cert.Reference33Ideal.main_v16) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg1) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v19) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v38) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .f32) : IVec S4096x1024 1 × IVec S4096x1024 1 × IVec S4096x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  (main_v3, main_v7, main_v11, main_v14)
-- ==== Pre_finite2.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4096x2816 .f32 := (extf .f32 · bitsLt_bf16_f32) main_arg2
  let main_v9 : FVec F S2x4096x2816 .f32 := Host.absf main_v8
  let main_cst_1 : FVec F S_ .f32 := constant S_ .f32 0x7F800000#32
  let main_v10 : FVec F S2x4096x2816 .f32 := broadcastInDim S2x4096x2816 ![] bcast_S_S2x4096x2816 main_cst_1
  let main_v11 : IVec S2x4096x2816 1 := cmpf .olt main_v9 main_v10
  (main_v3, main_v7, main_v11)
-- ==== Kernel.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096x15 : Shape := ⟨3, ![16, 4096, 15]⟩
abbrev S16x4096x16 : Shape := ⟨3, ![16, 4096, 16]⟩
abbrev S16 : Shape := ⟨1, ![16]⟩
abbrev S1x16 : Shape := ⟨2, ![1, 16]⟩
abbrev S4096x16 : Shape := ⟨2, ![4096, 16]⟩
abbrev S16x4096x128 : Shape := ⟨3, ![16, 4096, 128]⟩
abbrev S8x2x4096x128 : Shape := ⟨4, ![8, 2, 4096, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S256x128 : Shape := ⟨2, ![256, 128]⟩
abbrev S4096x128 : Shape := ⟨2, ![4096, 128]⟩
abbrev S1x2x256x128 : Shape := ⟨4, ![1, 2, 256, 128]⟩
abbrev S1x128 : Shape := ⟨2, ![1, 128]⟩
abbrev S1x1x256x128 : Shape := ⟨4, ![1, 1, 256, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 97
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x1024, .f32⟩
  | .hbm, ⟨8, _⟩ => ⟨S4096x16x64, .f32⟩
  | .hbm, ⟨9, _⟩ => ⟨S16x4096x64, .f32⟩
  | .hbm, ⟨10, _⟩ => ⟨S16x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .i1⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S_, .f32⟩
  | .hbm, ⟨36, _⟩ => ⟨S16x4096x4096, .i1⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S_, .f32⟩
  | .hbm, ⟨41, _⟩ => ⟨S16x4096x4096, .f32⟩
  | .hbm, ⟨42, _⟩ => ⟨S16x4096x15, .f32⟩
  | .hbm, ⟨43, _⟩ => ⟨S_, .i32⟩
  | .hbm, ⟨44, _⟩ => ⟨S_, .f32⟩
  | .hbm, ⟨45, _⟩ => ⟨S16x4096x16, .f32⟩
  | .hbm, ⟨46, _⟩ => ⟨S16, .i32⟩
  | .hbm, ⟨47, _⟩ => ⟨S1x16, .i32⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x16, .i32⟩
  | .hbm, ⟨68, _⟩ => ⟨S4096x16, .i32⟩
  | .hbm, ⟨69, _⟩ => ⟨S4096x16, .i1⟩
  | .hbm, ⟨70, _⟩ => ⟨S_, .f32⟩
  | .hbm, ⟨71, _⟩ => ⟨S_, .f32⟩
  | .hbm, ⟨72, _⟩ => ⟨S16x4096x16, .i1⟩
  | .hbm, ⟨73, _⟩ => ⟨S16x4096x16, .f32⟩
  | .hbm, ⟨74, _⟩ => ⟨S16x4096x16, .f32⟩
  | .hbm, ⟨75, _⟩ => ⟨S_, .f32⟩
  | .hbm, ⟨76, _⟩ => ⟨S_, .f32⟩
  | .hbm, ⟨77, _⟩ => ⟨S16x4096x128, .f32⟩
  | .hbm, ⟨78, _⟩ => ⟨S8x2x4096x128, .f32⟩
  | .hbm, ⟨79, _⟩ => ⟨S256, .i32⟩
  | .hbm, ⟨80, _⟩ => ⟨S256x1, .i32⟩
  | .hbm, ⟨81, _⟩ => ⟨S1x256, .i32⟩
  | .hbm, ⟨82, _⟩ => ⟨S256x256, .i32⟩
  | .hbm, ⟨83, _⟩ => ⟨S256x256, .i32⟩
  | .hbm, ⟨84, _⟩ => ⟨S256x256, .i1⟩
  | .hbm, ⟨85, _⟩ => ⟨S256x1, .i32⟩
  | .hbm, ⟨86, _⟩ => ⟨S1x256, .i32⟩
  | .hbm, ⟨87, _⟩ => ⟨S256x256, .i32⟩
  | .hbm, ⟨88, _⟩ => ⟨S256x256, .i32⟩
  | .hbm, ⟨89, _⟩ => ⟨S256x256, .i1⟩
  | .hbm, ⟨90, _⟩ => ⟨S1x256x256, .i1⟩
  | .hbm, ⟨91, _⟩ => ⟨S1x256x256, .i1⟩
  | .hbm, ⟨92, _⟩ => ⟨S2x256x256, .i1⟩
  | .hbm, ⟨93, _⟩ => ⟨S2x256x256, .bf16⟩
  | .hbm, ⟨94, _⟩ => ⟨S4096x1024, .f32⟩
  | .hbm, ⟨95, _⟩ => ⟨S4096x1024, .f32⟩
  | .hbm, ⟨96, _⟩ => ⟨S4096x1024, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x2x256x128, .f32⟩
  | .local _ .vmem, ⟨7, _⟩ => ⟨S1x2x256x128, .f32⟩
  | .local _ .vmem, ⟨8, _⟩ => ⟨S256x128, .f32⟩
  | .local _ .vmem, ⟨9, _⟩ => ⟨S256x128, .f32⟩
  | .local _ .vmem, ⟨10, _⟩ => ⟨S2x256x256, .bf16⟩
  | .local _ .vmem, ⟨11, _⟩ => ⟨S256x128, .f32⟩
  | .local _ .vmem, ⟨12, _⟩ => ⟨S256x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_call3_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_0 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_v5 : Ref sig .tc := ⟨.hbm, 54, rfl⟩
abbrev main_call4_v6 : Ref sig .tc := ⟨.hbm, 55, rfl⟩
abbrev main_call4_v7 : Ref sig .tc := ⟨.hbm, 56, rfl⟩
abbrev main_call4_v8 : Ref sig .tc := ⟨.hbm, 57, rfl⟩
abbrev main_call4_c : Ref sig .tc := ⟨.hbm, 58, rfl⟩
abbrev main_call4_v9 : Ref sig .tc := ⟨.hbm, 59, rfl⟩
abbrev main_call4_v10 : Ref sig .tc := ⟨.hbm, 60, rfl⟩
abbrev main_call4_v11 : Ref sig .tc := ⟨.hbm, 61, rfl⟩
abbrev main_call4_c_0 : Ref sig .tc := ⟨.hbm, 62, rfl⟩
abbrev main_call4_v12 : Ref sig .tc := ⟨.hbm, 63, rfl⟩
abbrev main_call4_v13 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_v26 : Ref sig .tc := ⟨.hbm, 74, rfl⟩
abbrev main_cst_2 : Ref sig .tc := ⟨.hbm, 75, rfl⟩
abbrev main_call6_v0 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44_0 : Ref sig .tc := ⟨.hbm, 94, rfl⟩
abbrev main_v44_1 : Ref sig .tc := ⟨.hbm, 95, rfl⟩
abbrev main_v44_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

@[reducible] def k0_t1_loop (i : grid0.Coords) (v57 : BitVec 32) : Scf.Loop 32 :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let v60 : BitVec 32 := Scalar.subi v35 v58
  let c1_i32_21 : BitVec 32 := 1#32
  let v62 : BitVec 32 := Scalar.divsi v60 c1_i32_21
  let v63 : BitVec 32 := Scalar.muli v62 c1_i32_21
  let v64 : BitVec 32 := Scalar.addi v58 v63
  let c1_i32_22 : BitVec 32 := 1#32
  ⟨v58, v64, c1_i32_22⟩

def k0_mult1 (i : grid0.Coords) (v57 : BitVec 32) (k0_t1 : Fin (k0_t1_loop i v57).trips) : BitVec 32 :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let c1_i32_22 : BitVec 32 := 1#32
  let arg11 : BitVec 32 := Scf.iv v58 c1_i32_22 k0_t1
  let c256_i32 : BitVec 32 := 256#32
  let v67 : BitVec 32 := Scalar.muli arg11 c256_i32
  v67
def k0_off1 (i : grid0.Coords) (v57 : BitVec 32) (k0_t1 : Fin (k0_t1_loop i v57).trips) : Fin 2 → Nat :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let c1_i32_22 : BitVec 32 := 1#32
  let arg11 : BitVec 32 := Scf.iv v58 c1_i32_22 k0_t1
  let c256_i32 : BitVec 32 := 256#32
  let v67 : BitVec 32 := Scalar.muli arg11 c256_i32
  let v68 : BitVec 32 := v67
  let v69 : Index := Scalar.indexCast v68
  let c0_24 : Index := 0#32
  ![v69.toNat, 0]
@[reducible] def k0_t2_loop (i : grid0.Coords) (v57 : BitVec 32) : Scf.Loop 32 :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let v60 : BitVec 32 := Scalar.subi v35 v58
  let c1_i32_21 : BitVec 32 := 1#32
  let v62 : BitVec 32 := Scalar.divsi v60 c1_i32_21
  let v63 : BitVec 32 := Scalar.muli v62 c1_i32_21
  let v64 : BitVec 32 := Scalar.addi v58 v63
  let v61 : BitVec 32 := Scalar.addi v58 v60
  let c1_i32_23 : BitVec 32 := 1#32
  ⟨v64, v61, c1_i32_23⟩
def k0_mult2 (i : grid0.Coords) (v57 : BitVec 32) (k0_t2 : Fin (k0_t2_loop i v57).trips) : BitVec 32 :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let v60 : BitVec 32 := Scalar.subi v35 v58
  let c1_i32_21 : BitVec 32 := 1#32
  let v62 : BitVec 32 := Scalar.divsi v60 c1_i32_21
  let v63 : BitVec 32 := Scalar.muli v62 c1_i32_21
  let v64 : BitVec 32 := Scalar.addi v58 v63
  let c1_i32_23 : BitVec 32 := 1#32
  let arg11 : BitVec 32 := Scf.iv v64 c1_i32_23 k0_t2
  let c256_i32 : BitVec 32 := 256#32
  let v67 : BitVec 32 := Scalar.muli arg11 c256_i32
  v67
def k0_off2 (i : grid0.Coords) (v57 : BitVec 32) (k0_t2 : Fin (k0_t2_loop i v57).trips) : Fin 2 → Nat :=
  let arg1 : BitVec 32 := BitVec.ofNat 32 (i 1).val
  let c1_i32 : BitVec 32 := 1#32
  let v34 : BitVec 32 := Scalar.addi arg1 c1_i32
  let c1_i32_8 : BitVec 32 := 1#32
  let v35 : BitVec 32 := Scalar.muli v34 c1_i32_8
  let v58 : BitVec 32 := Scalar.minsi v57 v35
  let v60 : BitVec 32 := Scalar.subi v35 v58
  let c1_i32_21 : BitVec 32 := 1#32
  let v62 : BitVec 32 := Scalar.divsi v60 c1_i32_21
  let v63 : BitVec 32 := Scalar.muli v62 c1_i32_21
  let v64 : BitVec 32 := Scalar.addi v58 v63
  let c1_i32_23 : BitVec 32 := 1#32
  let arg11 : BitVec 32 := Scf.iv v64 c1_i32_23 k0_t2
  let c256_i32 : BitVec 32 := 256#32
  let v67 : BitVec 32 := Scalar.muli arg11 c256_i32
  let v68 : BitVec 32 := v67
  let v69 : Index := Scalar.indexCast v68
  let c0_24 : Index := 0#32
  ![v69.toNat, 0]

def k0_chk1 (i : grid0.Coords) (v57 : BitVec 32) : Prop :=
  ((k0_t1_loop i v57).OK) ∧
  (∀ k0_t1 : Fin (k0_t1_loop i v57).trips, 256 ∣ (k0_mult1 i v57 k0_t1).toNat) ∧
  (∀ k0_t1 : Fin (k0_t1_loop i v57).trips, ∀ a, (k0_off1 i v57 k0_t1) a + S256x128.size a ≤ S4096x128.size a) ∧
  ((k0_t2_loop i v57).OK) ∧
  (∀ k0_t2 : Fin (k0_t2_loop i v57).trips, 256 ∣ (k0_mult2 i v57 k0_t2).toNat) ∧
  (∀ k0_t2 : Fin (k0_t2_loop i v57).trips, ∀ a, (k0_off2 i v57 k0_t2) a + S256x128.size a ≤ S4096x128.size a)
theorem k0_t1_ok : ∀ (i : grid0.Coords) (v57 : BitVec 32) (k0_hw1 : k0_chk1 i v57), (k0_t1_loop i v57).OK := fun i v57 k0_hw1 => k0_hw1.1
theorem k0_mult1_dvd : ∀ (i : grid0.Coords) (v57 : BitVec 32) (k0_hw1 : k0_chk1 i v57) (k0_t1 : Fin (k0_t1_loop i v57).trips), 256 ∣ (k0_mult1 i v57 k0_t1).toNat := fun i v57 k0_hw1 k0_t1 => k0_hw1.2.1 k0_t1
theorem k0_off1_inb : ∀ (i : grid0.Coords) (v57 : BitVec 32) (k0_hw1 : k0_chk1 i v57) (k0_t1 : Fin (k0_t1_loop i v57).trips), ∀ a, (k0_off1 i v57 k0_t1) a + S256x128.size a ≤ S4096x128.size a := fun i v57 k0_hw1 k0_t1 => k0_hw1.2.2.1 k0_t1
theorem k0_t2_ok : ∀ (i : grid0.Coords) (v57 : BitVec 32) (k0_hw1 : k0_chk1 i v57), (k0_t2_loop i v57).OK := fun i v57 k0_hw1 => k0_hw1.2.2.2.1
theorem k0_mult2_dvd : ∀ (i : grid0.Coords) (v57 : BitVec 32) (k0_hw1 : k0_chk1 i v57) (k0_t2 : Fin (k0_t2_loop i v57).trips), 256 ∣ (k0_mult2 i v57 k0_t2).toNat := fun i v57 k0_hw1 k0_t2 => k0_hw1.2.2.2.2.1 k0_t2
theorem k0_off2_inb : ∀ (i : grid0.Coords) (v57 : BitVec 32) (k0_hw1 : k0_chk1 i v57) (k0_t2 : Fin (k0_t2_loop i v57).trips), ∀ a, (k0_off2 i v57 k0_t2) a + S256x128.size a ≤ S4096x128.size a := fun i v57 k0_hw1 k0_t2 => k0_hw1.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "dead" => some ⊥
  | "unseen" => some ⊥
  | _ => none
-- ==== ReferenceIdeal.lean ====
abbrev S4096x1024 : Shape := ⟨2, ![4096, 1024]⟩
abbrev S4096x16x64 : Shape := ⟨3, ![4096, 16, 64]⟩
abbrev S4096 : Shape := ⟨1, ![4096]⟩
abbrev S16x4096x4096 : Shape := ⟨3, ![16, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x64x4096 : Shape := ⟨3, ![16, 64, 4096]⟩
abbrev S16x4096x64 : Shape := ⟨3, ![16, 4096, 64]⟩

abbrev nBuf : Space → Nat
  | .hbm => 168
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .f32⟩
  | 4 => ⟨S4096x1024, .f32⟩
  | 5 => ⟨S4096x16x64, .f32⟩
  | 6 => ⟨S4096x1024, .f32⟩
  | 7 => ⟨S4096x16x64, .f32⟩
  | 8 => ⟨S4096x1024, .f32⟩
  | 9 => ⟨S4096x16x64, .f32⟩
  | 10 => ⟨S4096, .i32⟩
  | 11 => ⟨S16x4096x4096, .f32⟩
  | 12 => ⟨S1x4096, .i32⟩
  | 13 => ⟨S4096x1, .i32⟩
  | 14 => ⟨S4096x4096, .i32⟩
  | 15 => ⟨S4096x4096, .i32⟩
  | 16 => ⟨S4096x4096, .i1⟩
  | 17 => ⟨S16x4096x4096, .f32⟩
  | 18 => ⟨S_, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .i1⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S_, .f32⟩
  | 33 => ⟨S16x4096x4096, .f32⟩
  | 34 => ⟨S16x4096x4096, .i1⟩
  | 35 => ⟨S_, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S16x4096x4096, .f32⟩
  | 45 => ⟨S16x4096x4096, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S16x4096x4096, .f32⟩
  | 54 => ⟨S16x4096x4096, .i1⟩
  | 55 => ⟨S_, .f32⟩
  | 56 => ⟨S16x4096x4096, .f32⟩
  | 57 => ⟨S16x4096x4096, .f32⟩
  | 58 => ⟨S16x4096x4096, .f32⟩
  | 59 => ⟨S16x4096x4096, .f32⟩
  | 60 => ⟨S16x4096x4096, .f32⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S16x4096x4096, .f32⟩
  | 72 => ⟨S16x4096x4096, .i1⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .f32⟩
  | 78 => ⟨S16x4096x4096, .f32⟩
  | 79 => ⟨S16x4096x4096, .f32⟩
  | 80 => ⟨S16x4096x4096, .f32⟩
  | 81 => ⟨S_, .f32⟩
  | 82 => ⟨S16x4096x4096, .f32⟩
  | 83 => ⟨S16x4096x4096, .i1⟩
  | 84 => ⟨S_, .f32⟩
  | 85 => ⟨S16x4096x4096, .f32⟩
  | 86 => ⟨S16x4096x4096, .f32⟩
  | 87 => ⟨S_, .f32⟩
  | 88 => ⟨S16x4096x4096, .f32⟩
  | 89 => ⟨S16x4096x4096, .i1⟩
  | 90 => ⟨S_, .f32⟩
  | 91 => ⟨S16x4096x4096, .f32⟩
  | 92 => ⟨S16x4096x4096, .f32⟩
  | 93 => ⟨S16x4096x4096, .f32⟩
  | 94 => ⟨S16x4096x4096, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S16x4096x4096, .f32⟩
  | 103 => ⟨S16x4096x4096, .i1⟩
  | 104 => ⟨S_, .f32⟩
  | 105 => ⟨S16x4096x4096, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S16x4096x4096, .f32⟩
  | 112 => ⟨S16x4096x4096, .f32⟩
  | 113 => ⟨S16x4096x4096, .f32⟩
  | 114 => ⟨S_, .f32⟩
  | 115 => ⟨S_, .f32⟩
  | 116 => ⟨S16x4096x4096, .i1⟩
  | 117 => ⟨S16x4096x4096, .f32⟩
  | 118 => ⟨S16x4096x4096, .f32⟩
  | 119 => ⟨S_, .f32⟩
  | 120 => ⟨S16x4096x4096, .f32⟩
  | 121 => ⟨S_, .f32⟩
  | 122 => ⟨S_, .f32⟩
  | 123 => ⟨S16x4096x4096, .f32⟩
  | 124 => ⟨S16x4096x4096, .f32⟩
  | 125 => ⟨S16x4096x4096, .f32⟩
  | 126 => ⟨S16x4096x4096, .f32⟩
  | 127 => ⟨S_, .f32⟩
  | _ => ⟨S4096x1024, .bf16⟩

abbrev hbmTy0_1 (i : Nat) : BufTy := match i % 128 with
  | 0 => ⟨S_, .f32⟩
  | 1 => ⟨S16x4096x4096, .i1⟩
  | 2 => ⟨S16x4096x4096, .f32⟩
  | 3 => ⟨S16x4096x4096, .f32⟩
  | 4 => ⟨S_, .f32⟩
  | 5 => ⟨S16x4096x4096, .f32⟩
  | 6 => ⟨S16x64x4096, .f32⟩
  | 7 => ⟨S4096x16x64, .f32⟩
  | 8 => ⟨S4096x16x64, .f32⟩
  | 9 => ⟨S16x64x4096, .f32⟩
  | 10 => ⟨S16x4096x4096, .f32⟩
  | 11 => ⟨S16x64x4096, .f32⟩
  | 12 => ⟨S4096x16x64, .f32⟩
  | 13 => ⟨S_, .f32⟩
  | 14 => ⟨S16x4096x4096, .f32⟩
  | 15 => ⟨S16x4096x4096, .f32⟩
  | 16 => ⟨S16x4096x4096, .f32⟩
  | 17 => ⟨S16x4096x4096, .f32⟩
  | 18 => ⟨S_, .f32⟩
  | 19 => ⟨S_, .f32⟩
  | 20 => ⟨S16x4096x4096, .f32⟩
  | 21 => ⟨S16x4096x4096, .f32⟩
  | 22 => ⟨S_, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x64, .f32⟩
  | 34 => ⟨S4096x16x64, .f32⟩
  | 35 => ⟨S16x4096x64, .f32⟩
  | 36 => ⟨S4096x16x64, .f32⟩
  | 37 => ⟨S4096x1024, .f32⟩
  | 38 => ⟨S4096x1024, .f32⟩
  | 39 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v13_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v13_2 : Ref sig .tc := ⟨.hbm, 63, rfl⟩
abbrev main_v13_0 : Ref sig .tc := ⟨.hbm, 64, rfl⟩
abbrev main_v14 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1_0 : Ref sig .tc := ⟨.hbm, 80, rfl⟩
abbrev main_call1_call0_cst_0 : Ref sig .tc := ⟨.hbm, 81, rfl⟩
abbrev main_call1_call0_v13 : Ref sig .tc := ⟨.hbm, 82, rfl⟩
abbrev main_call1_call0_v14 : Ref sig .tc := ⟨.hbm, 83, rfl⟩
abbrev main_call1_call0_cst_1 : Ref sig .tc := ⟨.hbm, 84, rfl⟩
abbrev main_call1_call0_v15 : Ref sig .tc := ⟨.hbm, 85, rfl⟩
abbrev main_call1_call0_v16 : Ref sig .tc := ⟨.hbm, 86, rfl⟩
abbrev main_call1_call0_cst_2 : Ref sig .tc := ⟨.hbm, 87, rfl⟩
abbrev main_call1_call0_v17 : Ref sig .tc := ⟨.hbm, 88, rfl⟩
abbrev main_call1_call0_v18 : Ref sig .tc := ⟨.hbm, 89, rfl⟩
abbrev main_call1_call0_cst_3 : Ref sig .tc := ⟨.hbm, 90, rfl⟩
abbrev main_call1_call0_v19 : Ref sig .tc := ⟨.hbm, 91, rfl⟩
abbrev main_call1_call0_v20 : Ref sig .tc := ⟨.hbm, 92, rfl⟩
abbrev main_call1_call0_v21 : Ref sig .tc := ⟨.hbm, 93, rfl⟩
abbrev main_v15_1 : Ref sig .tc := ⟨.hbm, 94, rfl⟩
abbrev main_call1_call0_cst_4 : Ref sig .tc := ⟨.hbm, 95, rfl⟩
abbrev main_call1_call0_cst_5 : Ref sig .tc := ⟨.hbm, 96, rfl⟩
abbrev main_call1_call0_v23 : Ref sig .tc := ⟨.hbm, 97, rfl⟩
abbrev main_call1_call0_cst_6 : Ref sig .tc := ⟨.hbm, 98, rfl⟩
abbrev main_call1_call0_cst_7 : Ref sig .tc := ⟨.hbm, 99, rfl⟩
abbrev main_call1_call0_v24 : Ref sig .tc := ⟨.hbm, 100, rfl⟩
abbrev main_call1_call0_cst_8 : Ref sig .tc := ⟨.hbm, 101, rfl⟩
abbrev main_call1_call0_v25 : Ref sig .tc := ⟨.hbm, 102, rfl⟩
abbrev main_call1_call0_v26 : Ref sig .tc := ⟨.hbm, 103, rfl⟩
abbrev main_call1_call0_cst_9 : Ref sig .tc := ⟨.hbm, 104, rfl⟩
abbrev main_call1_call0_v27 : Ref sig .tc := ⟨.hbm, 105, rfl⟩
abbrev main_call1_call0_v28 : Ref sig .tc := ⟨.hbm, 106, rfl⟩
abbrev main_call1_call0_v29 : Ref sig .tc := ⟨.hbm, 107, rfl⟩
abbrev main_call1_call0_v30 : Ref sig .tc := ⟨.hbm, 108, rfl⟩
abbrev main_call1_call0_v31 : Ref sig .tc := ⟨.hbm, 109, rfl⟩
abbrev main_call1_call0_cst_10 : Ref sig .tc := ⟨.hbm, 110, rfl⟩
abbrev main_call1_call0_v32 : Ref sig .tc := ⟨.hbm, 111, rfl⟩
abbrev main_v15_2 : Ref sig .tc := ⟨.hbm, 112, rfl⟩
abbrev main_v15_0 : Ref sig .tc := ⟨.hbm, 113, rfl⟩
abbrev main_cst : Ref sig .tc := ⟨.hbm, 114, rfl⟩
abbrev main_call2_v0 : Ref sig .tc := ⟨.hbm, 115, rfl⟩
abbrev main_v16_1 : Ref sig .tc := ⟨.hbm, 116, rfl⟩
abbrev main_call2_v2 : Ref sig .tc := ⟨.hbm, 117, rfl⟩
abbrev main_v16_0 : Ref sig .tc := ⟨.hbm, 118, rfl⟩
abbrev main_call2_cst : Ref sig .tc := ⟨.hbm, 119, rfl⟩
abbrev main_v16_2 : Ref sig .tc := ⟨.hbm, 120, rfl⟩
abbrev main_call3_cst : Ref sig .tc := ⟨.hbm, 121, rfl⟩
abbrev main_call3_v0 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_cst_0 : Ref sig .tc := ⟨.hbm, 127, rfl⟩
abbrev main_call4_v0 : Ref sig .tc := ⟨.hbm, 128, rfl⟩
abbrev main_v21_1 : Ref sig .tc := ⟨.hbm, 129, rfl⟩
abbrev main_call4_v2 : Ref sig .tc := ⟨.hbm, 130, rfl⟩
abbrev main_v21_0 : Ref sig .tc := ⟨.hbm, 131, rfl⟩
abbrev main_call4_cst : Ref sig .tc := ⟨.hbm, 132, rfl⟩
abbrev main_v21_2 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_cst : Ref sig .tc := ⟨.hbm, 141, rfl⟩
abbrev main_call5_v0 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_call6_cst : Ref sig .tc := ⟨.hbm, 146, rfl⟩
abbrev main_call6_v0 : Ref sig .tc := ⟨.hbm, 147, rfl⟩
abbrev main_v32 : Ref sig .tc := ⟨.hbm, 148, rfl⟩
abbrev main_v33 : Ref sig .tc := ⟨.hbm, 149, rfl⟩
abbrev main_call7_cst : Ref sig .tc := ⟨.hbm, 150, rfl⟩
abbrev main_call7_v0 : Ref sig .tc := ⟨.hbm, 151, rfl⟩
abbrev main_v34 : Ref sig .tc := ⟨.hbm, 152, rfl⟩
abbrev main_call8_v0 : Ref sig .tc := ⟨.hbm, 153, rfl⟩
abbrev main_call8_v1 : Ref sig .tc := ⟨.hbm, 154, rfl⟩
abbrev main_v35 : Ref sig .tc := ⟨.hbm, 155, rfl⟩
abbrev main_v36 : Ref sig .tc := ⟨.hbm, 156, rfl⟩
abbrev main_call9_v0 : Ref sig .tc := ⟨.hbm, 157, rfl⟩
abbrev main_call9_v1 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2816x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x4096x2816, .f32⟩
  | .hbm, ⟨29, _⟩ => ⟨S_, .f32⟩
  | .hbm, ⟨30, _⟩ => ⟨S2x4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S_, .f32⟩
  | .hbm, ⟨37, _⟩ => ⟨S2x4096x2816, .f32⟩
  | .hbm, ⟨38, _⟩ => ⟨S2x4096x2816, .f32⟩
  | .hbm, ⟨39, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel3.lean ====
abbrev S2x4096x2816 : Shape := ⟨3, ![2, 4096, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x2816 : Shape := ⟨3, ![2, 4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S1024x5632, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .f32⟩
  | .hbm, ⟨12, _⟩ => ⟨S1x4096x2816, .f32⟩
  | .hbm, ⟨13, _⟩ => ⟨S4096x2816, .f32⟩
  | .hbm, ⟨14, _⟩ => ⟨S1x4096x2816, .f32⟩
  | .hbm, ⟨15, _⟩ => ⟨S4096x2816, .f32⟩
  | .hbm, ⟨16, _⟩ => ⟨S_, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel4.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .f32⟩
  | .hbm, ⟨12, _⟩ => ⟨S1x4096x2816, .f32⟩
  | .hbm, ⟨13, _⟩ => ⟨S4096x2816, .f32⟩
  | .hbm, ⟨14, _⟩ => ⟨S1x4096x2816, .f32⟩
  | .hbm, ⟨15, _⟩ => ⟨S4096x2816, .f32⟩
  | .hbm, ⟨16, _⟩ => ⟨S_, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S1024x4x1408, .f32⟩
  | .hbm, ⟨24, _⟩ => ⟨S4x1024x1408, .f32⟩
  | .hbm, ⟨25, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S2x4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel7.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S4096x2816 : Shape := ⟨2, ![4096, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x3072 : Shape := ⟨2, ![4096, 3072]⟩
abbrev S1024x3072 : Shape := ⟨2, ![1024, 3072]⟩
abbrev S1024x4x768 : Shape := ⟨3, ![1024, 4, 768]⟩
abbrev S4x1024x768 : Shape := ⟨3, ![4, 1024, 768]⟩
abbrev S4096x1024 : Shape := ⟨2, ![4096, 1024]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S1024x4x768, .bf16⟩
  | .hbm, ⟨3, _⟩ => ⟨S4x1024x768, .bf16⟩
  | .hbm, ⟨4, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S1024x3072, .f32⟩
  | .hbm, ⟨3, _⟩ => ⟨S_, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x3072 : Shape := ⟨2, ![4096, 3072]⟩
abbrev S4x1024x768 : Shape := ⟨3, ![4, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x4096 : Shape := ⟨2, ![4096, 4096]⟩
abbrev S1024x4096 : Shape := ⟨2, ![1024, 4096]⟩
abbrev S4096x1024 : Shape := ⟨2, ![4096, 1024]⟩
abbrev S512x4096 : Shape := ⟨2, ![512, 4096]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x1024 : Shape := ⟨2, ![4096, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x3072 : Shape := ⟨2, ![4096, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x4x768, .bf16⟩
  | .hbm, ⟨3, _⟩ => ⟨S4x1024x768, .bf16⟩
  | .hbm, ⟨4, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x1024 : Shape := ⟨2, ![4096, 1024]⟩
abbrev S1024x4096 : Shape := ⟨2, ![1024, 4096]⟩
abbrev S1x4096 : Shape := ⟨2, ![1, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1x4096, .f32⟩
  | .hbm, ⟨3, _⟩ => ⟨S1024x4x1024, .bf16⟩
  | .hbm, ⟨4, _⟩ => ⟨S4x1024x1024, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1x4096, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x1024 : Shape := ⟨2, ![4096, 1024]⟩
abbrev S4096x2048 : Shape := ⟨2, ![4096, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .bf16⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S4096x2048 : Shape := ⟨2, ![4096, 2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S128x16 : Shape := ⟨2, ![128, 16]⟩
abbrev S128x16x128 : Shape := ⟨3, ![128, 16, 128]⟩
abbrev S128x2048 : Shape := ⟨2, ![128, 2048]⟩
abbrev S1x128x128 : Shape := ⟨3, ![1, 128, 128]⟩

abbrev nBuf : Space → Nat
  | .hbm => 25
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S_, .f32⟩
  | .hbm, ⟨16, _⟩ => ⟨S_, .f32⟩
  | .hbm, ⟨17, _⟩ => ⟨S16x128x128, .i1⟩
  | .hbm, ⟨18, _⟩ => ⟨S16x128x128, .f32⟩
  | .hbm, ⟨19, _⟩ => ⟨S16x128x128, .f32⟩
  | .hbm, ⟨20, _⟩ => ⟨S16x128x128, .bf16⟩
  | .hbm, ⟨21, _⟩ => ⟨S128x16, .f32⟩
  | .hbm, ⟨22, _⟩ => ⟨S128x16x128, .f32⟩
  | .hbm, ⟨23, _⟩ => ⟨S128x2048, .f32⟩
  | .hbm, ⟨24, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S16x128x128, .bf16⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S4096x2048 : Shape := ⟨2, ![4096, 2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S128x16 : Shape := ⟨2, ![128, 16]⟩
abbrev S32x128x16x128 : Shape := ⟨4, ![32, 128, 16, 128]⟩
abbrev S16x32x128x128 : Shape := ⟨4, ![16, 32, 128, 128]⟩
abbrev S1x128x16x1 : Shape := ⟨4, ![1, 128, 16, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S_, .f32⟩
  | .hbm, ⟨16, _⟩ => ⟨S_, .f32⟩
  | .hbm, ⟨17, _⟩ => ⟨S16x128x128, .i1⟩
  | .hbm, ⟨18, _⟩ => ⟨S16x128x128, .f32⟩
  | .hbm, ⟨19, _⟩ => ⟨S16x128x128, .f32⟩
  | .hbm, ⟨20, _⟩ => ⟨S4096x2048, .f32⟩
  | .hbm, ⟨21, _⟩ => ⟨S128x16, .f32⟩
  | .hbm, ⟨22, _⟩ => ⟨S32x128x16x128, .f32⟩
  | .hbm, ⟨23, _⟩ => ⟨S16x32x128x128, .f32⟩
  | .hbm, ⟨24, _⟩ => ⟨S32x128x16x128, .f32⟩
  | .hbm, ⟨25, _⟩ => ⟨S1x128x16x1, .f32⟩
  | .hbm, ⟨26, _⟩ => ⟨S32x128x16x128, .f32⟩
  | .hbm, ⟨27, _⟩ => ⟨S32x128x16x128, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== Kernel27.lean ====
abbrev S4096x2048 : Shape := ⟨2, ![4096, 2048]⟩
abbrev S16x128x128 : Shape := ⟨3, ![16, 128, 128]⟩
abbrev S128x2048 : Shape := ⟨2, ![128, 2048]⟩
abbrev S128x128 : Shape := ⟨2, ![128, 128]⟩
abbrev S1x128x128 : Shape := ⟨3, ![1, 128, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S16x128x128, .bf16⟩
  | .hbm, ⟨4, _⟩ => ⟨S128x2048, .f32⟩
  | .hbm, ⟨5, _⟩ => ⟨S4096x2048, .f32⟩
  | .hbm, ⟨6, _⟩ => ⟨S4096x2048, .f32⟩
  | .hbm, ⟨7, _⟩ => ⟨S16x128x128, .f32⟩
  | .hbm, ⟨8, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S16x128x128, .bf16⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S16x128x128, .f32⟩
  | .local _ .vmem, ⟨13, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference27Ideal.lean ====
abbrev S4096x2048 : Shape := ⟨2, ![4096, 2048]⟩
abbrev S16x128x128 : Shape := ⟨3, ![16, 128, 128]⟩
abbrev S128x2048 : Shape := ⟨2, ![128, 2048]⟩
abbrev S32x128x16x128 : Shape := ⟨4, ![32, 128, 16, 128]⟩
abbrev S16x32x128x128 : Shape := ⟨4, ![16, 32, 128, 128]⟩
abbrev S1x128x16x128 : Shape := ⟨4, ![1, 128, 16, 128]⟩
abbrev S_ : Shape := ⟨0, ![]⟩
abbrev S128x16x128 : Shape := ⟨3, ![128, 16, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S16x128x128, .bf16⟩
  | .hbm, ⟨4, _⟩ => ⟨S128x2048, .f32⟩
  | .hbm, ⟨5, _⟩ => ⟨S4096x2048, .f32⟩
  | .hbm, ⟨6, _⟩ => ⟨S16x128x128, .f32⟩
  | .hbm, ⟨7, _⟩ => ⟨S32x128x16x128, .f32⟩
  | .hbm, ⟨8, _⟩ => ⟨S16x32x128x128, .f32⟩
  | .hbm, ⟨9, _⟩ => ⟨S32x128x16x128, .f32⟩
  | .hbm, ⟨10, _⟩ => ⟨S1x128x16x128, .f32⟩
  | .hbm, ⟨11, _⟩ => ⟨S32x128x16x128, .f32⟩
  | .hbm, ⟨12, _⟩ => ⟨S32x128x16x128, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S32x128x16x128, .f32⟩
  | .hbm, ⟨18, _⟩ => ⟨S_, .f32⟩
  | .hbm, ⟨19, _⟩ => ⟨S128x16x128, .f32⟩
  | .hbm, ⟨20, _⟩ => ⟨S1x128x16x128, .f32⟩
  | .hbm, ⟨21, _⟩ => ⟨S128x2048, .f32⟩
  | .hbm, ⟨22, _⟩ => ⟨S16x32x128x128, .f32⟩
  | .hbm, ⟨23, _⟩ => ⟨S16x128x128, .f32⟩
  | .hbm, ⟨24, _⟩ => ⟨S16x32x128x128, .f32⟩
  | .hbm, ⟨25, _⟩ => ⟨S32x128x16x128, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel29.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S_, .f32⟩
  | .hbm, ⟨5, _⟩ => ⟨S4096x1024, .f32⟩
  | .hbm, ⟨6, _⟩ => ⟨S4096x128, .f32⟩
  | .hbm, ⟨7, _⟩ => ⟨S4096x128, .f32⟩
  | .hbm, ⟨8, _⟩ => ⟨S4096x1024, .f32⟩
  | .hbm, ⟨9, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel31.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S4096x1024, .bf16⟩
  | .local _ .vmem, ⟨1, _⟩ => ⟨S4096x128, .bf16⟩
  | .local _ .vmem, ⟨2, _⟩ => ⟨S1024x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel32.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S4096x1024 : Shape := ⟨2, ![4096, 1024]⟩
abbrev S8x128 : Shape := ⟨2, ![8, 128]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference33Ideal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel34.lean ====
abbrev S2048x256 : Shape := ⟨2, ![2048, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S4096x2048 : Shape := ⟨2, ![4096, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference35Ideal.lean ====
abbrev S4096x2048 : Shape := ⟨2, ![4096, 2048]⟩
abbrev S1x2048 : Shape := ⟨2, ![1, 2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x8x256, .f32⟩
  | .hbm, ⟨19, _⟩ => ⟨S4096x8x256, .f32⟩
  | .hbm, ⟨20, _⟩ => ⟨S_, .f32⟩
  | .hbm, ⟨21, _⟩ => ⟨S4096x8, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S_, .f32⟩
  | .hbm, ⟨27, _⟩ => ⟨S4096x8x1, .f32⟩
  | .hbm, ⟨28, _⟩ => ⟨S4096x8x1, .f32⟩
  | .hbm, ⟨29, _⟩ => ⟨S4096x8x1, .f32⟩
  | .hbm, ⟨30, _⟩ => ⟨S4096x8x256, .f32⟩
  | .hbm, ⟨31, _⟩ => ⟨S4096x8x256, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel36.lean ====
abbrev S4096x4096 : Shape := ⟨2, ![4096, 4096]⟩
abbrev S1x4096 : Shape := ⟨2, ![1, 4096]⟩
abbrev S512x4096 : Shape := ⟨2, ![512, 4096]⟩
abbrev S8x4096 : Shape := ⟨2, ![8, 4096]⟩
abbrev S520x4096 : Shape := ⟨2, ![520, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096x4096, .bf16⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S8x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .bf16⟩
  | .local _ .vmem, ⟨9, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S4096x4096 : Shape := ⟨2, ![4096, 4096]⟩
abbrev S1x4096 : Shape := ⟨2, ![1, 4096]⟩
abbrev S_ : Shape := ⟨0, ![]⟩
abbrev S3x4096 : Shape := ⟨2, ![3, 4096]⟩
abbrev S4099x4096 : Shape := ⟨2, ![4099, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S4096x4096, .f32⟩
  | .hbm, ⟨7, _⟩ => ⟨S_, .f32⟩
  | .hbm, ⟨8, _⟩ => ⟨S3x4096, .f32⟩
  | .hbm, ⟨9, _⟩ => ⟨S4099x4096, .f32⟩
  | .hbm, ⟨10, _⟩ => ⟨S_, .f32⟩
  | .hbm, ⟨11, _⟩ => ⟨S3x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4099x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4099x4096, .f32⟩
  | .hbm, ⟨37, _⟩ => ⟨S4099x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4099x4096, .f32⟩
  | .hbm, ⟨42, _⟩ => ⟨S4099x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4099x4096, .f32⟩
  | .hbm, ⟨47, _⟩ => ⟨S4099x4096, .f32⟩
  | .hbm, ⟨48, _⟩ => ⟨S3x4096, .f32⟩
  | .hbm, ⟨49, _⟩ => ⟨S4096x4096, .f32⟩
  | .hbm, ⟨50, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Printed.Count.lean ====
/-
  The counted word.  The body's sum over the lanes of a vector of zeros and ones,
  converted to a 32-bit word, is at most the number of lanes, 128: an
  add-reduction of small naturals is exact.
-/
module

public import proofs.«01_k».proof.Proof.Printed.Chk
public import proofs.«01_k».proof.Proof.Gen.Kernel.Skeleton
public import Idealize.ShloMosaic.Lib.NatWords
public import Idealize.ShloMosaic.PureOps.Ideal

@[expose] public section

noncomputable section

namespace Cert.Kernel.Sb

open Idealize.ShloMosaic Cert.Kernel Cert.Kernel.Gen

/-- The number of set lanes of `b`, as the body computes it: converted to floats, summed, converted back. -/
def countW (F : FTy → Type) [FloatOps F] (b : IVec S1x128 1) : BitVec 32 :=
  Scalar.fptosi (F := F) 32 (φ := .f32) (extractAt ![0, 0, 0] (shapeCast S1x1x1
    (multiReduction (F := F) .add [1, 2] S1 (shapeCast S1x1x128 (sitofp .f32 (extui 32 b natLt_1_32)) shapeCasts_S1x128_S1x1x128)
      0x00000000#32 reduces_S1x1x128_S1 (.inl rfl) rfl) shapeCasts_S1_S1x1x1) inpos_S1x1x1_p0_0_0)

/-- At the instance `F` no count exceeds the number of lanes. -/
def CountOk (F : FTy → Type) [FloatOps F] : Prop := ∀ b : IVec S1x128 1, (countW F b).toNat ≤ 128

theorem card_le (p : S1x1x128.Idx → Prop) [DecidablePred p] : (Finset.univ.filter p).card ≤ 128 := by
  refine (Finset.card_le_univ _).trans (le_of_eq ?_)
  simp [Shape.Idx, Fin.prod_univ_three, S1x1x128]

/-- The lanes of `b` as naturals, at the shape the reduction reads. -/
def lanes (b : IVec S1x128 1) : S1x1x128.Idx → ℕ :=
  fun i => (b (Shape.reshapeEquiv shapeCasts_S1x128_S1x1x128 i)).toNat

theorem lanes_le (b : IVec S1x128 1) (i) : lanes b i ≤ 1 := by
  have := (b (Shape.reshapeEquiv shapeCasts_S1x128_S1x1x128 i)).isLt
  unfold lanes
  omega

theorem sum_lanes_le (b : IVec S1x128 1) (p : S1x1x128.Idx → Prop) [DecidablePred p] :
    (Finset.univ.filter p).sum (lanes b) ≤ 128 :=
  (Finset.sum_le_card_nsmul _ _ 1 fun i _ => lanes_le b i).trans (by simpa using card_le p)

theorem countOk_bits : CountOk Bits := by
  intro b
  unfold countW extractAt shapeCast
  rw [Bits.multiReduction_add_nat [1, 2] reduces_S1x1x128_S1 _ _ (lanes b)]
  · have h := sum_lanes_le b (fun i => reduces_S1x1x128_S1.drop i = Shape.reshapeEquiv shapeCasts_S1_S1x1x1 fun a =>
      ⟨(![0, 0, 0] : Fin 3 → ℕ) a, inpos_S1x1x1_p0_0_0 a⟩)
    refine le_trans (le_of_eq ?_) h
    refine (congrArg BitVec.toNat (Bits.fptosi32_nat _ (lt_of_le_of_lt h (by norm_num)))).trans ?_
    exact (BitVec.toNat_ofNat _ _).trans (Nat.mod_eq_of_lt (lt_of_le_of_lt h (by norm_num)))
  · intro i _
    have hl := lanes_le b i
    have e : (BitVec.setWidth 32 (b (Shape.reshapeEquiv shapeCasts_S1x128_S1x1x128 i))).toNat = lanes b i := by
      unfold lanes
      rw [BitVec.toNat_setWidth]
      exact Nat.mod_eq_of_lt (lt_of_le_of_lt hl (by norm_num))
    have e2 := Bits.sitofp32_eq_f32OfNat (BitVec.setWidth 32 (b (Shape.reshapeEquiv shapeCasts_S1x128_S1x1x128 i)))
      le_rfl (by rw [e]; omega)
    rw [e] at e2
    exact (congrArg Bits.natOfF32? e2).trans (Bits.natOfF32?_f32OfNat _ (by omega))
  · exact lt_of_le_of_lt (sum_lanes_le b _) (by norm_num)

variable {F : FTy → Type} [FloatOps F]

theorem count_pay (h : CountOk F) (v35 : BitVec 32) (v37 : FVec F S256x128 .f32) (v40 : Vec F S1x1x256x128 .f32) :
    (Scalar.fptosi 32 (k0_pay1 v35 v37 v40)).toNat ≤ 128 := h _

end Cert.Kernel.Sb

end
-- ==== Proof.Chk.lean ====
/-
  The loop bounds of the kernel's body.  The body sums a vector of zeros and ones, converts the sum to
  a 32-bit word `v57` and starts its loop over the key blocks at `min v57 (i + 1)`.  Here: whenever that
  word is at most 128 (the number of lanes), the loop is well formed and all its rectangles lie inside the
  key and value blocks.
-/
module

public import proofs.«01_k».proof.Proof.Gen.KernelIdeal

@[expose] public section

namespace Cert.KernelIdeal.Sb

open Idealize.ShloMosaic Cert.KernelIdeal

/-- The number of key blocks a query block sees, as a word. -/
abbrev nkbW (n : ℕ) : BitVec 32 := Scalar.muli (Scalar.addi (BitVec.ofNat 32 n) 1#32) 1#32

/-- The main loop, from the word `w` on. -/
abbrev loop1 (n : ℕ) (w : BitVec 32) : Scf.Loop 32 :=
  ⟨w, Scalar.addi w (Scalar.muli (Scalar.divsi (Scalar.subi (nkbW n) w) 1#32) 1#32), 1#32⟩

/-- The remainder loop. -/
abbrev loop2 (n : ℕ) (w : BitVec 32) : Scf.Loop 32 :=
  ⟨Scalar.addi w (Scalar.muli (Scalar.divsi (Scalar.subi (nkbW n) w) 1#32) 1#32), Scalar.addi w (Scalar.subi (nkbW n) w), 1#32⟩

/-- The first row of the key block of a trip. -/
abbrev rowW (l : Scf.Loop 32) (k : Fin l.trips) : BitVec 32 := Scalar.muli (Scf.iv l.lb 1#32 k) 256#32

/-- The side condition over the word the loop starts at. -/
def chkW (n : ℕ) (w : BitVec 32) : Prop :=
  (loop1 n w).OK ∧ (∀ k, 256 ∣ (rowW (loop1 n w) k).toNat)
  ∧ (∀ k, ∀ a : Fin 2, (![(Scalar.indexCast (rowW (loop1 n w) k)).toNat, 0] : Fin 2 → ℕ) a + S256x128.size a ≤ S4096x128.size a)
  ∧ (loop2 n w).OK ∧ (∀ k, 256 ∣ (rowW (loop2 n w) k).toNat)
  ∧ (∀ k, ∀ a : Fin 2, (![(Scalar.indexCast (rowW (loop2 n w) k)).toNat, 0] : Fin 2 → ℕ) a + S256x128.size a ≤ S4096x128.size a)

instance (n : ℕ) (w : BitVec 32) : Decidable (chkW n w) := by unfold chkW; infer_instance

theorem chk_iff (i : grid0.Coords) (v : BitVec 32) : k0_chk1 i v = chkW (i 1).val (Scalar.minsi v (nkbW (i 1).val)) := rfl

theorem chkW_dec : ∀ n : Fin 16, ∀ w : Fin 17, w.val ≤ n.val + 1 → chkW n.val (BitVec.ofNat 32 w.val) := by
  decide +kernel

/-- The smaller of a small word and the number of key blocks. -/
theorem minsi_eq (n : ℕ) (hn : n < 16) (v : BitVec 32) (h : v.toNat ≤ 128) :
    Scalar.minsi v (nkbW n) = BitVec.ofNat 32 (min v.toNat (n + 1)) := by
  have e : nkbW n = BitVec.ofNat 32 (n + 1) := by
    unfold nkbW Scalar.muli Scalar.addi IntOp.muli IntOp.addi
    apply BitVec.eq_of_toNat_eq; simp; try omega
  rw [e]
  unfold Scalar.minsi IntOp.minsi
  have hv : v.toInt = v.toNat := BitVec.toInt_eq_toNat_of_lt (by omega)
  have hw : (BitVec.ofNat 32 (n + 1)).toInt = (n + 1 : ℕ) := by
    rw [BitVec.toInt_eq_toNat_of_lt (by simp; omega)]; simp; omega
  by_cases hc : v.toNat < n + 1
  · have : v.slt (BitVec.ofNat 32 (n + 1)) = true := by rw [BitVec.slt_iff_toInt_lt, hv, hw]; exact_mod_cast hc
    rw [if_pos this, min_eq_left hc.le]; simp
  · have : ¬ v.slt (BitVec.ofNat 32 (n + 1)) = true := by rw [BitVec.slt_iff_toInt_lt, hv, hw]; exact_mod_cast hc
    rw [if_neg this, min_eq_right (by omega)]

/-- A word of at most 128 passes the body's check at every point. -/
theorem chk_of_le (i : grid0.Coords) (v : BitVec 32) (h : v.toNat ≤ 128) : k0_chk1 i v := by
  have hi : (i 1).val < 16 := (i 1).isLt
  rw [chk_iff, minsi_eq _ hi v h]
  exact chkW_dec ⟨_, hi⟩ ⟨min v.toNat ((i 1).val + 1), by omega⟩ (by simp)

end Cert.KernelIdeal.Sb
-- ==== Proof.Count.lean ====
/-
  The counted word.  At both instances the body's sum over the lanes of a vector of zeros and ones,
  converted to a 32-bit word, is at most the number of lanes, 128: over the machine's floats because an
  add-reduction of small naturals is exact, over the extended reals because it is the sum.
-/
module

public import proofs.«01_k».proof.Proof.Chk
public import proofs.«01_k».proof.Proof.Gen.KernelIdeal.Skeleton
public import Idealize.ShloMosaic.Lib.NatWords
public import Idealize.ShloMosaic.PureOps.Ideal

@[expose] public section

noncomputable section

namespace Cert.KernelIdeal.Sb

open Idealize.ShloMosaic Cert.KernelIdeal Cert.KernelIdeal.Gen

/-- The number of set lanes of `b`, as the body computes it: converted to floats, summed, converted back. -/
def countW (F : FTy → Type) [FloatOps F] (b : IVec S1x128 1) : BitVec 32 :=
  Scalar.fptosi (F := F) 32 (φ := .f32) (extractAt ![0, 0, 0] (shapeCast S1x1x1
    (multiReduction (F := F) .add [1, 2] S1 (shapeCast S1x1x128 (sitofp .f32 (extui 32 b natLt_1_32)) shapeCasts_S1x128_S1x1x128)
      0x00000000#32 reduces_S1x1x128_S1 (.inl rfl) rfl) shapeCasts_S1_S1x1x1) inpos_S1x1x1_p0_0_0)

/-- At the instance `F` no count exceeds the number of lanes. -/
def CountOk (F : FTy → Type) [FloatOps F] : Prop := ∀ b : IVec S1x128 1, (countW F b).toNat ≤ 128

theorem card_le (p : S1x1x128.Idx → Prop) [DecidablePred p] : (Finset.univ.filter p).card ≤ 128 := by
  refine (Finset.card_le_univ _).trans (le_of_eq ?_)
  simp [Shape.Idx, Fin.prod_univ_three, S1x1x128]

/-- The lanes of `b` as naturals, at the shape the reduction reads. -/
def lanes (b : IVec S1x128 1) : S1x1x128.Idx → ℕ :=
  fun i => (b (Shape.reshapeEquiv shapeCasts_S1x128_S1x1x128 i)).toNat

theorem lanes_le (b : IVec S1x128 1) (i) : lanes b i ≤ 1 := by
  have := (b (Shape.reshapeEquiv shapeCasts_S1x128_S1x1x128 i)).isLt
  unfold lanes
  omega

theorem sum_lanes_le (b : IVec S1x128 1) (p : S1x1x128.Idx → Prop) [DecidablePred p] :
    (Finset.univ.filter p).sum (lanes b) ≤ 128 :=
  (Finset.sum_le_card_nsmul _ _ 1 fun i _ => lanes_le b i).trans (by simpa using card_le p)

theorem countOk_bits : CountOk Bits := by
  intro b
  unfold countW extractAt shapeCast
  rw [Bits.multiReduction_add_nat [1, 2] reduces_S1x1x128_S1 _ _ (lanes b)]
  · have h := sum_lanes_le b (fun i => reduces_S1x1x128_S1.drop i = Shape.reshapeEquiv shapeCasts_S1_S1x1x1 fun a =>
      ⟨(![0, 0, 0] : Fin 3 → ℕ) a, inpos_S1x1x1_p0_0_0 a⟩)
    refine le_trans (le_of_eq ?_) h
    refine (congrArg BitVec.toNat (Bits.fptosi32_nat _ (lt_of_le_of_lt h (by norm_num)))).trans ?_
    exact (BitVec.toNat_ofNat _ _).trans (Nat.mod_eq_of_lt (lt_of_le_of_lt h (by norm_num)))
  · intro i _
    have hl := lanes_le b i
    have e : (BitVec.setWidth 32 (b (Shape.reshapeEquiv shapeCasts_S1x128_S1x1x128 i))).toNat = lanes b i := by
      unfold lanes
      rw [BitVec.toNat_setWidth]
      exact Nat.mod_eq_of_lt (lt_of_le_of_lt hl (by norm_num))
    have e2 := Bits.sitofp32_eq_f32OfNat (BitVec.setWidth 32 (b (Shape.reshapeEquiv shapeCasts_S1x128_S1x1x128 i)))
      le_rfl (by rw [e]; omega)
    rw [e] at e2
    exact (congrArg Bits.natOfF32? e2).trans (Bits.natOfF32?_f32OfNat _ (by omega))
  · exact lt_of_le_of_lt (sum_lanes_le b _) (by norm_num)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem toIntClamped_nat (n : ℕ) (h : n ≤ 128) :
    Ideal.toIntClamped (-(2 ^ (32 - 1) : ℕ)) ((2 ^ (32 - 1) : ℕ) - 1) ((n : ℝ) : EReal) = n := by
  show max _ (min _ (if 0 ≤ (n : ℝ) then ⌊(n : ℝ)⌋ else ⌈(n : ℝ)⌉)) = _
  rw [if_pos (Nat.cast_nonneg n), Int.floor_natCast]
  omega

theorem ideal_lane (b : IVec S1x128 1) (i : S1x1x128.Idx) :
    ((((BitVec.setWidth 32 (b (Shape.reshapeEquiv shapeCasts_S1x128_S1x1x128 i))).toInt : ℝ)) : EReal) = ((lanes b i : ℝ) : EReal) := by
  unfold lanes
  generalize b _ = x
  have : (BitVec.setWidth 32 x).toInt = (x.toNat : ℤ) := by revert x; decide
  rw [this]; simp

/-- Over the extended reals the count is the word of the number of set lanes. -/
theorem count_ideal (b : IVec S1x128 1) : countW Ideal b = BitVec.ofNat 32 ((Finset.univ.filter fun i =>
    reduces_S1x1x128_S1.drop i = Shape.reshapeEquiv shapeCasts_S1_S1x1x1 fun a =>
      ⟨(![0, 0, 0] : Fin 3 → ℕ) a, inpos_S1x1x1_p0_0_0 a⟩).sum (lanes b)) := by
  unfold countW extractAt shapeCast
  show Ideal.fptosi 32 (∑ i ∈ Finset.univ.filter _, ((((BitVec.setWidth 32 (b (Shape.reshapeEquiv shapeCasts_S1x128_S1x1x128 i))).toInt : ℝ)) : EReal)) = _
  simp only [ideal_lane]
  rw [← coe_sum, ← Nat.cast_sum]
  unfold Ideal.fptosi
  rw [toIntClamped_nat _ (sum_lanes_le b _)]
  exact BitVec.ofInt_natCast _ _

theorem countOk_ideal : CountOk Ideal := by
  intro b
  rw [count_ideal, BitVec.toNat_ofNat]
  exact (Nat.mod_le _ _).trans (sum_lanes_le b _)

variable {F : FTy → Type} [FloatOps F] [Named F]

theorem count_pay (h : CountOk F) (v35 : BitVec 32) (v37 : FVec F S256x128 .f32) (v40 : Vec F S1x1x256x128 .f32) :
    (Scalar.fptosi 32 (k0_pay1 v35 v37 v40)).toNat ≤ 128 := h _

end Cert.KernelIdeal.Sb

end
-- ==== Proof.RunA.lean ====
/-
  The body of the kernel at one grid point, run once on whole staging memrefs.
-/
module

public import proofs.«01_k».proof.Proof.Count
public import proofs.«01_k».proof.Proof.Gen.KernelIdeal.Frame
public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The condition of the body's conditional: this is the first query block of a column. -/
abbrev first0 (i : grid0.Coords) : Prop := (Scalar.cmpi .ne (Scalar.extui (Scalar.cmpi .eq (BitVec.ofNat 32 (i 1).val) 0#32)) 0#32) = 1#1

set_option maxHeartbeats 4000000 in
/-- At the first query block of a column the body zeroes both key outputs; the pieces the
    three outputs end with are the witness, on whole staging memrefs, the inputs' left as they were. -/
noncomputable def runA (hC : CountOk F) (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole)
    (hc : first0 i) (x0 : Vec F S256x128 .bf16) (x1 : Vec F S4096x128 .bf16) (x2 : Vec F S4096x128 .bf16) (x3 : Vec F S1x2x256x128 .f32) (x4 : Vec F S256x128 .f32) (x5 : Vec F S2x256x256 .bf16) :
    Σ' (L6 : List (View.Piece (Elt F) S256x128 .f32)), Σ' (L7 : List (View.Piece (Elt F) S4096x128 .f32)), { L8 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)) -∗ K ⟨⟩))
          ⊢ wp frame (wpE (defs₀ (F := F)) Variants.none c none) E (cc0_sb_dattn_3 i arg2 harg2 arg3 harg3 arg4 harg4 arg5 harg5 arg6 harg6 arg7 harg7 arg8 harg8 arg9 harg9 arg10 harg10) K } := by
  refine ⟨?_, ?_, ?_, fun E K => ?run⟩
  case run =>
    simp only [cc0_sb_dattn_3_eq_skeleton]; unfold cc0_sb_dattn_3_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc | exact chk_of_le i _ (count_pay hC _ _ _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Sb

end
-- ==== Proof.RunB.lean ====
/-
  The body of the kernel at one grid point, run once on whole staging memrefs.
-/
module

public import proofs.«01_k».proof.Proof.RunA

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
/-- At a later query block the body adds to what the key outputs hold; the pieces the
    three outputs end with are the witness, on whole staging memrefs, the inputs' left as they were. -/
noncomputable def runB (hC : CountOk F) (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole)
    (hc : ¬first0 i) (x0 : Vec F S256x128 .bf16) (x1 : Vec F S4096x128 .bf16) (x2 : Vec F S4096x128 .bf16) (x3 : Vec F S1x2x256x128 .f32) (x4 : Vec F S256x128 .f32) (x5 : Vec F S2x256x256 .bf16) (xo7 xo8 : Vec F S4096x128 .f32) :
    Σ' (L6 : List (View.Piece (Elt F) S256x128 .f32)), Σ' (L7 : List (View.Piece (Elt F) S4096x128 .f32)), { L8 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xo7) L7)
                ∗ (arg10.view.loc (c : Thread nD τ) ↦[arg10.view.set]{fullShare} arg10.view.writes (Elt F) (harg10.unread xo8) L8)) -∗ K ⟨⟩))
          ⊢ wp frame (wpE (defs₀ (F := F)) Variants.none c none) E (cc0_sb_dattn_3 i arg2 harg2 arg3 harg3 arg4 harg4 arg5 harg5 arg6 harg6 arg7 harg7 arg8 harg8 arg9 harg9 arg10 harg10) K } := by
  refine ⟨?_, ?_, ?_, fun E K => ?run⟩
  case run =>
    simp only [cc0_sb_dattn_3_eq_skeleton]; unfold cc0_sb_dattn_3_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7; obtain rfl := harg10.eq_unread hf8
    sl_exec (disch := first | sl_exact hc | exact chk_of_le i _ (count_pay hC _ _ _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    iexact H8

end Cert.KernelIdeal.Sb

end
-- ==== Proof.Launched.lean ====
/-
  The launch: what the three outputs hold after each grid point, and the frame of the whole program,
  over any floats at which the counted word is small.
-/
module

public import proofs.«01_k».proof.Proof.RunB
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem first0_iff : ∀ t : Fin cfg0.N, first0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [first0, e0, e1]
    word_cmp
   : ∀ t : Fin grid0.N, first0 (grid0.coords t) ↔ t.val % 16 = 0)

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x128 .f32 := win0_8.stage (cfg0.slots t 8)
abbrev hs8 (t : Fin cfg0.N) : (ms8 t).IsWhole := hstage0_8 ((cfg0.slots t 8).cast nbuf0_8)
abbrev VO6 : View sig .tc .vmem S256x128 .f32 := (Memref.whole cc0_stg6_0 : Memref sig .tc .vmem S256x128 .f32).view
abbrev VO7 : View sig .tc .vmem S4096x128 .f32 := (Memref.whole cc0_stg7_0 : Memref sig .tc .vmem S4096x128 .f32).view
abbrev VO8 : View sig .tc .vmem S4096x128 .f32 := (Memref.whole cc0_stg8_0 : Memref sig .tc .vmem S4096x128 .f32).view

/-- The run at a point that begins a column, at the point's memrefs and input blocks. -/
abbrev ptA (hC : CountOk F) (c : Dev nD) (t : Fin cfg0.N) (h0 : t.val % 16 = 0) :=
  runA hC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((first0_iff t).mpr h0) (iblk m c 0 t) (iblk m c 1 t) (iblk m c 2 t) (iblk m c 3 t) (iblk m c 4 t) (iblk m c 5 t)

/-- The run at any other point, over what the two key outputs hold. -/
abbrev ptB (hC : CountOk F) (c : Dev nD) (t : Fin cfg0.N) (h0 : ¬t.val % 16 = 0) (xo7 xo8 : Vec F S4096x128 .f32) :=
  runB hC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((first0_iff t).mp h)) (iblk m c 0 t) (iblk m c 1 t) (iblk m c 2 t) (iblk m c 3 t) (iblk m c 4 t) (iblk m c 5 t) xo7 xo8

/-- What the three outputs' buffers hold after a point. -/
abbrev Outs (F : FTy → Type) := Vec F S256x128 .f32 × Vec F S4096x128 .f32 × Vec F S4096x128 .f32

/-- After a point that begins a column: the pieces read back over anything. -/
def outA (hC : CountOk F) (c : Dev nD) (t : Fin cfg0.N) (h0 : t.val % 16 = 0) : Outs F :=
  (VO6.read (Elt F) (VO6.writes (Elt F) VO6.junk (ptA m hC c t h0).1),
   VO7.read (Elt F) (VO7.writes (Elt F) VO7.junk (ptA m hC c t h0).2.1),
   VO8.read (Elt F) (VO8.writes (Elt F) VO8.junk (ptA m hC c t h0).2.2.1))

/-- After any other point: the query output's pieces over anything, the key outputs' over what they held. -/
def outB (hC : CountOk F) (c : Dev nD) (t : Fin cfg0.N) (h0 : ¬t.val % 16 = 0) (xo7 xo8 : Vec F S4096x128 .f32) : Outs F :=
  (VO6.read (Elt F) (VO6.writes (Elt F) VO6.junk (ptB m hC c t h0 xo7 xo8).1),
   (ms7 t).view.read (Elt F) ((ms7 t).view.writes (Elt F) ((hs7 t).unread xo7) (ptB m hC c t h0 xo7 xo8).2.1),
   (ms8 t).view.read (Elt F) ((ms8 t).view.writes (Elt F) ((hs8 t).unread xo8) (ptB m hC c t h0 xo7 xo8).2.2.1))

/-- The outputs' buffers after the point at position `n`. -/
def outs (hC : CountOk F) (c : Dev nD) : (n : ℕ) → n < cfg0.N → Outs F
  | 0, hn => outA m hC c ⟨0, hn⟩ (Nat.zero_mod _)
  | n + 1, hn =>
    if h0 : (n + 1) % 16 = 0 then outA m hC c ⟨n + 1, hn⟩ h0
    else outB m hC c ⟨n + 1, hn⟩ h0 (outs hC c n (Nat.lt_of_succ_lt hn)).2.1 (outs hC c n (Nat.lt_of_succ_lt hn)).2.2

theorem outs_A (hC : CountOk F) (c : Dev nD) (t : Fin cfg0.N) (h0 : t.val % 16 = 0) :
    outs m hC c t.val t.isLt = outA m hC c t h0 := by
  obtain ⟨n, hn⟩ := t
  cases n with
  | zero => rfl
  | succ n => exact dif_pos h0

/-- The point before, of a point that does not begin a column. -/
theorem pred_lt (t : Fin cfg0.N) : t.val - 1 < cfg0.N := Nat.lt_of_le_of_lt (Nat.sub_le _ _) t.isLt

theorem outs_B (hC : CountOk F) (c : Dev nD) (t : Fin cfg0.N) (h0 : ¬t.val % 16 = 0) :
    outs m hC c t.val t.isLt
      = outB m hC c t h0 (outs m hC c (t.val - 1) (pred_lt t)).2.1 (outs m hC c (t.val - 1) (pred_lt t)).2.2 := by
  obtain ⟨n, hn⟩ := t
  cases n with
  | zero => exact absurd (Nat.zero_mod _) h0
  | succ n => exact dif_neg h0

theorem coverA6 (hC : CountOk F) (c : Dev nD) (t : Fin cfg0.N) (h0 : t.val % 16 = 0) (y : S256x128.Idx) :
    ∃ pc ∈ (ptA m hC c t h0).1, y ∈ pc.1.set := View.cover_of_wholeMem (ptA m hC c t h0).1 (by sl_whole_mem) y
theorem coverA7 (hC : CountOk F) (c : Dev nD) (t : Fin cfg0.N) (h0 : t.val % 16 = 0) (y : S4096x128.Idx) :
    ∃ pc ∈ (ptA m hC c t h0).2.1, y ∈ pc.1.set := View.cover_of_wholeMem (ptA m hC c t h0).2.1 (by sl_whole_mem) y
theorem coverA8 (hC : CountOk F) (c : Dev nD) (t : Fin cfg0.N) (h0 : t.val % 16 = 0) (y : S4096x128.Idx) :
    ∃ pc ∈ (ptA m hC c t h0).2.2.1, y ∈ pc.1.set := View.cover_of_wholeMem (ptA m hC c t h0).2.2.1 (by sl_whole_mem) y
theorem coverB6 (hC : CountOk F) (c : Dev nD) (t : Fin cfg0.N) (h0 : ¬t.val % 16 = 0) (xo7 xo8 : Vec F S4096x128 .f32) (y : S256x128.Idx) :
    ∃ pc ∈ (ptB m hC c t h0 xo7 xo8).1, y ∈ pc.1.set := View.cover_of_wholeMem (ptB m hC c t h0 xo7 xo8).1 (by sl_whole_mem) y

/-- The pipeline's proof data: the arrays as the region finds them, after a point the inputs' blocks and `outs`. -/
def dats (hC : CountOk F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m hC c t.val t.isLt).1
    | ⟨7, _⟩ => (outs m hC c t.val t.isLt).2.1
    | ⟨8, _⟩ => (outs m hC c t.val t.isLt).2.2
  Φ _ := Pipeline.ΦA spec0 c
  q _ := fullShare
  owed _ := 0

section
variable (hC : CountOk F) (c : Dev nD)

theorem A_eq (c : Dev nD) (w : Fin cfg0.W) : (dats m hC 0 c).A w = V m c (Pipeline.arrRef spec0 w) := by dsimp only [dats]

theorem after0 (t : Fin cfg0.N) : (dats m hC 0 c).after 0 t = iblk m c 0 t := by dsimp only [dats]
theorem after1 (t : Fin cfg0.N) : (dats m hC 0 c).after 1 t = iblk m c 1 t := by dsimp only [dats]
theorem after2 (t : Fin cfg0.N) : (dats m hC 0 c).after 2 t = iblk m c 2 t := by dsimp only [dats]
theorem after3 (t : Fin cfg0.N) : (dats m hC 0 c).after 3 t = iblk m c 3 t := by dsimp only [dats]
theorem after4 (t : Fin cfg0.N) : (dats m hC 0 c).after 4 t = iblk m c 4 t := by dsimp only [dats]
theorem after5 (t : Fin cfg0.N) : (dats m hC 0 c).after 5 t = iblk m c 5 t := by dsimp only [dats]
theorem after6 (t : Fin cfg0.N) : (dats m hC 0 c).after 6 t = (outs m hC c t.val t.isLt).1 := by dsimp only [dats]
theorem after7 (t : Fin cfg0.N) : (dats m hC 0 c).after 7 t = (outs m hC c t.val t.isLt).2.1 := by dsimp only [dats]
theorem after8 (t : Fin cfg0.N) : (dats m hC 0 c).after 8 t = (outs m hC c t.val t.isLt).2.2 := by dsimp only [dats]
theorem before0 (t : Fin cfg0.N) (d) : (dats m hC 0 c).before 0 t d = iblk m c 0 t :=
  before0_0_of m (dats m hC 0 c) (A_eq m hC c 0) (after0 m hC c) t d
theorem before1 (t : Fin cfg0.N) (d) : (dats m hC 0 c).before 1 t d = iblk m c 1 t :=
  before0_1_of m (dats m hC 0 c) (A_eq m hC c 1) (after1 m hC c) t d
theorem before2 (t : Fin cfg0.N) (d) : (dats m hC 0 c).before 2 t d = iblk m c 2 t :=
  before0_2_of m (dats m hC 0 c) (A_eq m hC c 2) (after2 m hC c) t d
theorem before3 (t : Fin cfg0.N) (d) : (dats m hC 0 c).before 3 t d = iblk m c 3 t :=
  before0_3_of m (dats m hC 0 c) (A_eq m hC c 3) (after3 m hC c) t d
theorem before4 (t : Fin cfg0.N) (d) : (dats m hC 0 c).before 4 t d = iblk m c 4 t :=
  before0_4_of m (dats m hC 0 c) (A_eq m hC c 4) (after4 m hC c) t d
theorem before5 (t : Fin cfg0.N) (d) : (dats m hC 0 c).before 5 t d = iblk m c 5 t :=
  before0_5_of m (dats m hC 0 c) (A_eq m hC c 5) (after5 m hC c) t d

/-- Within a column the buffer of output 7 is kept from the point before. -/
theorem before7 (t : Fin cfg0.N) (h0 : ¬t.val % 16 = 0) (d) :
    (dats m hC 0 c).before 7 t d = (outs m hC c (t.val - 1) (pred_lt t)).2.1 := by
  have hN : t.val < 128 := lt_of_lt_of_eq t.isLt (show cfg0.N = 128 from N_0)
  rw [Dat.before_out_kept _ 7 rfl t (by omega)
    (Bool.eq_false_iff.mpr fun h => by have := (flush0_7 _).mp h; dsimp only at this; omega) (fun _ => rfl) (fun _ _ => rfl)]
  dsimp only [dats]

/-- Within a column the buffer of output 8 is kept from the point before. -/
theorem before8 (t : Fin cfg0.N) (h0 : ¬t.val % 16 = 0) (d) :
    (dats m hC 0 c).before 8 t d = (outs m hC c (t.val - 1) (pred_lt t)).2.2 := by
  have hN : t.val < 128 := lt_of_lt_of_eq t.isLt (show cfg0.N = 128 from N_0)
  rw [Dat.before_out_kept _ 8 rfl t (by omega)
    (Bool.eq_false_iff.mpr fun h => by have := (flush0_8 _).mp h; dsimp only at this; omega) (fun _ => rfl) (fun _ _ => rfl)]
  dsimp only [dats]

/-- What the body is called with at a point. -/
def pre (t : Fin cfg0.N) : sProp 𝕄 :=
  iprop((dats m hC 0 c).Φ t.castSucc ∗ (dats m hC 0 c).owesAt () t.castSucc
    ∗ (∃ d, owns (c : Thread nD τ) (ms0 t) fullShare ((dats m hC 0 c).before 0 t d))
    ∗ (∃ d, owns (c : Thread nD τ) (ms1 t) fullShare ((dats m hC 0 c).before 1 t d))
    ∗ (∃ d, owns (c : Thread nD τ) (ms2 t) fullShare ((dats m hC 0 c).before 2 t d))
    ∗ (∃ d, owns (c : Thread nD τ) (ms3 t) fullShare ((dats m hC 0 c).before 3 t d))
    ∗ (∃ d, owns (c : Thread nD τ) (ms4 t) fullShare ((dats m hC 0 c).before 4 t d))
    ∗ (∃ d, owns (c : Thread nD τ) (ms5 t) fullShare ((dats m hC 0 c).before 5 t d))
    ∗ (∃ d, owns (c : Thread nD τ) (ms6 t) fullShare ((dats m hC 0 c).before 6 t d))
    ∗ (∃ d, owns (c : Thread nD τ) (ms7 t) fullShare ((dats m hC 0 c).before 7 t d))
    ∗ (∃ d, owns (c : Thread nD τ) (ms8 t) fullShare ((dats m hC 0 c).before 8 t d)))

/-- What it returns. -/
def post (t : Fin cfg0.N) : sProp 𝕄 :=
  iprop((dats m hC 0 c).Φ t.succ ∗ (dats m hC 0 c).owesAt () t.succ
    ∗ owns (c : Thread nD τ) (ms0 t) fullShare ((dats m hC 0 c).after 0 t)
    ∗ owns (c : Thread nD τ) (ms1 t) fullShare ((dats m hC 0 c).after 1 t)
    ∗ owns (c : Thread nD τ) (ms2 t) fullShare ((dats m hC 0 c).after 2 t)
    ∗ owns (c : Thread nD τ) (ms3 t) fullShare ((dats m hC 0 c).after 3 t)
    ∗ owns (c : Thread nD τ) (ms4 t) fullShare ((dats m hC 0 c).after 4 t)
    ∗ owns (c : Thread nD τ) (ms5 t) fullShare ((dats m hC 0 c).after 5 t)
    ∗ owns (c : Thread nD τ) (ms6 t) fullShare ((dats m hC 0 c).after 6 t)
    ∗ owns (c : Thread nD τ) (ms7 t) fullShare ((dats m hC 0 c).after 7 t)
    ∗ owns (c : Thread nD τ) (ms8 t) fullShare ((dats m hC 0 c).after 8 t))

set_option maxHeartbeats 3200000 in
theorem body_at (t : Fin cfg0.N) :
    pre m hC c t ⊢ wp frame (wpE (defs₀ (F := F)) Variants.none c none) Set.univ (bodyAt0 t) (fun _ => post m hC c t) := by
  unfold pre post bodyAt0
  simp only [before0, before1, before2, before3, before4, before5]
  rw [show (dats m hC 0 c).Φ t.succ = (dats m hC 0 c).Φ t.castSucc from rfl,
    show (dats m hC 0 c).owesAt () t.succ = (dats m hC 0 c).owesAt () t.castSucc from rfl,
    after0, after1, after2, after3, after4, after5, after6, after7, after8]
  by_cases h0 : t.val % 16 = 0
  · rw [outs_A m hC c t h0]
    unfold outA
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((ptA m hC c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA6 m hC c t h0)
    isplitl [H7]
    · unfold owns; iexists _; isplitr
      swap; · iexact H7
      ipureintro; exact View.read_writes_of_cover _ _ _ _ _ (coverA7 m hC c t h0)
    unfold owns; iexists _; isplitr
    swap; · iexact H8
    ipureintro; exact View.read_writes_of_cover _ _ _ _ _ (coverA8 m hC c t h0)
  · rw [outs_B m hC c t h0]
    simp only [before7 m hC c t h0, before8 m hC c t h0]
    unfold outB
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((ptB m hC c t h0 _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB6 m hC c t h0 _ _)
    isplitl [H7]
    · unfold owns; iexists _; isplitr
      swap; · iexact H7
      ipureintro; rfl
    unfold owns; iexists _; isplitr
    swap; · iexact H8
    ipureintro; rfl

theorem row (t : Fin cfg0.N) : defs₀ (F := F) .tc cfg0.body (cfg0.bodyArgs t (cfg0.slots t)) = bodyAt0 t := by
  unfold defs₀; rw [Defs.onTc_tc]

theorem obligation : BodyObligation (dats (F := F) m hC 0 c) (defs₀ (F := F)) Variants.none () Set.univ := fun t => by
  rw [bigSep_W0, bigSep_W0, row]
  exact triple_restated (body_at m hC c t) rfl .rfl fun _ => .rfl

end

set_option backward.isDefEq.respectTransparency.types false in
/-- Every execution ends, the pipeline's arrays at what the proof data computes, all counters at zero. -/
theorem run_main (hC : CountOk F) : θ_run defs (onTc (τ := τ) (main (F := F))) (s₀ m ρ)
    (fun r => (Pipeline.FramePost cfgs (dats m hC) 0 (V m)) r ∧ r.2.sem = fun _ => 0) :=
  Pipeline.θ_run_frame (Q' := _) cfgs (dats m hC) (0 : Fin 1) launch0 defs₀ Variants.none m ρ main
    (hbody := fun c => (obligation m hC c).loose) (hshare := fun c => (dats m hC 0 c).share_full fun _ => rfl)
    (howed := fun _ _ => rfl) (V := V m) (hmain := hmain m Variants.none) (hA := A_eq m hC) (hΦ := fun _ _ => rfl)

/-- The frame: every execution ends with the arguments as they were and all counters at zero. -/
theorem frame (hC : CountOk F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m hC) (A_eq m hC) ((θ_run defs _ _).mono (fun _ h => h.1) (run_main m ρ hC)))
    ((θ_run defs _ _).mono (fun _ h => h.2) (run_main m ρ hC))

end Cert.KernelIdeal.Sb

end
-- ==== Proof.Real.lean ====
module
public import Idealize.ShloMosaic.Lib.Pointwise
@[expose] public section
/-! The stick-breaking weight of one pair over the reals, and the extended-real spellings the two programs have for it. -/
noncomputable section
namespace Cert.Sb
open Idealize.ShloMosaic

/-- log (1 + exp (-|z|)), the part of the softplus that both signs share. -/
def sft (z : ℝ) : ℝ := Real.log (1 + Real.exp (-|z|))

/-- The log of the logistic function. -/
def lsg (z : ℝ) : ℝ := min z 0 - sft z

theorem lsg_neg (z : ℝ) : lsg (-z) = lsg z - z := by
  unfold lsg sft
  rw [abs_neg]
  rcases le_total z 0 with h | h
  · rw [min_eq_left h, min_eq_right (by linarith)]; ring
  · rw [min_eq_right h, min_eq_left (by linarith)]; ring

theorem exp_lsg (z : ℝ) : Real.exp (lsg z) = 1 / (1 + Real.exp (-z)) := by
  have p : 0 < 1 + Real.exp (-|z|) := by positivity
  unfold lsg sft
  rw [Real.exp_sub, Real.exp_log p]
  rcases le_total z 0 with h | h
  · rw [min_eq_left h, abs_of_nonpos h, neg_neg]
    have : Real.exp (-z) * Real.exp z = 1 := by rw [← Real.exp_add]; simp
    rw [div_eq_div_iff (by positivity) (by positivity)]
    nlinarith [this]
  · rw [min_eq_right h, abs_of_nonneg h, Real.exp_zero]

theorem exp_lsg_add (z : ℝ) : Real.exp (lsg z) + Real.exp (lsg (-z)) = 1 := by
  rw [exp_lsg, exp_lsg, neg_neg]
  have : Real.exp (-z) * Real.exp z = 1 := by rw [← Real.exp_add]; simp
  have h1 : 1 + Real.exp (-z) ≠ 0 := by positivity
  have h2 : 1 + Real.exp z ≠ 0 := by positivity
  field_simp
  nlinarith [this]

theorem coe_absf {φ : FTy} (z : ℝ) : FloatOps.absf (F := Ideal) (φ := φ) (z : EReal) = ((|z| : ℝ) : EReal) := by
  rw [Ideal.absf_def, abs_eq_max_neg, EReal.coe_strictMono.monotone.map_max, EReal.coe_neg]

theorem coe_lsg (z : ℝ) :
    min (z : EReal) 0 - Ideal.log (1 + Ideal.exp (0 - ((|z| : ℝ) : EReal))) = ((lsg z : ℝ) : EReal) := by
  have p : ¬ (1 + Real.exp (-|z|) ≤ 0) := by have : 0 < Real.exp (-|z|) := Real.exp_pos _; linarith
  rw [zero_sub, ← EReal.coe_neg, Ideal.exp_coe, ← EReal.coe_one, ← EReal.coe_add, Ideal.log_coe, if_neg p, ← EReal.coe_zero,
    ← EReal.coe_strictMono.monotone.map_min, ← EReal.coe_sub]
  rfl

theorem coe_sum' {ι : Type*} (s : Finset ι) (f : ι → ℝ) : (((∑ x ∈ s, f x : ℝ)) : EReal) = ∑ x ∈ s, (f x : EReal) := by
  classical
  induction s using Finset.induction_on with
  | empty => simp
  | insert a s h ih => rw [Finset.sum_insert h, Finset.sum_insert h, EReal.coe_add, ih]

theorem sum_real {ι : Type*} {s : Finset ι} {f : ι → EReal} {g : ι → ℝ} (h : ∀ x ∈ s, f x = (g x : EReal)) :
    ∑ x ∈ s, f x = ((∑ x ∈ s, g x : ℝ) : EReal) := by
  rw [coe_sum']; exact Finset.sum_congr rfl h

theorem sel_dec {α : Type} (p : Prop) [Decidable p] (a b : α) :
    Scalar.select (BitVec.ofBool (decide p)) a b = if p then a else b := by
  by_cases h : p <;> simp [Scalar.select, h]

end Cert.Sb
end
end
-- ==== Proof.Cum.lean ====
module
public import proofs.«01_k».proof.Proof.Real
public import Idealize.ShloMosaic.Lib.Pointwise
@[expose] public section
set_option maxRecDepth 16384
/-! A running sum along the last axis, as the host computes it: a window as long as the axis. -/
noncomputable section
namespace Cert.Sb
open Idealize.ShloMosaic Idealize.ShloMosaic.Tactic Finset

/-- The three-axis index of a position on the last axis alone. -/
def lastAxis : (⟨3, ![1, 1, 4096]⟩ : Shape).Idx ≃ Fin 4096 where
  toFun w := w 2
  invFun k := ix3 0 0 k
  left_inv w := by
    funext a; fin_cases a
    · exact Subsingleton.elim (α := Fin 1) _ _
    · exact Subsingleton.elim (α := Fin 1) _ _
    · rfl
  right_inv k := rfl

theorem foldl_add {n : ℕ} (f : Fin n → EReal) : (List.finRange n).foldl (fun r i => r + f i) 0 = ∑ i, f i := by
  rw [← List.sum_ofFn, List.ofFn_eq_map, List.sum_eq_foldl, List.foldl_map]

theorem window_sum (lo hi : Fin 3 → ℕ)
    (h : (⟨3, ![16, 4096, 4096]⟩ : Shape).ReduceWindows ![1, 1, 4096] ![1, 1, 1] lo hi ⟨3, ![16, 4096, 4096]⟩)
    (x : (⟨3, ![16, 4096, 4096]⟩ : Shape).Idx → EReal) (j : (⟨3, ![16, 4096, 4096]⟩ : Shape).Idx) :
    Ideal.hostReduceWindowAdd ![1, 1, 4096] ![1, 1, 1] lo hi h x 0 j
      = ∑ k : Fin 4096, (if hin : ∀ a : Fin 3, lo a ≤ (j a).val * (![1, 1, 1] : Fin 3 → ℕ) a + (ix3 (n0 := 1) (n1 := 1) 0 0 k a).val ∧ (j a).val * (![1, 1, 1] : Fin 3 → ℕ) a + (ix3 (n0 := 1) (n1 := 1) 0 0 k a).val - lo a < (![16, 4096, 4096] : Fin 3 → ℕ) a
          then x (fun a => ⟨_, (hin a).2⟩) else 0) := by
  unfold Ideal.hostReduceWindowAdd Host.reduceWindow
  dsimp only
  rw [foldl_add, ← Equiv.sum_comp (lastAxis.symm.trans (Shape.rowMajor ⟨3, ![1, 1, 4096]⟩))]
  refine Finset.sum_congr rfl fun k _ => ?_
  simp only [Equiv.trans_apply, Equiv.symm_apply_apply]
  rfl

theorem sum_Ico_fin (f : ℕ → ℝ) (s : ℕ) (hs : s ≤ 4096) :
    ∑ k : Fin 4096, (if s + k.val < 4096 then f (s + k.val) else 0) = ∑ u ∈ Ico s 4096, f u := by
  rw [Fin.sum_univ_eq_sum_range (fun k => if s + k < 4096 then f (s + k) else 0) 4096, Finset.sum_Ico_eq_sum_range, ← Finset.sum_filter]
  refine Finset.sum_congr (Finset.ext fun k => ?_) fun _ _ => rfl
  rw [mem_filter, mem_range, mem_range]; omega

theorem sum_range_fin (f : ℕ → ℝ) (s : ℕ) (hs : s < 4096) :
    ∑ k : Fin 4096, (if 4095 ≤ s + k.val then f (s + k.val - 4095) else 0) = ∑ u ∈ range (s + 1), f u := by
  rw [Fin.sum_univ_eq_sum_range (fun k => if 4095 ≤ s + k then f (s + k - 4095) else 0) 4096, ← Finset.sum_filter]
  refine Finset.sum_nbij' (fun k => s + k - 4095) (fun u => u + 4095 - s) ?_ ?_ ?_ ?_ ?_
  all_goals (intro a ha; simp only [mem_filter, mem_range] at ha ⊢)
  all_goals omega

/-- The sum over the later positions, this one included. -/
theorem cum_after (h : (⟨3, ![16, 4096, 4096]⟩ : Shape).ReduceWindows ![1, 1, 4096] ![1, 1, 1] ![0, 0, 0] ![0, 0, 4095] ⟨3, ![16, 4096, 4096]⟩)
    (x : (⟨3, ![16, 4096, 4096]⟩ : Shape).Idx → EReal) (f : ℕ → ℕ → ℕ → ℝ)
    (hx : ∀ (a : Fin 16) (t s : Fin 4096), x (ix3 a t s) = (f a.val t.val s.val : EReal)) (a : Fin 16) (t s : Fin 4096) :
    Ideal.hostReduceWindowAdd ![1, 1, 4096] ![1, 1, 1] ![0, 0, 0] ![0, 0, 4095] h x 0 (ix3 a t s)
      = ((∑ u ∈ Ico s.val 4096, f a.val t.val u : ℝ) : EReal) := by
  rw [window_sum, ← sum_Ico_fin _ _ s.isLt.le]
  refine sum_real fun k _ => ?_
  by_cases hk : s.val + k.val < 4096
  · rw [if_pos hk, dif_pos (by
      intro b; fin_cases b
      · exact ⟨Nat.zero_le _, by show a.val * 1 + 0 - 0 < 16; omega⟩
      · exact ⟨Nat.zero_le _, by show t.val * 1 + 0 - 0 < 4096; omega⟩
      · exact ⟨Nat.zero_le _, by show s.val * 1 + k.val - 0 < 4096; omega⟩)]
    rw [← hx a t ⟨s.val + k.val, hk⟩]
    refine congrArg x (funext fun b => Fin.ext ?_)
    fin_cases b
    · show a.val * 1 + 0 - 0 = a.val; omega
    · show t.val * 1 + 0 - 0 = t.val; omega
    · show s.val * 1 + k.val - 0 = s.val + k.val; omega
  · rw [if_neg hk, dif_neg (by
      intro hin
      have : s.val * 1 + k.val - 0 < 4096 := (hin 2).2
      omega)]
    rfl

/-- The sum over the earlier positions, this one included. -/
theorem cum_upto (h : (⟨3, ![16, 4096, 4096]⟩ : Shape).ReduceWindows ![1, 1, 4096] ![1, 1, 1] ![0, 0, 4095] ![0, 0, 0] ⟨3, ![16, 4096, 4096]⟩)
    (x : (⟨3, ![16, 4096, 4096]⟩ : Shape).Idx → EReal) (f : ℕ → ℕ → ℕ → ℝ)
    (hx : ∀ (a : Fin 16) (t s : Fin 4096), x (ix3 a t s) = (f a.val t.val s.val : EReal)) (a : Fin 16) (t s : Fin 4096) :
    Ideal.hostReduceWindowAdd ![1, 1, 4096] ![1, 1, 1] ![0, 0, 4095] ![0, 0, 0] h x 0 (ix3 a t s)
      = ((∑ u ∈ range (s.val + 1), f a.val t.val u : ℝ) : EReal) := by
  rw [window_sum, ← sum_range_fin _ _ s.isLt]
  refine sum_real fun k _ => ?_
  by_cases hk : 4095 ≤ s.val + k.val
  · rw [if_pos hk, dif_pos (by
      intro b; fin_cases b
      · exact ⟨Nat.zero_le _, by show a.val * 1 + 0 - 0 < 16; omega⟩
      · exact ⟨Nat.zero_le _, by show t.val * 1 + 0 - 0 < 4096; omega⟩
      · exact ⟨by show 4095 ≤ s.val * 1 + k.val; omega, by show s.val * 1 + k.val - 4095 < 4096; omega⟩)]
    rw [← hx a t ⟨s.val + k.val - 4095, by omega⟩]
    refine congrArg x (funext fun b => Fin.ext ?_)
    fin_cases b
    · show a.val * 1 + 0 - 0 = a.val; omega
    · show t.val * 1 + 0 - 0 = t.val; omega
    · show s.val * 1 + k.val - 4095 = s.val + k.val - 4095; omega
  · rw [if_neg hk, dif_neg (by
      intro hin
      have : 4095 ≤ s.val * 1 + k.val := (hin 2).1
      omega)]
    rfl
end Cert.Sb
-- ==== Proof.Host.lean ====
module

public import proofs.«01_k».proof.Proof.Launched
public import proofs.«01_k».proof.Proof.Cum
public import Idealize.ShloMosaic.Lib.Claim

@[expose] public section
set_option maxRecDepth 16384
/-! What the host hands the kernel besides its arguments: the saved sums of the later key blocks, and the two triangles. -/
noncomputable section
namespace Cert.KernelIdeal.Sb
open Cert.KernelIdeal Cert.KernelIdeal.Gen Idealize.ShloMosaic Idealize.ShloMosaic.TcCoe Idealize.ShloMosaic.Tactic Idealize.SL.Sem Cert.Sb Finset

/-- An argument's heads, as the host reads them. -/
def hdH (x : FVec Ideal S4096x1024 .bf16) : FVec Ideal S16x4096x64 .f32 :=
  transpose S16x4096x64 [1, 0, 2] (shapeCast S4096x16x64 (extf .f32 x bitsLt_bf16_f32) shapeCasts_S4096x1024_S4096x16x64) transposes_S4096x16x64_S16x4096x64_1_0_2

/-- The scores. -/
def zH (q k : FVec Ideal S4096x1024 .bf16) : FVec Ideal S16x4096x4096 .f32 :=
  Host.dotGeneral dot_S16x4096x64_S16x4096x64_S16x4096x4096_2_2_1_1_0_0 none (hdH q) (hdH k)

/-- Key before query. -/
def mskH : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The softplus of each entry. -/
def spH (x : FVec Ideal S16x4096x4096 .f32) : FVec Ideal S16x4096x4096 .f32 :=
  select (cmpf .une (subf x (broadcastInDim S16x4096x4096 ![] bcast_S_S16x4096x4096 (constant S_ .f32 0x00000000#32)))
      (subf x (broadcastInDim S16x4096x4096 ![] bcast_S_S16x4096x4096 (constant S_ .f32 0x00000000#32))))
    (addf x (broadcastInDim S16x4096x4096 ![] bcast_S_S16x4096x4096 (constant S_ .f32 0x00000000#32)))
    (addf (maximumf x (broadcastInDim S16x4096x4096 ![] bcast_S_S16x4096x4096 (constant S_ .f32 0x00000000#32)))
      (Host.log1p (Host.exp (Host.negf (Host.absf (subf x (broadcastInDim S16x4096x4096 ![] bcast_S_S16x4096x4096 (constant S_ .f32 0x00000000#32))))))))

/-- The log of what a pair leaves over, zero outside the mask. -/
def ellH (q k : FVec Ideal S4096x1024 .bf16) : FVec Ideal S16x4096x4096 .f32 :=
  select (broadcastInDim S16x4096x4096 ![1, 2] bcast_S4096x4096_S16x4096x4096_1_2 mskH) (Host.negf (spH (Host.negf (Host.negf (zH q k)))))
    (broadcastInDim S16x4096x4096 ![] bcast_S_S16x4096x4096 (id (constant S_ .f32 0x00000000#32)))

/-- Its sums over the later keys. -/
def cumH (q k : FVec Ideal S4096x1024 .bf16) : FVec Ideal S16x4096x4096 .f32 :=
  Host.reduceWindowAdd ![1, 1, 4096] ![1, 1, 1] ![0, 0, 0] ![0, 0, 4095] (ellH q k) (broadcastInDim S_ ![] bcast_S_S_ (constant S_ .f32 0x00000000#32))
    reduceWindows_S16x4096x4096_S16x4096x4096_w1s1p0_0_w1s1p0_0_w4096s1p0_4095 h_S_

/-- One per key block: the sum over the later blocks. -/
def blkH (q k : FVec Ideal S4096x1024 .bf16) : FVec Ideal S16x4096x16 .f32 :=
  pad S16x4096x16 ![0, 0, 0] ![0, 0, 1] ![0, 0, 0] (Host.slice S16x4096x15 ![0, 0, 256] ![1, 1, 256] (cumH q k) slicesBy_S16x4096x4096_S16x4096x15_0s1_0s1_256s256)
    (sitofp .f32 (constantI S_ 32 0#32)) pads_S16x4096x15_S16x4096x16_000_000_010 h_S_

/-- A row's block. -/
def fdH : IVec S4096 32 :=
  select (andi (cmpi .ne (signi (iotaInDim S4096 32 0)) (broadcastInDim S4096 ![] bcast_S_S4096 (signi (id (constantI S_ 32 256#32)))))
      (cmpi .ne (Host.remsi (iotaInDim S4096 32 0) (broadcastInDim S4096 ![] bcast_S_S4096 (id (constantI S_ 32 256#32)))) (broadcastInDim S4096 ![] bcast_S_S4096 (constantI S_ 32 0#32))))
    (subi (Host.divsi (iotaInDim S4096 32 0) (broadcastInDim S4096 ![] bcast_S_S4096 (id (constantI S_ 32 256#32)))) (broadcastInDim S4096 ![] bcast_S_S4096 (constantI S_ 32 1#32)))
    (Host.divsi (iotaInDim S4096 32 0) (broadcastInDim S4096 ![] bcast_S_S4096 (id (constantI S_ 32 256#32))))

/-- Which key blocks a row's block sees. -/
def seenH : IVec S4096x16 1 :=
  cmpi .sle (broadcastInDim S4096x16 ![0, 1] bcast_S1x16_S4096x16_0_1 (broadcastInDim S1x16 ![1] bcast_S16_S1x16_1 (iotaInDim S16 32 0)))
    (broadcastInDim S4096x16 ![0, 1] bcast_S4096x1_S4096x16_0_1 (broadcastInDim S4096x1 ![0] bcast_S4096_S4096x1_0 fdH))

/-- What is saved. -/
def rsH (q k : FVec Ideal S4096x1024 .bf16) : FVec Ideal S8x2x4096x128 .f32 :=
  shapeCast S8x2x4096x128 (pad S16x4096x128 ![0, 0, 0] ![0, 0, 112] ![0, 0, 0]
      (select (broadcastInDim S16x4096x16 ![1, 2] bcast_S4096x16_S16x4096x16_1_2 seenH) (blkH q k) (broadcastInDim S16x4096x16 ![] bcast_S_S16x4096x16 (id (constant S_ .f32 0xF149F2CA#32))))
      (id (constant S_ .f32 0xF149F2CA#32)) pads_S16x4096x16_S16x4096x128_000_000_01120 h_S_) shapeCasts_S16x4096x128_S8x2x4096x128

/-- The triangles. -/
def triH : FVec Ideal S2x256x256 .bf16 :=
  uitofp .bf16 (concatenate S2x256x256 0
    [⟨S1x256x256, broadcastInDim S1x256x256 ![1, 2] bcast_S256x256_S1x256x256_1_2
        (cmpi .sgt (broadcastInDim S256x256 ![0, 1] bcast_S256x1_S256x256_0_1 (broadcastInDim S256x1 ![0] bcast_S256_S256x1_0 (iotaInDim S256 32 0)))
          (broadcastInDim S256x256 ![0, 1] bcast_S1x256_S256x256_0_1 (broadcastInDim S1x256 ![1] bcast_S256_S1x256_1 (iotaInDim S256 32 0))))⟩,
      ⟨S1x256x256, broadcastInDim S1x256x256 ![1, 2] bcast_S256x256_S1x256x256_1_2
        (cmpi .slt (broadcastInDim S256x256 ![0, 1] bcast_S256x1_S256x256_0_1 (broadcastInDim S256x1 ![0] bcast_S256_S256x1_0 (iotaInDim S256 32 0)))
          (broadcastInDim S256x256 ![0, 1] bcast_S1x256_S256x256_0_1 (broadcastInDim S1x256 ![1] bcast_S256_S1x256_1 (iotaInDim S256 32 0))))⟩]
    concatenates_S1x256x256_S1x256x256_S2x256x256_d0)

set_option maxHeartbeats 4000000
variable (m : (ℓ : Loc nD τ sig) → Buf (Elt Ideal) ℓ) (c : Dev nD)

theorem V_tri : V m c main_v43 = triH := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, StableHlo.after_cons, StableHlo.after_nil]
  after_results_simp
  after_results_loop
  try rfl

theorem V_rs : V m c main_v28 = rsH (m ((c : Thread nD τ).loc main_arg0)) (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, StableHlo.after_cons, StableHlo.after_nil]
  after_results_simp
  after_results_loop
  try rfl
end Cert.KernelIdeal.Sb
-- ==== Proof.Spec.lean ====
module
public import proofs.«01_k».proof.Proof.Real
@[expose] public section
/-! The gradient of one stick-breaking head over the reals, from its logits `z` and its products `g` of output gradients and values. -/
noncomputable section
namespace Cert.Sb
open Finset

/-- log (1 - β) of a pair, zero where the key is not before the query. -/
def ell (z : ℕ → ℕ → ℝ) (t s : ℕ) : ℝ := if s < t then lsg (z t s) - z t s else 0

/-- The sum of log (1 - β) over the keys after `s`. -/
def later (z : ℕ → ℕ → ℝ) (t s : ℕ) : ℝ := ∑ u ∈ Ico (s + 1) 4096, ell z t u

/-- The weight of key `s` for query `t`. -/
def ww (z : ℕ → ℕ → ℝ) (t s : ℕ) : ℝ := if s < t then Real.exp (lsg (z t s) + later z t s) else 0

/-- The gradient of the log weight. -/
def ee (z g : ℕ → ℕ → ℝ) (t s : ℕ) : ℝ := g t s * ww z t s

/-- Its sum over the keys before `s`. -/
def pp (z g : ℕ → ℕ → ℝ) (t s : ℕ) : ℝ := ∑ u ∈ range s, ee z g t u

/-- β of a pair, zero where the key is not before the query. -/
def bet (z : ℕ → ℕ → ℝ) (t s : ℕ) : ℝ := if s < t then Real.exp (lsg (z t s)) else 0

/-- The gradient of the logit. -/
def dzz (z g : ℕ → ℕ → ℝ) (t s : ℕ) : ℝ := ee z g t s - bet z t s * (ee z g t s + pp z g t s)

theorem ww_of_le {z : ℕ → ℕ → ℝ} {t s : ℕ} (h : t ≤ s) : ww z t s = 0 := if_neg (by omega)

theorem dzz_of_le {z g : ℕ → ℕ → ℝ} {t s : ℕ} (h : t ≤ s) : dzz z g t s = 0 := by
  simp [dzz, ee, bet, ww_of_le h, if_neg (show ¬ s < t by omega)]

/-- A block's sum over lanes `x` after lane `b` is a sum over the indices between. -/
theorem sum_after (f : ℕ → ℝ) (o : ℕ) (b : Fin 256) :
    ∑ x : Fin 256, f (o + x.val) * (if b < x then 1 else 0) = ∑ u ∈ Ico (o + b.val + 1) (o + 256), f u := by
  rw [Finset.sum_Ico_eq_sum_range]
  have e : ∑ x : Fin 256, f (o + x.val) * (if b < x then 1 else 0) = ∑ x ∈ range 256, f (o + x) * (if b.val < x then 1 else 0) :=
    Fin.sum_univ_eq_sum_range (fun x => f (o + x) * (if b.val < x then 1 else 0)) 256
  rw [e]
  have hb := b.isLt
  rw [← Finset.sum_range_add_sum_Ico _ (show b.val + 1 ≤ 256 by omega), Finset.sum_eq_zero, zero_add, Finset.sum_Ico_eq_sum_range]
  · rw [show o + 256 - (o + b.val + 1) = 256 - (b.val + 1) by omega]
    refine Finset.sum_congr rfl fun x _ => ?_
    rw [if_pos (by omega), mul_one]
    congr 1; omega
  · intro x hx
    rw [if_neg (by have := Finset.mem_range.mp hx; omega), mul_zero]

/-- A block's sum over lanes `x` before lane `b`. -/
theorem sum_before (f : ℕ → ℝ) (o : ℕ) (b : Fin 256) :
    ∑ x : Fin 256, f (o + x.val) * (if x < b then 1 else 0) = ∑ u ∈ Ico o (o + b.val), f u := by
  rw [Finset.sum_Ico_eq_sum_range]
  have e : ∑ x : Fin 256, f (o + x.val) * (if x < b then 1 else 0) = ∑ x ∈ range 256, f (o + x) * (if x < b.val then 1 else 0) :=
    Fin.sum_univ_eq_sum_range (fun x => f (o + x) * (if x < b.val then 1 else 0)) 256
  rw [e]
  have hb := b.isLt
  rw [← Finset.sum_range_add_sum_Ico _ hb.le, add_eq_left.mpr]
  · rw [Nat.add_sub_cancel_left]
    refine Finset.sum_congr rfl fun x hx => ?_
    rw [if_pos (Finset.mem_range.mp hx), mul_one]
  · refine Finset.sum_eq_zero fun x hx => ?_
    rw [if_neg (by have := Finset.mem_Ico.mp hx; omega), mul_zero]

/-- A whole block's sum. -/
theorem sum_block (f : ℕ → ℝ) (o : ℕ) : ∑ x : Fin 256, f (o + x.val) = ∑ u ∈ Ico o (o + 256), f u := by
  rw [Finset.sum_Ico_eq_sum_range, Nat.add_sub_cancel_left]
  exact Fin.sum_univ_eq_sum_range (fun x => f (o + x)) 256

end Cert.Sb
end
end
-- ==== Proof.Tile.lean ====
module
public import proofs.«01_k».proof.Proof.Real
public import proofs.«01_k».proof.Proof.Gen.KernelIdeal.Skeleton
@[expose] public section
set_option maxRecDepth 16384
/-! What one tile of one head computes, over the reals: the payloads of the key loop read at an index. -/
noncomputable section
namespace Cert.KernelIdeal.Sb
open Idealize.ShloMosaic Idealize.ShloMosaic.TcCoe Cert.KernelIdeal Cert.KernelIdeal.Gen Cert.Sb

/-- A block of rows and lanes holds the reals `X`. -/
abbrev IsR {s₀ s₁ : ℕ} (x : (⟨2, ![s₀, s₁]⟩ : Shape).Idx → EReal) (X : Fin s₀ → Fin s₁ → ℝ) : Prop := ∀ a b, x (ix2 a b) = (X a b : EReal)

section
variable {Q K D V : Fin 256 → Fin 128 → ℝ} {P : Fin 256 → Fin 256 → Prop} [∀ a b, Decidable (P a b)] {T U : Fin 256 → Fin 256 → ℝ}
  {R E : Fin 256 → ℝ} {Lb Su Ee Dz Ww : Fin 256 → Fin 256 → ℝ} {N : Fin 128 → ℝ} {Old : Fin 256 → Fin 128 → ℝ}
  {q kk dd vv : FVec Ideal S256x128 .bf16} {M : IVec S256x256 1} {lb suf e : FVec Ideal S256x256 .f32} {r ep : FVec Ideal S256x1 .f32}
  {u : Ideal .f32} {half : FVec Ideal S1x128 .bf16} {old : FVec Ideal S256x128 .f32} {tri : Vec Ideal S1x256x256 .bf16}

theorem z_tile (hq : IsR q Q) (hk : IsR kk K) : IsR (k0_pay15 (F := Ideal) q kk) (fun a b => ∑ x, Q a x * K b x) := by
  intro a b
  pointwise [k0_pay15]
  exact sum_real fun x _ => by rw [hq, hk, EReal.coe_mul]

theorem lb_tile (hq : IsR q Q) (hk : IsR kk K) : IsR (k0_pay16 (F := Ideal) q kk) (fun a b => lsg (∑ x, Q a x * K b x)) := by
  intro a b
  pointwise [k0_pay16]
  rw [z_tile hq hk a b, coe_absf, coe_lsg]

theorem suf_tile {i : grid0.Coords} {arg1 v57 v58 c1 : BitVec 32} {v3 v4 : IVec S256x256 32} {k : Fin (k0_t1_loop i v57).trips}
    (hq : IsR q Q) (hk : IsR kk K) (hM : ∀ a b, k0_pay13 i arg1 v3 v4 v57 v58 c1 k (ix2 a b) = BitVec.ofBool (decide (P a b)))
    (hT : ∀ a b, tri (ix3 0 a b) = (T a b : EReal)) :
    IsR (k0_pay17 (F := Ideal) i arg1 v3 v4 q v57 v58 c1 k kk tri)
      (fun a b => ∑ x, (if P a x then lsg (∑ y, Q a y * K x y) - ∑ y, Q a y * K x y else 0) * T x b) := by
  intro a b
  pointwise [k0_pay17]
  refine sum_real fun x _ => ?_
  rw [hM, sel_dec, z_tile hq hk a x, lb_tile hq hk a x, hT]
  split <;> simp

theorem r_tile {i : grid0.Coords} {v57 v58 c1 : BitVec 32} {v20 : IVec S256x128 32} {k : Fin (k0_t1_loop i v57).trips}
    {v99 : Vec Ideal S1x1x256x128 .f32} {Rs : Fin 256 → Fin 128 → ℝ} {kb : Fin 128}
    (hA : ∀ a l, k0_pay14 i v20 v57 v58 c1 k (ix2 a l) = BitVec.ofBool (decide (l = kb)))
    (hR : ∀ a l, v99 (ix4 0 0 a l) = (Rs a l : EReal)) (a : Fin 256) :
    k0_pay18 (F := Ideal) i v20 v57 v58 c1 k v99 (ix2 a 0) = (Rs a kb : EReal) := by
  pointwise [k0_pay18]
  rw [sum_real (g := fun l => if l = kb then Rs a l else 0) fun l _ => by rw [hA, sel_dec, hR]; split <;> simp]
  simp

theorem w_tile (hM : ∀ a b, M (ix2 a b) = BitVec.ofBool (decide (P a b))) (hl : IsR lb Lb) (hs : IsR suf Su)
    (hr : ∀ a, r (ix2 a 0) = (R a : EReal)) (hu : u = ⊥) :
    IsR (k0_pay20 (F := Ideal) M lb suf r u) (fun a b => if P a b then Real.exp (Lb a b + Su a b + R a) else 0) := by
  intro a b
  pointwise [k0_pay20, k0_pay19]
  rw [hM, sel_dec, hs, hr]
  split
  · rw [hl, ← EReal.coe_add, ← EReal.coe_add, Ideal.exp_coe]
  · rw [hu, EReal.bot_add, EReal.bot_add, Ideal.exp_bot, EReal.coe_zero]

theorem beta_tile (hM : ∀ a b, M (ix2 a b) = BitVec.ofBool (decide (P a b))) (hl : IsR lb Lb) (hu : u = ⊥) (a b : Fin 256) :
    Ideal.exp (k0_pay19 (F := Ideal) M lb u (ix2 a b)) = ((if P a b then Real.exp (Lb a b) else 0 : ℝ) : EReal) := by
  pointwise [k0_pay19]
  rw [hM, sel_dec]
  split
  · rw [hl, Ideal.exp_coe]
  · rw [hu, Ideal.exp_bot, EReal.coe_zero]

theorem e_tile (hd : IsR dd D) (hv : IsR vv V) (hw : IsR (k0_pay20 (F := Ideal) M lb suf r u) Ww) :
    IsR (k0_pay21 (F := Ideal) dd vv M lb suf r u) (fun a b => (∑ x, D a x * V b x) * Ww a b) := by
  intro a b
  pointwise [k0_pay21]
  rw [hw a b, sum_real (g := fun x => D a x * V b x) fun x _ => by rw [hd, hv, EReal.coe_mul], EReal.coe_mul]

theorem dz_tile (he : IsR (k0_pay21 (F := Ideal) dd vv M lb suf r u) Ee)
    (hb : ∀ a b, Ideal.exp (k0_pay19 (F := Ideal) M lb u (ix2 a b)) = ((Lb a b : ℝ) : EReal))
    (hE : ∀ a, ep (ix2 a 0) = (E a : EReal)) (hU : ∀ a b, tri (ix3 0 a b) = (U a b : EReal)) :
    IsR (k0_pay22 (F := Ideal) dd ep vv M lb suf r u tri)
      (fun a b => Ee a b - Lb a b * (Ee a b + (E a + ∑ x, Ee a x * U x b))) := by
  intro a b
  pointwise [k0_pay22]
  rw [he a b, hb, hE, sum_real (g := fun x => Ee a x * U x b) fun x _ => by rw [he a x, hU, EReal.coe_mul]]
  simp only [← EReal.coe_add, ← EReal.coe_mul, ← EReal.coe_sub]

theorem dq_tile (hz : IsR (k0_pay22 (F := Ideal) dd ep vv M lb suf r u tri) Dz) (hk : IsR kk K) (hh : ∀ l, half (ix2 0 l) = (N l : EReal))
    (ho : IsR old Old) :
    IsR (k0_pay23 (F := Ideal) half dd ep kk vv M lb suf r u tri old) (fun a l => Old a l + ∑ x, Dz a x * (K x l * N l)) := by
  intro a l
  pointwise [k0_pay23]
  rw [ho, sum_real (g := fun x => Dz a x * (K x l * N l)) fun x _ => by rw [hz a x, hk, hh, EReal.coe_mul, EReal.coe_mul], EReal.coe_add]

theorem dk_tile (hz : IsR (k0_pay22 (F := Ideal) dd ep vv M lb suf r u tri) Dz) (hq : IsR q Q) (ho : IsR old Old) :
    IsR (k0_pay24 (F := Ideal) q dd ep vv M lb suf r u tri old) (fun b l => Old b l + ∑ x, Dz x b * Q x l) := by
  intro b l
  pointwise [k0_pay24]
  rw [ho, sum_real (g := fun x => Dz x b * Q x l) fun x _ => by rw [hz x b, hq, EReal.coe_mul], EReal.coe_add]

theorem dv_tile (hw : IsR (k0_pay20 (F := Ideal) M lb suf r u) Ww) (hd : IsR dd D) (ho : IsR old Old) :
    IsR (k0_pay25 (F := Ideal) dd M lb suf r u old) (fun b l => Old b l + ∑ x, Ww x b * D x l) := by
  intro b l
  pointwise [k0_pay25]
  rw [ho, sum_real (g := fun x => Ww x b * D x l) fun x _ => by rw [hw x b, hd, EReal.coe_mul], EReal.coe_add]

theorem ep_tile (he : IsR e Ee) (hE : ∀ a, ep (ix2 a 0) = (E a : EReal)) (a : Fin 256) :
    k0_pay26 (F := Ideal) ep e (ix2 a 0) = ((E a + ∑ x, Ee a x : ℝ) : EReal) := by
  pointwise [k0_pay26]
  rw [hE, sum_real fun x _ => he a x, EReal.coe_add]

end
end Cert.KernelIdeal.Sb
end
end
-- ==== Proof.Trip.lean ====
module
public import proofs.«01_k».proof.Proof.Gen.KernelIdeal.Loops
public import Idealize.ShloMosaic.Lib.VecWindow
public import Idealize.ShloMosaic.Lib.Pointwise
@[expose] public section
set_option maxRecDepth 16384
/-! One trip of the key loop, its two heads written with the same payloads. -/
noncomputable section
namespace Cert.KernelIdeal.Sb
open Idealize.ShloMosaic Idealize.ShloMosaic.TcCoe Idealize.ShloMosaic.Tactic Cert.KernelIdeal Cert.KernelIdeal.Gen
variable {F : FTy → Type} [FloatOps F] [Named F]

/-- The literal that stands for an unseen pair's log weight. -/
abbrev unseen : F .f32 := Named.named κ "unseen" 0xF149F2CA#32

/-- What a trip reads and does not write: the blocks of keys and of values, the two triangles and the saved sums of each head. -/
structure Reads (F : FTy → Type) where
  kk : Vec F S256x128 .bf16
  vv : Vec F S256x128 .bf16
  t0 : Vec F S1x256x256 .bf16
  t1 : Vec F S1x256x256 .bf16
  rs0 : Vec F S1x1x256x128 .f32
  rs1 : Vec F S1x1x256x128 .f32

section
variable (i : grid0.Coords) (arg1 v57 v58 : BitVec 32) (v3 v4 : IVec S256x256 32) (v20 : IVec S256x128 32) (k : Fin (k0_t1_loop i v57).trips)
  (X : Reads F) (q d : FVec F S256x128 .bf16) (half : FVec F S1x128 .bf16) (rs : Vec F S1x1x256x128 .f32) (ep : FVec F S256x1 .f32)
  (old : FVec F S256x128 .f32)

/-- The tile's mask. -/
abbrev hM : IVec S256x256 1 := k0_pay13 i arg1 v3 v4 v57 v58 1#32 k
/-- The tile's suffix sums. -/
abbrev hS : FVec F S256x256 .f32 := k0_pay17 i arg1 v3 v4 q v57 v58 1#32 k X.kk X.t0
/-- The rows' sums over the later tiles. -/
abbrev hR : FVec F S256x1 .f32 := k0_pay18 i v20 v57 v58 1#32 k rs
/-- One head's part of the gradient of the queries. -/
abbrev hQ : FVec F S256x128 .f32 :=
  k0_pay23 half d ep X.kk X.vv (hM i arg1 v57 v58 v3 v4 k) (k0_pay16 q X.kk) (hS i arg1 v57 v58 v3 v4 k X q) (hR i v57 v58 v20 k rs) unseen X.t1 old
/-- One head's part of the gradient of the keys. -/
abbrev hK : FVec F S256x128 .f32 :=
  k0_pay24 q d ep X.vv (hM i arg1 v57 v58 v3 v4 k) (k0_pay16 q X.kk) (hS i arg1 v57 v58 v3 v4 k X q) (hR i v57 v58 v20 k rs) unseen X.t1 old
/-- One head's part of the gradient of the values. -/
abbrev hV : FVec F S256x128 .f32 :=
  k0_pay25 d (hM i arg1 v57 v58 v3 v4 k) (k0_pay16 q X.kk) (hS i arg1 v57 v58 v3 v4 k X q) (hR i v57 v58 v20 k rs) unseen old
/-- One head's running sums after the tile. -/
abbrev hE : FVec F S256x1 .f32 :=
  k0_pay26 ep (k0_pay21 d X.vv (hM i arg1 v57 v58 v3 v4 k) (k0_pay16 q X.kk) (hS i arg1 v57 v58 v3 v4 k X q) (hR i v57 v58 v20 k rs) unseen)
end

variable (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole) (arg1 : BitVec 32) (v3 : IVec S256x256 32) (v4 : IVec S256x256 32) (v10 : FVec F S1x128 .bf16) (v15 : FVec F S1x128 .bf16) (v20 : IVec S256x128 32) (v23 : FVec F S256x128 .bf16) (v25 : FVec F S256x128 .bf16) (v29 : FVec F S256x128 .bf16) (v31 : FVec F S256x128 .bf16) (v57 : BitVec 32) (k0_hw1 : k0_chk1 i v57) (v58 : BitVec 32) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i v57).trips)

/-- What trip `k` reads. -/
abbrev readsOf : Reads F where
  kk := View.readAt (Elt F) arg3.view (Rect.unit (s := S4096x128) (k0_off1 i v57 k) S256x128.size (k0_off1_inb i v57 k0_hw1 k)).toLoadRect X_arg3
  vv := View.readAt (Elt F) arg4.view (Rect.unit (s := S4096x128) (k0_off1 i v57 k) S256x128.size (k0_off1_inb i v57 k0_hw1 k)).toLoadRect X_arg4
  t0 := View.readAt (Elt F) arg7.view (Rect.unit (s := S2x256x256) ![0, 0, 0] S1x256x256.size inb_S2x256x256_S1x256x256_0_0_0).toLoadRect X_arg7
  t1 := View.readAt (Elt F) arg7.view (Rect.unit (s := S2x256x256) ![1, 0, 0] S1x256x256.size inb_S2x256x256_S1x256x256_1_0_0).toLoadRect X_arg7
  rs0 := View.readAt (Elt F) arg5.view (Rect.unit (s := S1x2x256x128) ![0, 0, 0, 0] S1x1x256x128.size inb_S1x2x256x128_S1x1x256x128_0_0_0_0).toLoadRect X_arg5
  rs1 := View.readAt (Elt F) arg5.view (Rect.unit (s := S1x2x256x128) ![0, 1, 0, 0] S1x1x256x128.size inb_S1x2x256x128_S1x1x256x128_0_1_0_0).toLoadRect X_arg5

theorem trip_R (acc : FVec F S256x1 .f32 × FVec F S256x1 .f32) (f_arg8 : BufTy.Contents (Elt F) arg8.view.ty) (f_arg9 : BufTy.Contents (Elt F) arg9.view.ty) (f_arg10 : BufTy.Contents (Elt F) arg10.view.ty) :
    tripR_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10
      = (hE i arg1 v57 v58 v3 v4 v20 k (readsOf i arg3 arg4 arg5 arg7 v57 k0_hw1 X_arg3 X_arg4 X_arg5 X_arg7 k) v23 v29 (readsOf i arg3 arg4 arg5 arg7 v57 k0_hw1 X_arg3 X_arg4 X_arg5 X_arg7 k).rs0 acc.1, hE i arg1 v57 v58 v3 v4 v20 k (readsOf i arg3 arg4 arg5 arg7 v57 k0_hw1 X_arg3 X_arg4 X_arg5 X_arg7 k) v25 v31 (readsOf i arg3 arg4 arg5 arg7 v57 k0_hw1 X_arg3 X_arg4 X_arg5 X_arg7 k).rs1 acc.2) := by
  unfold tripR_k0_t1 trip_k0_t1
  rfl

theorem trip_8 (acc : FVec F S256x1 .f32 × FVec F S256x1 .f32) (f_arg8 : BufTy.Contents (Elt F) arg8.view.ty) (f_arg9 : BufTy.Contents (Elt F) arg9.view.ty) (f_arg10 : BufTy.Contents (Elt F) arg10.view.ty) :
    arg8.view.read (Elt F) (arg8.view.writes (Elt F) f_arg8 (tripL_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10).1)
      = hQ i arg1 v57 v58 v3 v4 v20 k (readsOf i arg3 arg4 arg5 arg7 v57 k0_hw1 X_arg3 X_arg4 X_arg5 X_arg7 k) v25 v31 v15 (readsOf i arg3 arg4 arg5 arg7 v57 k0_hw1 X_arg3 X_arg4 X_arg5 X_arg7 k).rs1 acc.2
          (hQ i arg1 v57 v58 v3 v4 v20 k (readsOf i arg3 arg4 arg5 arg7 v57 k0_hw1 X_arg3 X_arg4 X_arg5 X_arg7 k) v23 v29 v10 (readsOf i arg3 arg4 arg5 arg7 v57 k0_hw1 X_arg3 X_arg4 X_arg5 X_arg7 k).rs0 acc.1 (arg8.view.read (Elt F) f_arg8)) := by
  unfold tripL_k0_t1 trip_k0_t1
  dsimp only
  rw [View.read_writes_full]
  have e : trip_k0_t1.sl.v192 i arg3 arg4 arg5 arg7 arg8 arg1 v3 v4 v10 v20 v23 v29 v57 k0_hw1 v58 X_arg3 X_arg4 X_arg5 X_arg7 k acc f_arg8
      = hQ i arg1 v57 v58 v3 v4 v20 k (readsOf i arg3 arg4 arg5 arg7 v57 k0_hw1 X_arg3 X_arg4 X_arg5 X_arg7 k) v23 v29 v10 (readsOf i arg3 arg4 arg5 arg7 v57 k0_hw1 X_arg3 X_arg4 X_arg5 X_arg7 k).rs0 acc.1
          (View.readAt (Elt F) arg8.view (Rect.unit ![0, 0] S256x128.size inb_S256x128_S256x128_0_0).toLoadRect f_arg8) := by
    unfold trip_k0_t1.sl.v192 trip_k0_t1.sl.HW_arg8_1
    rw [View.readCov_full]
    rfl
  rw [e, View.readAt_full]
  rfl

/-- A load through the rectangle just stored reads what was stored. -/
theorem load_stored {sig : RefSig} {κ : Kind} {sp : Space} {s : Shape} {e : EltTy} {Val : EltTy → Type} (v : View sig κ sp s e)
    (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

theorem trip_9_in (acc : FVec F S256x1 .f32 × FVec F S256x1 .f32) (f_arg8 : BufTy.Contents (Elt F) arg8.view.ty) (f_arg9 : BufTy.Contents (Elt F) arg9.view.ty) (f_arg10 : BufTy.Contents (Elt F) arg10.view.ty) (o : ℕ) (ho : k0_off1 i v57 k = ![o, 0]) (y : S4096x128.Idx) (b : Fin 256) (l : Fin 128)
    (h0 : (y 0).val = o + b.val) (h1 : (y 1).val = l.val) :
    arg9.view.read (Elt F) (arg9.view.writes (Elt F) f_arg9 (tripL_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10).2.1) y
      = hK i arg1 v57 v58 v3 v4 v20 k (readsOf i arg3 arg4 arg5 arg7 v57 k0_hw1 X_arg3 X_arg4 X_arg5 X_arg7 k) v25 v31 (readsOf i arg3 arg4 arg5 arg7 v57 k0_hw1 X_arg3 X_arg4 X_arg5 X_arg7 k).rs1 acc.2
          (hK i arg1 v57 v58 v3 v4 v20 k (readsOf i arg3 arg4 arg5 arg7 v57 k0_hw1 X_arg3 X_arg4 X_arg5 X_arg7 k) v23 v29 (readsOf i arg3 arg4 arg5 arg7 v57 k0_hw1 X_arg3 X_arg4 X_arg5 X_arg7 k).rs0 acc.1
            (View.readAt (Elt F) arg9.view (Rect.unit (s := S4096x128) (k0_off1 i v57 k) S256x128.size (k0_off1_inb i v57 k0_hw1 k)).toLoadRect f_arg9)) (ix2 b l) := by
  unfold tripL_k0_t1 trip_k0_t1
  dsimp only
  rw [View.read_writes_cons_rows_of_mem (size := ![256, 128]) _ _ _ _ _ _ (ix2 b l) ho h0 h1]
  unfold trip_k0_t1.sl.HW_arg9_1
  rw [load_stored]
  rfl

theorem trip_9_out (acc : FVec F S256x1 .f32 × FVec F S256x1 .f32) (f_arg8 : BufTy.Contents (Elt F) arg8.view.ty) (f_arg9 : BufTy.Contents (Elt F) arg9.view.ty) (f_arg10 : BufTy.Contents (Elt F) arg10.view.ty) (o : ℕ) (ho : k0_off1 i v57 k = ![o, 0]) (y : S4096x128.Idx) (hy : (y 0).val < o ∨ o + 256 ≤ (y 0).val) :
    arg9.view.read (Elt F) (arg9.view.writes (Elt F) f_arg9 (tripL_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10).2.1) y
      = arg9.view.read (Elt F) f_arg9 y := by
  unfold tripL_k0_t1 trip_k0_t1
  dsimp only
  rw [View.read_writes_cons_rows_of_not_mem (size := ![256, 128]) _ _ _ _ _ _ ho rfl hy]
  unfold trip_k0_t1.sl.HW_arg9_1
  rw [View.read_writes_cons_rows_of_not_mem (size := ![256, 128]) _ _ _ _ _ _ ho rfl hy]
  rfl

theorem trip_10_in (acc : FVec F S256x1 .f32 × FVec F S256x1 .f32) (f_arg8 : BufTy.Contents (Elt F) arg8.view.ty) (f_arg9 : BufTy.Contents (Elt F) arg9.view.ty) (f_arg10 : BufTy.Contents (Elt F) arg10.view.ty) (o : ℕ) (ho : k0_off1 i v57 k = ![o, 0]) (y : S4096x128.Idx) (b : Fin 256) (l : Fin 128)
    (h0 : (y 0).val = o + b.val) (h1 : (y 1).val = l.val) :
    arg10.view.read (Elt F) (arg10.view.writes (Elt F) f_arg10 (tripL_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10).2.2) y
      = hV i arg1 v57 v58 v3 v4 v20 k (readsOf i arg3 arg4 arg5 arg7 v57 k0_hw1 X_arg3 X_arg4 X_arg5 X_arg7 k) v25 v31 (readsOf i arg3 arg4 arg5 arg7 v57 k0_hw1 X_arg3 X_arg4 X_arg5 X_arg7 k).rs1
          (hV i arg1 v57 v58 v3 v4 v20 k (readsOf i arg3 arg4 arg5 arg7 v57 k0_hw1 X_arg3 X_arg4 X_arg5 X_arg7 k) v23 v29 (readsOf i arg3 arg4 arg5 arg7 v57 k0_hw1 X_arg3 X_arg4 X_arg5 X_arg7 k).rs0
            (View.readAt (Elt F) arg10.view (Rect.unit (s := S4096x128) (k0_off1 i v57 k) S256x128.size (k0_off1_inb i v57 k0_hw1 k)).toLoadRect f_arg10)) (ix2 b l) := by
  unfold tripL_k0_t1 trip_k0_t1
  dsimp only
  rw [View.read_writes_cons_rows_of_mem (size := ![256, 128]) _ _ _ _ _ _ (ix2 b l) ho h0 h1]
  unfold trip_k0_t1.sl.HW_arg10_1
  rw [load_stored]
  rfl

theorem trip_10_out (acc : FVec F S256x1 .f32 × FVec F S256x1 .f32) (f_arg8 : BufTy.Contents (Elt F) arg8.view.ty) (f_arg9 : BufTy.Contents (Elt F) arg9.view.ty) (f_arg10 : BufTy.Contents (Elt F) arg10.view.ty) (o : ℕ) (ho : k0_off1 i v57 k = ![o, 0]) (y : S4096x128.Idx) (hy : (y 0).val < o ∨ o + 256 ≤ (y 0).val) :
    arg10.view.read (Elt F) (arg10.view.writes (Elt F) f_arg10 (tripL_k0_t1 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 k acc f_arg8 f_arg9 f_arg10).2.2) y
      = arg10.view.read (Elt F) f_arg10 y := by
  unfold tripL_k0_t1 trip_k0_t1
  dsimp only
  rw [View.read_writes_cons_rows_of_not_mem (size := ![256, 128]) _ _ _ _ _ _ ho rfl hy]
  unfold trip_k0_t1.sl.HW_arg10_1
  rw [View.read_writes_cons_rows_of_not_mem (size := ![256, 128]) _ _ _ _ _ _ ho rfl hy]
  rfl

end Cert.KernelIdeal.Sb
end
end
-- ==== Proof.Head.lean ====
module
public import proofs.«01_k».proof.Proof.Spec
public import proofs.«01_k».proof.Proof.Tile
public import proofs.«01_k».proof.Proof.Trip
@[expose] public section
set_option maxRecDepth 16384
/-! One head of one trip, in the reals of the specification. -/
noncomputable section
namespace Cert.KernelIdeal.Sb
open Idealize.ShloMosaic Idealize.ShloMosaic.TcCoe Cert.KernelIdeal Cert.KernelIdeal.Gen Cert.Sb Finset

theorem toInt_small (x : ℕ) (h : x < 2 ^ 31) : (BitVec.ofNat 32 x).toInt = x := by
  rw [BitVec.toInt_eq_toNat_of_lt (by simp; omega), BitVec.toNat_ofNat, Nat.mod_eq_of_lt (by omega)]

theorem mask_word : ∀ (i kb : ℕ) (_ : i < 16) (_ : kb < 16) (a b : Fin 256),
    IntOp.cmpi .slt (BitVec.ofNat 32 b.val) (IntOp.addi (BitVec.ofNat 32 a.val)
      (Scalar.subi (Scalar.muli (BitVec.ofNat 32 i) 256#32) (Scalar.muli (BitVec.ofNat 32 kb) 256#32)))
      = BitVec.ofBool (decide (256 * kb + b.val < 256 * i + a.val)) := by
  intro i kb hi hk a b
  have ha := a.isLt
  have hb := b.isLt
  have e : IntOp.addi (BitVec.ofNat 32 a.val)
      (Scalar.subi (Scalar.muli (BitVec.ofNat 32 i) 256#32) (Scalar.muli (BitVec.ofNat 32 kb) 256#32))
      = BitVec.ofInt 32 ((256 * i + a.val : ℕ) - (256 * kb : ℕ) : ℤ) := by
    unfold IntOp.addi Scalar.subi Scalar.muli IntOp.subi IntOp.muli
    apply BitVec.eq_of_toInt_eq
    simp only [BitVec.toInt_add, BitVec.toInt_sub, BitVec.toInt_mul, BitVec.toInt_ofNat, BitVec.toInt_ofInt]
    simp only [Int.bmod_add_bmod, Int.add_bmod_bmod, Int.sub_bmod_bmod, Int.bmod_sub_bmod, Int.bmod_mul_bmod, Int.mul_bmod_bmod]
    rw [toInt_small a.val (by omega), toInt_small i (by omega), toInt_small kb (by omega)]
    congr 1
    push_cast
    ring
  rw [e]
  unfold IntOp.cmpi
  congr 1
  show BitVec.slt _ _ = _
  rw [BitVec.slt_eq_decide]
  congr 1
  rw [BitVec.toInt_ofInt, toInt_small _ (by omega), Int.bmod_eq_of_le (by omega) (by omega)]
  apply propext
  omega

section
variable {i : grid0.Coords} {arg1 v57 v58 : BitVec 32} {v3 v4 : IVec S256x256 32} {v20 : IVec S256x128 32} {k : Fin (k0_t1_loop i v57).trips}
  {n kb : ℕ} {z g : ℕ → ℕ → ℝ} {KR VR : ℕ → Fin 128 → ℝ} {Q D : Fin 256 → Fin 128 → ℝ} {N : Fin 128 → ℝ} {Rs : Fin 256 → Fin 128 → ℝ}
  {Old : Fin 256 → Fin 128 → ℝ}
  {X : Reads Ideal} {q d : FVec Ideal S256x128 .bf16} {half : FVec Ideal S1x128 .bf16} {rs : Vec Ideal S1x1x256x128 .f32}
  {ep : FVec Ideal S256x1 .f32} {old : FVec Ideal S256x128 .f32}

/-- What a trip of key block `kb` at query block `n` finds in the vectors common to both heads. -/
structure Common (i : grid0.Coords) (arg1 v57 v58 : BitVec 32) (v3 v4 : IVec S256x256 32) (v20 : IVec S256x128 32)
    (k : Fin (k0_t1_loop i v57).trips) (n kb : ℕ) (KR VR : ℕ → Fin 128 → ℝ) (X : Reads Ideal) : Prop where
  hn : n < 16
  hkb : kb < 16
  arg : arg1 = BitVec.ofNat 32 n
  iv : Scf.iv v58 1#32 k = BitVec.ofNat 32 kb
  row : ∀ a b : Fin 256, v3 (ix2 a b) = BitVec.ofNat 32 a.val
  col : ∀ a b : Fin 256, v4 (ix2 a b) = BitVec.ofNat 32 b.val
  lane : ∀ (a : Fin 256) (l : Fin 128), v20 (ix2 a l) = BitVec.ofNat 32 l.val
  key : IsR X.kk fun b l => KR (256 * kb + b.val) l
  val : IsR X.vv fun b l => VR (256 * kb + b.val) l
  gt : ∀ a b : Fin 256, X.t0 (ix3 0 a b) = ((if b < a then 1 else 0 : ℝ) : EReal)
  lt : ∀ a b : Fin 256, X.t1 (ix3 0 a b) = ((if a < b then 1 else 0 : ℝ) : EReal)

/-- What it finds in one head's vectors. -/
structure OneHead (n kb : ℕ) (z g : ℕ → ℕ → ℝ) (KR VR : ℕ → Fin 128 → ℝ) (Q D : Fin 256 → Fin 128 → ℝ) (q d : FVec Ideal S256x128 .bf16)
    (rs : Vec Ideal S1x1x256x128 .f32) (ep : FVec Ideal S256x1 .f32) : Prop where
  hq : IsR q Q
  hd : IsR d D
  hz : ∀ a : Fin 256, ∀ s, z (256 * n + a.val) s = ∑ l, Q a l * KR s l
  hg : ∀ a : Fin 256, ∀ s, g (256 * n + a.val) s = ∑ l, D a l * VR s l
  hrs : ∃ Rs : Fin 256 → Fin 128 → ℝ, (∀ a l, rs (ix4 0 0 a l) = (Rs a l : EReal))
    ∧ ∀ a, ∀ l : Fin 128, l.val = kb → Rs a l = ∑ u ∈ Ico (256 * kb + 256) 4096, ell z (256 * n + a.val) u
  hep : ∀ a : Fin 256, ep (ix2 a 0) = ((∑ u ∈ range (256 * kb), ee z g (256 * n + a.val) u : ℝ) : EReal)

theorem head_mask (C : Common i arg1 v57 v58 v3 v4 v20 k n kb KR VR X) (a b : Fin 256) :
    k0_pay13 i arg1 v3 v4 v57 v58 1#32 k (ix2 a b) = BitVec.ofBool (decide (256 * kb + b.val < 256 * n + a.val)) := by
  pointwise [k0_pay13]
  rw [C.row, C.col, C.iv, C.arg]
  exact mask_word n kb C.hn C.hkb a b

theorem head_at (C : Common i arg1 v57 v58 v3 v4 v20 k n kb KR VR X) (a : Fin 256) (l : Fin 128) :
    k0_pay14 i v20 v57 v58 1#32 k (ix2 a l) = BitVec.ofBool (decide (l = ⟨kb, by have := C.hkb; omega⟩)) := by
  pointwise [k0_pay14]
  have := C.hkb
  have := l.isLt
  rw [C.lane, C.iv]
  unfold IntOp.cmpi
  congr 1
  show (BitVec.ofNat 32 l.val == BitVec.ofNat 32 kb) = _
  rw [Bool.eq_iff_iff, beq_iff_eq, decide_eq_true_iff, Fin.ext_iff]
  constructor
  · intro h
    have := congrArg BitVec.toNat h
    rw [BitVec.toNat_ofNat, BitVec.toNat_ofNat, Nat.mod_eq_of_lt (by omega), Nat.mod_eq_of_lt (by omega)] at this
    exact this
  · intro h; rw [h]

theorem head_w (C : Common i arg1 v57 v58 v3 v4 v20 k n kb KR VR X) (O : OneHead n kb z g KR VR Q D q d rs ep) :
    IsR (k0_pay20 (F := Ideal) (hM i arg1 v57 v58 v3 v4 k) (k0_pay16 q X.kk) (hS i arg1 v57 v58 v3 v4 k X q) (hR i v57 v58 v20 k rs) unseen)
      fun a b => ww z (256 * n + a.val) (256 * kb + b.val) := by
  obtain ⟨Rs, h1, h2⟩ := O.hrs
  have hkb := C.hkb
  intro a b
  refine (w_tile (head_mask C) (lb_tile O.hq C.key) (suf_tile O.hq C.key (head_mask C) C.gt) (fun a => r_tile (head_at C) h1 a) rfl a b).trans (congrArg _ ?_)
  dsimp only
  unfold ww later
  refine if_congr Iff.rfl (congrArg _ ?_) rfl
  rw [← O.hz, add_assoc]
  congr 1
  rw [h2 a _ rfl]
  have e : ∀ x : Fin 256, (if 256 * kb + x.val < 256 * n + a.val
      then lsg (∑ y, Q a y * KR (256 * kb + x.val) y) - ∑ y, Q a y * KR (256 * kb + x.val) y else 0) = ell z (256 * n + a.val) (256 * kb + x.val) := by
    intro x; unfold ell; rw [← O.hz]
  simp only [e]
  rw [sum_after (ell z (256 * n + a.val)), Finset.sum_Ico_consecutive _ (by have := b.isLt; omega) (by omega)]

theorem head_e (C : Common i arg1 v57 v58 v3 v4 v20 k n kb KR VR X) (O : OneHead n kb z g KR VR Q D q d rs ep) :
    IsR (k0_pay21 (F := Ideal) d X.vv (hM i arg1 v57 v58 v3 v4 k) (k0_pay16 q X.kk) (hS i arg1 v57 v58 v3 v4 k X q) (hR i v57 v58 v20 k rs) unseen)
      fun a b => ee z g (256 * n + a.val) (256 * kb + b.val) := by
  intro a b
  refine (e_tile O.hd C.val (head_w C O) a b).trans (congrArg _ ?_)
  dsimp only
  rw [← O.hg]
  rfl

theorem head_dz (C : Common i arg1 v57 v58 v3 v4 v20 k n kb KR VR X) (O : OneHead n kb z g KR VR Q D q d rs ep) :
    IsR (k0_pay22 (F := Ideal) d ep X.vv (hM i arg1 v57 v58 v3 v4 k) (k0_pay16 q X.kk) (hS i arg1 v57 v58 v3 v4 k X q) (hR i v57 v58 v20 k rs) unseen X.t1)
      fun a b => dzz z g (256 * n + a.val) (256 * kb + b.val) := by
  intro a b
  refine (dz_tile (head_e C O) (beta_tile (head_mask C) (lb_tile O.hq C.key) rfl) O.hep C.lt a b).trans (congrArg _ ?_)
  dsimp only
  unfold dzz bet pp
  rw [← O.hz, sum_before (ee z g (256 * n + a.val)), Finset.sum_range_add_sum_Ico _ (by omega)]

theorem head_Q (C : Common i arg1 v57 v58 v3 v4 v20 k n kb KR VR X) (O : OneHead n kb z g KR VR Q D q d rs ep)
    (hh : ∀ l, half (ix2 0 l) = (N l : EReal)) (ho : IsR old Old) :
    IsR (hQ i arg1 v57 v58 v3 v4 v20 k X q d half rs ep old)
      fun a l => Old a l + ∑ u ∈ Ico (256 * kb) (256 * kb + 256), dzz z g (256 * n + a.val) u * (KR u l * N l) := by
  intro a l
  refine (dq_tile (head_dz C O) C.key hh ho a l).trans (congrArg _ ?_)
  dsimp only
  rw [← sum_block]

theorem head_K (C : Common i arg1 v57 v58 v3 v4 v20 k n kb KR VR X) (O : OneHead n kb z g KR VR Q D q d rs ep) (ho : IsR old Old) :
    IsR (hK i arg1 v57 v58 v3 v4 v20 k X q d rs ep old)
      fun b l => Old b l + ∑ a : Fin 256, dzz z g (256 * n + a.val) (256 * kb + b.val) * Q a l :=
  dk_tile (head_dz C O) O.hq ho

theorem head_V (C : Common i arg1 v57 v58 v3 v4 v20 k n kb KR VR X) (O : OneHead n kb z g KR VR Q D q d rs ep) (ho : IsR old Old) :
    IsR (hV i arg1 v57 v58 v3 v4 v20 k X q d rs old)
      fun b l => Old b l + ∑ a : Fin 256, ww z (256 * n + a.val) (256 * kb + b.val) * D a l :=
  dv_tile (head_w C O) O.hd ho

theorem head_E (C : Common i arg1 v57 v58 v3 v4 v20 k n kb KR VR X) (O : OneHead n kb z g KR VR Q D q d rs ep) (a : Fin 256) :
    hE i arg1 v57 v58 v3 v4 v20 k X q d rs ep (ix2 a 0) = ((∑ u ∈ range (256 * kb + 256), ee z g (256 * n + a.val) u : ℝ) : EReal) := by
  refine (ep_tile (head_e C O) O.hep a).trans (congrArg _ ?_)
  rw [sum_block (ee z g (256 * n + a.val)), Finset.sum_range_add_sum_Ico _ (by omega)]

end
end Cert.KernelIdeal.Sb
end
end
-- ==== Proof.Words.lean ====
module
public import proofs.«01_k».proof.Proof.Head
public import proofs.«01_k».proof.Proof.Count
public import proofs.«01_k».proof.Proof.Chk
@[expose] public section
set_option maxRecDepth 16384
/-! What the loops' bounds are where no column of the saved sums is dead, and the vectors the body makes before its loops. -/
noncomputable section
namespace Cert.KernelIdeal.Sb
open Idealize.ShloMosaic Idealize.ShloMosaic.TcCoe Cert.KernelIdeal Cert.KernelIdeal.Gen Cert.Sb Finset

theorem min_zero (n : ℕ) (hn : n < 16) : Scalar.minsi 0#32 (nkbW n) = 0#32 := by
  rw [minsi_eq n hn 0#32 (by decide)]; simp

theorem loop1_trips : ∀ n : Fin 16, (loop1 n.val 0#32).trips = n.val + 1 := by decide +kernel
theorem loop2_trips : ∀ n : Fin 16, (loop2 n.val 0#32).trips = 0 := by decide +kernel

theorem t1_trips (i : grid0.Coords) (hn : (i 1).val < 16) : (k0_t1_loop i 0#32).trips = (i 1).val + 1 := by
  refine Eq.trans ?_ (loop1_trips ⟨(i 1).val, hn⟩)
  show (loop1 (i 1).val (Scalar.minsi 0#32 (nkbW (i 1).val))).trips = _
  rw [min_zero _ hn]

theorem t2_trips (i : grid0.Coords) (hn : (i 1).val < 16) : (k0_t2_loop i 0#32).trips = 0 := by
  refine Eq.trans ?_ (loop2_trips ⟨(i 1).val, hn⟩)
  show (loop2 (i 1).val (Scalar.minsi 0#32 (nkbW (i 1).val))).trips = _
  rw [min_zero _ hn]

theorem iv_zero (k : ℕ) : Scf.iv 0#32 1#32 k = BitVec.ofNat 32 k := by
  unfold Scf.iv
  simp

theorem t1_off (i : grid0.Coords) (hn : (i 1).val < 16) (k : Fin (k0_t1_loop i 0#32).trips) : k0_off1 i 0#32 k = ![256 * k.val, 0] := by
  have hk : k.val < (i 1).val + 1 := lt_of_lt_of_eq k.isLt (t1_trips i hn)
  show ![(Scalar.indexCast (Scalar.muli (Scf.iv (Scalar.minsi 0#32 (nkbW (i 1).val)) 1#32 k.val) 256#32)).toNat, 0] = _
  rw [min_zero _ hn, iv_zero]
  congr 1
  show (BitVec.ofNat 32 k.val * 256#32).toNat = _
  rw [BitVec.toNat_mul, BitVec.toNat_ofNat, Nat.mod_eq_of_lt (show k.val < 2 ^ 32 by omega)]
  show k.val * 256 % 2 ^ 32 = _
  rw [Nat.mod_eq_of_lt (by omega)]; ring

theorem slt_half : ∀ l : Fin 128, IntOp.cmpi .slt (BitVec.ofNat 32 l.val) 64#32 = if l.val / 64 = 0 then 1#1 else 0#1 := by decide +kernel
theorem sge_half : ∀ l : Fin 128, IntOp.cmpi .sge (BitVec.ofNat 32 l.val) 64#32 = if l.val / 64 = 1 then 1#1 else 0#1 := by decide +kernel

theorem sitofp_bit (p : Prop) [Decidable p] :
    (FloatOps.sitofp .f32 (BitVec.setWidth 32 (if p then 1#1 else 0#1)) : Ideal .f32) = ((if p then 1 else 0 : ℝ) : EReal) := by
  show ((((BitVec.setWidth 32 (if p then 1#1 else 0#1)).toInt : ℝ)) : EReal) = _
  congr 1
  split <;> simp

/-- No column is dead: the count is zero. -/
theorem count_zero (v35 : BitVec 32) (v37 : FVec Ideal S256x128 .f32) (v40 : Vec Ideal S1x1x256x128 .f32)
    (h : ∀ l : Fin 128, ∃ a : Fin 256, ⊥ < v37 (ix2 a l)) : Scalar.fptosi 32 (k0_pay1 v35 v37 v40) = 0#32 := by
  refine (count_ideal _).trans ?_
  rw [Finset.sum_eq_zero]
  intro i _
  unfold lanes
  generalize Shape.reshapeEquiv shapeCasts_S1x128_S1x1x128 i = j
  idx_vars j
  pointwise
  have e : (Named.named κ "dead" 3269197824#32 : Ideal .f32) = (⊥ : EReal) := rfl
  obtain ⟨a, ha⟩ := h j1
  rw [e, decide_eq_false]
  · show (0#1 &&& _).toNat = 0
    simp
  · refine not_le.mpr (lt_max_of_lt_left ?_)
    rw [Finset.lt_fold_max]
    exact Or.inr ⟨a, Finset.mem_univ _, ha⟩

theorem half0_at (l : Fin 128) : k0_pay57 (F := Ideal) (ix2 0 l) = ((if l.val / 64 = 0 then 1 else 0 : ℝ) : EReal) := by
  pointwise [k0_pay57]
  rw [slt_half]; exact sitofp_bit _
theorem half1_at (l : Fin 128) : k0_pay58 (F := Ideal) (ix2 0 l) = ((if l.val / 64 = 1 then 1 else 0 : ℝ) : EReal) := by
  pointwise [k0_pay58]
  rw [sge_half]; exact sitofp_bit _
theorem lane_at (a : Fin 256) (l : Fin 128) : k0_pay59 (ix2 a l) = BitVec.ofNat 32 l.val := by
  pointwise [k0_pay59]
  have e : ∀ a : Fin 256, IntOp.minsi (BitVec.ofNat 32 a.val) 0#32 = 0#32 := by decide +kernel
  rw [e]; exact BitVec.add_zero _
theorem q0_at (x : Vec Ideal S256x128 .bf16) (a : Fin 256) (l : Fin 128) : k0_pay60 x (ix2 a l) = x (ix2 a l) * k0_pay57 (F := Ideal) (ix2 0 l) := by
  pointwise [k0_pay60]
theorem q1_at (x : Vec Ideal S256x128 .bf16) (a : Fin 256) (l : Fin 128) : k0_pay61 x (ix2 a l) = x (ix2 a l) * k0_pay58 (F := Ideal) (ix2 0 l) := by
  pointwise [k0_pay61]
theorem d0_at (x : Vec Ideal S256x128 .f32) (a : Fin 256) (l : Fin 128) : k0_pay63 x (ix2 a l) = x (ix2 a l) * k0_pay57 (F := Ideal) (ix2 0 l) := by
  pointwise [k0_pay63, k0_pay62]
theorem d1_at (x : Vec Ideal S256x128 .f32) (a : Fin 256) (l : Fin 128) : k0_pay64 x (ix2 a l) = x (ix2 a l) * k0_pay58 (F := Ideal) (ix2 0 l) := by
  pointwise [k0_pay64, k0_pay62]
theorem rs_at (x : Vec Ideal S1x1x256x128 .f32) (a : Fin 256) (l : Fin 128) : k0_pay66 x (ix2 a l) = x (ix4 0 0 a l) := by
  pointwise [k0_pay66]
theorem zero_at (a : Fin 256) : k0_pay2 (F := Ideal) (ix2 a 0) = ((0 : ℝ) : EReal) := by
  pointwise [k0_pay2]; exact EReal.coe_zero.symm
theorem fill65 (j : S256x128.Idx) : k0_pay65 (F := Ideal) j = ((0 : ℝ) : EReal) := by
  idx_vars j; pointwise [k0_pay65]; exact EReal.coe_zero.symm
theorem fill55 (j : S4096x128.Idx) : k0_pay55 (F := Ideal) j = ((0 : ℝ) : EReal) := by
  idx_vars j; pointwise [k0_pay55]; exact EReal.coe_zero.symm
theorem fill56 (j : S4096x128.Idx) : k0_pay56 (F := Ideal) j = ((0 : ℝ) : EReal) := by
  idx_vars j; pointwise [k0_pay56]; exact EReal.coe_zero.symm

end Cert.KernelIdeal.Sb
end
end
-- ==== Proof.HostAt.lean ====
module
public import proofs.«01_k».proof.Proof.Host
public import proofs.«01_k».proof.Proof.Spec
public import proofs.«01_k».proof.Proof.Words
@[expose] public section
set_option maxRecDepth 16384
/-! The host's values at an index, in the reals of the specification. -/
noncomputable section
namespace Cert.Sb
open Idealize.ShloMosaic Idealize.ShloMosaic.TcCoe Idealize.ShloMosaic.Tactic Finset

/-- The score of a query and a key in one head. -/
def zz (Q K : ℕ → ℕ → ℝ) (h t s : ℕ) : ℝ := ∑ d : Fin 64, Q t (64 * h + d.val) * K s (64 * h + d.val)

theorem softplus_real (r : ℝ) :
    (if (r : EReal) ≠ (r : EReal) then (r : EReal) else max (r : EReal) 0 + Ideal.log1p (Ideal.exp (-(FloatOps.absf (F := Ideal) (φ := .f32) (r : EReal)))))
      = ((-lsg (-r) : ℝ) : EReal) := by
  have p : ¬ (1 + Real.exp (-|r|) ≤ 0) := by have : 0 < Real.exp (-|r|) := Real.exp_pos _; linarith
  rw [if_neg (by simp), coe_absf, ← EReal.coe_neg, Ideal.exp_coe]
  unfold Ideal.log1p
  rw [← EReal.coe_one, ← EReal.coe_add, Ideal.log_coe, if_neg p, ← EReal.coe_zero, ← EReal.coe_strictMono.monotone.map_max, ← EReal.coe_add]
  congr 1
  unfold lsg sft
  rw [abs_neg, show min (-r) 0 = -max r 0 by rw [← neg_zero, min_neg_neg, neg_zero]]
  ring
end Cert.Sb

namespace Cert.KernelIdeal.Sb
open Cert.KernelIdeal Cert.KernelIdeal.Gen Idealize.ShloMosaic Idealize.ShloMosaic.TcCoe Idealize.ShloMosaic.Tactic Cert.Sb Finset

theorem hd_at (x : FVec Ideal S4096x1024 .bf16) (X : ℕ → ℕ → ℝ) (hx : ∀ (t : Fin 4096) (e : Fin 1024), x (ix2 t e) = (X t.val e.val : EReal))
    (h : Fin 16) (t : Fin 4096) (d : Fin 64) : hdH x (ix3 h t d) = (X t.val (64 * h.val + d.val) : EReal) := by
  pointwise [hdH]
  rw [hx]
  dsimp only
  rw [mul_comm]

theorem slt_words : ∀ s t : ℕ, s < 4096 → t < 4096 → IntOp.cmpi .slt (BitVec.ofNat 32 s) (BitVec.ofNat 32 t) = if s < t then 1#1 else 0#1 := by
  intro s t hs ht
  show BitVec.ofBool (BitVec.slt (BitVec.ofNat 32 s) (BitVec.ofNat 32 t)) = _
  rw [BitVec.slt_eq_decide, toInt_small _ (by omega), toInt_small _ (by omega)]
  by_cases h : s < t
  · rw [if_pos h, decide_eq_true (by omega)]; rfl
  · rw [if_neg h, decide_eq_false (by omega)]; rfl

theorem msk_at (t s : Fin 4096) : mskH (ix2 t s) = if s.val < t.val then 1#1 else 0#1 := by
  pointwise [mskH]
  exact slt_words _ _ s.isLt t.isLt

theorem sp_at (x : FVec Ideal S16x4096x4096 .f32) (h : Fin 16) (t s : Fin 4096) (r : ℝ) (hx : x (ix3 h t s) = (r : EReal)) :
    spH x (ix3 h t s) = ((-lsg (-r) : ℝ) : EReal) := by
  pointwise [spH, hx]
  exact softplus_real r

/-- A row's block, as a word. -/
def fdW (t : ℕ) : BitVec 32 :=
  Scalar.select
      (IntOp.andi
        (IntOp.cmpi CmpIPredicate.ne
          (if BitVec.ofNat 32 t = 0 then (0 : BitVec 32) else if (BitVec.ofNat 32 t).msb = true then -1 else 1)
          (if 256#32 = 0 then (0 : BitVec 32) else if (256#32).msb = true then -1 else 1))
        (IntOp.cmpi CmpIPredicate.ne (IntOp.remsi ArithUnit.host (BitVec.ofNat 32 t) 256#32) 0#32))
      (IntOp.subi (IntOp.divsi ArithUnit.host (BitVec.ofNat 32 t) 256#32) 1#32)
      (IntOp.divsi ArithUnit.host (BitVec.ofNat 32 t) 256#32)

theorem fdW_eq : ∀ t : Fin 4096, fdW t.val = BitVec.ofNat 32 (t.val / 256) := by decide +kernel

theorem fd_at (t : Fin 4096) : fdH (ix1 t) = BitVec.ofNat 32 (t.val / 256) := by
  rw [← fdW_eq]
  pointwise [fdH]
  rfl

theorem seen_at (t : Fin 4096) (b : Fin 16) : seenH (ix2 t b) = if b.val ≤ t.val / 256 then 1#1 else 0#1 := by
  pointwise [seenH]
  rw [fd_at]
  show BitVec.ofBool (BitVec.sle (BitVec.ofNat 32 b.val) (BitVec.ofNat 32 (t.val / 256))) = _
  rw [BitVec.sle_eq_decide, toInt_small _ (by omega), toInt_small _ (by omega)]
  by_cases h : b.val ≤ t.val / 256
  · rw [if_pos h, decide_eq_true (by omega)]; rfl
  · rw [if_neg h, decide_eq_false (by omega)]; rfl

/-- The sentinel's bits are a real's. -/
theorem sentinel_real : ∃ r : ℝ, (Ideal.ofBits .f32 0xF149F2CA#32 : EReal) = (r : EReal) := by
  simp only [Ideal.ofBits, Ideal.ieee]
  simp [-EReal.coe_mul]
  exact ⟨_, (EReal.coe_neg _).symm⟩

section
variable {q k : FVec Ideal S4096x1024 .bf16} {Q K : ℕ → ℕ → ℝ}
  (hq : ∀ (t : Fin 4096) (e : Fin 1024), q (ix2 t e) = (Q t.val e.val : EReal)) (hk : ∀ (t : Fin 4096) (e : Fin 1024), k (ix2 t e) = (K t.val e.val : EReal))
include hq hk

theorem z_at (h : Fin 16) (t s : Fin 4096) : zH q k (ix3 h t s) = (zz Q K h.val t.val s.val : EReal) := by
  pointwise [zH]
  refine sum_real fun d _ => ?_
  rw [hd_at q Q hq, hd_at k K hk, ← EReal.coe_mul]

theorem ell_at (h : Fin 16) (t s : Fin 4096) : ellH q k (ix3 h t s) = (ell (zz Q K h.val) t.val s.val : EReal) := by
  pointwise [ellH]
  rw [msk_at, sp_at _ h t s (zz Q K h.val t.val s.val) (by pointwise; rw [z_at hq hk, neg_neg])]
  unfold ell
  by_cases hs : s.val < t.val
  · rw [if_pos hs, if_pos hs, ← EReal.coe_neg, neg_neg, lsg_neg]; rfl
  · rw [if_neg hs, if_neg hs]
    show Ideal.ofBits .f32 0x00000000#32 = _
    simp [Ideal.ofBits, Ideal.ieee]

theorem cum_at (h : Fin 16) (t s : Fin 4096) :
    cumH q k (ix3 h t s) = ((∑ u ∈ Ico s.val 4096, ell (zz Q K h.val) t.val u : ℝ) : EReal) := by
  refine Eq.trans ?_ (cum_after reduceWindows_S16x4096x4096_S16x4096x4096_w1s1p0_0_w1s1p0_0_w4096s1p0_4095 (ellH q k) (fun h t s => ell (zz Q K h) t s) (ell_at hq hk) h t s)
  unfold cumH Host.reduceWindowAdd
  rw [Ideal.hostReduceWindowAdd_def]
  congr 1
  simp [broadcastInDim, constant, Ideal.ofBits, Ideal.ieee]

theorem blk_at (h : Fin 16) (t : Fin 4096) (b : Fin 16) :
    blkH q k (ix3 h t b) = ((∑ u ∈ Ico (256 * b.val + 256) 4096, ell (zz Q K h.val) t.val u : ℝ) : EReal) := by
  pointwise [blkH]
  by_cases hb : b.val < 15
  · rw [dif_pos hb, cum_at hq hk]
    dsimp only
    rw [add_comm]
  · rw [dif_neg hb, Ico_eq_empty (by omega), sum_empty]
    show (((0#32).toInt : ℝ) : EReal) = _
    simp

theorem rs_seen (p : Fin 8) (h : Fin 2) (t : Fin 4096) (l : Fin 128) (hl : l.val ≤ t.val / 256) :
    rsH q k (ix4 p h t l) = ((∑ u ∈ Ico (256 * l.val + 256) 4096, ell (zz Q K (2 * p.val + h.val)) t.val u : ℝ) : EReal) := by
  pointwise [rsH]
  rw [dif_pos (by omega), seen_at, blk_at hq hk]
  dsimp only
  rw [if_pos hl, mul_comm p.val]
  rfl

theorem rs_some (p : Fin 8) (h : Fin 2) (t : Fin 4096) (l : Fin 128) : ∃ r : ℝ, rsH q k (ix4 p h t l) = (r : EReal) := by
  by_cases hl : l.val ≤ t.val / 256
  · exact ⟨_, rs_seen hq hk p h t l hl⟩
  · obtain ⟨r, hr⟩ := sentinel_real
    refine ⟨r, ?_⟩
    pointwise [rsH]
    split
    · rw [seen_at]
      dsimp only
      rw [if_neg hl]
      exact hr
    · exact hr
end

theorem tri_gt (a b : Fin 256) : triH (ix3 0 a b) = ((if b < a then 1 else 0 : ℝ) : EReal) := by
  pointwise [triH]
  rw [show IntOp.cmpi .sgt (BitVec.ofNat 32 a.val) (BitVec.ofNat 32 b.val) = IntOp.cmpi .slt (BitVec.ofNat 32 b.val) (BitVec.ofNat 32 a.val) from rfl,
    slt_words _ _ (by omega) (by omega)]
  show ((((if b.val < a.val then 1#1 else 0#1 : BitVec 1).toNat : ℝ)) : EReal) = _
  congr 1
  by_cases h : b.val < a.val
  · rw [if_pos h, if_pos (Fin.lt_def.2 h)]; simp
  · rw [if_neg h, if_neg (fun h' => h (Fin.lt_def.1 h'))]; simp

theorem tri_lt (a b : Fin 256) : triH (ix3 1 a b) = ((if a < b then 1 else 0 : ℝ) : EReal) := by
  pointwise [triH]
  rw [slt_words _ _ (by omega) (by omega)]
  show ((((if a.val < b.val then 1#1 else 0#1 : BitVec 1).toNat : ℝ)) : EReal) = _
  congr 1
  by_cases h : a.val < b.val
  · rw [if_pos h, if_pos (Fin.lt_def.2 h)]; simp
  · rw [if_neg h, if_neg (fun h' => h (Fin.lt_def.1 h'))]; simp
end Cert.KernelIdeal.Sb
-- ==== Proof.Blocks.lean ====
module
public import proofs.«01_k».proof.Proof.HostAt
public import proofs.«01_k».proof.Proof.Launched
public import Idealize.ShloMosaic.Lib.Pipeline.ValueKit
@[expose] public section
set_option maxRecDepth 16384
/-! What each grid point's input blocks hold. -/
noncomputable section
namespace Cert.KernelIdeal.Sb
open Cert.KernelIdeal Cert.KernelIdeal.Gen Idealize.ShloMosaic Idealize.ShloMosaic.TcCoe Idealize.ShloMosaic.Tactic Idealize.SL.Sem Cert.Sb Finset

theorem idx : ∀ t : Fin cfg0.N, win0_0.index t = ![t.val % 16, t.val / 16] ∧ win0_1.index t = ![0, t.val / 16] ∧ win0_2.index t = ![0, t.val / 16]
    ∧ win0_3.index t = ![t.val / 16, 0, t.val % 16, 0] ∧ win0_4.index t = ![t.val % 16, t.val / 16] ∧ win0_5.index t = ![0, 0, 0]
    ∧ win0_6.index t = ![t.val % 16, t.val / 16] ∧ win0_7.index t = ![0, t.val / 16] ∧ win0_8.index t = ![0, t.val / 16] :=
  (by decide +kernel : ∀ t : Fin grid0.N, _)

variable (t : Fin cfg0.N)

theorem pt_lt : t.val < 128 := lt_of_lt_of_eq t.isLt N_0

theorem rd0 (A : FVec Ideal S4096x1024 .bf16) (a : Fin 256) (l : Fin 128) (r : Fin 4096) (e : Fin 1024) (hr : r.val = 256 * (t.val % 16) + a.val) (he : e.val = 128 * (t.val / 16) + l.val) :
    (((cfg0.win 0).blk t).view.read (Elt Ideal) A : FVec Ideal S256x128 .bf16) (ix2 a l) = A (ix2 r e) := by
  blk_ext [idx t]

theorem rd1 (A : FVec Ideal S4096x1024 .bf16) (s : Fin 4096) (l : Fin 128) (e : Fin 1024) (he : e.val = 128 * (t.val / 16) + l.val) :
    (((cfg0.win 1).blk t).view.read (Elt Ideal) A : FVec Ideal S4096x128 .bf16) (ix2 s l) = A (ix2 s e) := by
  blk_ext [idx t]

theorem rd2 (A : FVec Ideal S4096x1024 .bf16) (s : Fin 4096) (l : Fin 128) (e : Fin 1024) (he : e.val = 128 * (t.val / 16) + l.val) :
    (((cfg0.win 2).blk t).view.read (Elt Ideal) A : FVec Ideal S4096x128 .bf16) (ix2 s l) = A (ix2 s e) := by
  blk_ext [idx t]

theorem rd3 (A : FVec Ideal S8x2x4096x128 .f32) (h : Fin 2) (a : Fin 256) (l : Fin 128) (p : Fin 8) (r : Fin 4096) (hp : p.val = t.val / 16) (hr : r.val = 256 * (t.val % 16) + a.val) :
    (((cfg0.win 3).blk t).view.read (Elt Ideal) A : FVec Ideal S1x2x256x128 .f32) (ix4 0 h a l) = A (ix4 p h r l) := by
  blk_ext [idx t]

theorem rd4 (A : FVec Ideal S4096x1024 .f32) (a : Fin 256) (l : Fin 128) (r : Fin 4096) (e : Fin 1024) (hr : r.val = 256 * (t.val % 16) + a.val) (he : e.val = 128 * (t.val / 16) + l.val) :
    (((cfg0.win 4).blk t).view.read (Elt Ideal) A : FVec Ideal S256x128 .f32) (ix2 a l) = A (ix2 r e) := by
  blk_ext [idx t]

theorem rd5 (A : FVec Ideal S2x256x256 .bf16) (h : Fin 2) (a b : Fin 256) :
    (((cfg0.win 5).blk t).view.read (Elt Ideal) A : FVec Ideal S2x256x256 .bf16) (ix3 h a b) = A (ix3 h a b) := by
  blk_ext [idx t]

variable (m : (ℓ : Loc nD τ sig) → Buf (Elt Ideal) ℓ) (c : Dev nD)

theorem blk0 (a : Fin 256) (l : Fin 128) (r : Fin 4096) (e : Fin 1024) (hr : r.val = 256 * (t.val % 16) + a.val) (he : e.val = 128 * (t.val / 16) + l.val) :
    (iblk m c 0 t : FVec Ideal S256x128 .bf16) (ix2 a l) = (m ((c : Thread nD τ).loc main_arg0) : FVec Ideal S4096x1024 .bf16) (ix2 r e) :=
  (rd0 t (V m c main_arg0) a l r e hr he).trans (congrFun (V_main_arg0 m c) _)

theorem blk1 (s : Fin 4096) (l : Fin 128) (e : Fin 1024) (he : e.val = 128 * (t.val / 16) + l.val) :
    (iblk m c 1 t : FVec Ideal S4096x128 .bf16) (ix2 s l) = (m ((c : Thread nD τ).loc main_arg1) : FVec Ideal S4096x1024 .bf16) (ix2 s e) :=
  (rd1 t (V m c main_arg1) s l e he).trans (congrFun (V_main_arg1 m c) _)

theorem blk2 (s : Fin 4096) (l : Fin 128) (e : Fin 1024) (he : e.val = 128 * (t.val / 16) + l.val) :
    (iblk m c 2 t : FVec Ideal S4096x128 .bf16) (ix2 s l) = (m ((c : Thread nD τ).loc main_arg2) : FVec Ideal S4096x1024 .bf16) (ix2 s e) :=
  (rd2 t (V m c main_arg2) s l e he).trans (congrFun (V_main_arg2 m c) _)

theorem blk3 (h : Fin 2) (a : Fin 256) (l : Fin 128) (p : Fin 8) (r : Fin 4096) (hp : p.val = t.val / 16) (hr : r.val = 256 * (t.val % 16) + a.val) :
    (iblk m c 3 t : FVec Ideal S1x2x256x128 .f32) (ix4 0 h a l) = rsH (m ((c : Thread nD τ).loc main_arg0)) (m ((c : Thread nD τ).loc main_arg1)) (ix4 p h r l) :=
  (rd3 t (V m c main_v28) h a l p r hp hr).trans (congrFun (V_rs m c) _)

theorem blk4 (a : Fin 256) (l : Fin 128) (r : Fin 4096) (e : Fin 1024) (hr : r.val = 256 * (t.val % 16) + a.val) (he : e.val = 128 * (t.val / 16) + l.val) :
    (iblk m c 4 t : FVec Ideal S256x128 .f32) (ix2 a l) = (m ((c : Thread nD τ).loc main_arg3) : FVec Ideal S4096x1024 .f32) (ix2 r e) :=
  (rd4 t (V m c main_arg3) a l r e hr he).trans (congrFun (V_main_arg3 m c) _)

theorem blk5 (h : Fin 2) (a b : Fin 256) :
    (iblk m c 5 t : FVec Ideal S2x256x256 .bf16) (ix3 h a b) = triH (ix3 h a b) :=
  (rd5 t (V m c main_v43) h a b).trans (congrFun (V_tri m c) _)

end Cert.KernelIdeal.Sb
-- ==== Proof.Loop.lean ====
module
public import proofs.«01_k».proof.Proof.Head
@[expose] public section
set_option maxRecDepth 16384
/-! The key loop, by induction over its trips. -/
noncomputable section
namespace Cert.KernelIdeal.Sb
open Idealize.ShloMosaic Idealize.ShloMosaic.TcCoe Idealize.ShloMosaic.Tactic Cert.KernelIdeal Cert.KernelIdeal.Gen Cert.Sb Finset

theorem idx_rows {o : Fin 2 → ℕ} {inb} (p : ℕ) (ho : o = ![p, 0]) (b : Fin 256) (l : Fin 128) (h : p + b.val < 4096) :
    (Rect.unit (s := S4096x128) o S256x128.size inb).toLoadRect.idx (ix2 b l) = ix2 ⟨p + b.val, h⟩ l := by
  subst ho
  funext x
  apply Fin.ext
  fin_cases x
  · show p + 1 * b.val = p + b.val; omega
  · show 0 + 1 * l.val = l.val; omega

theorem unit_val {s : Shape} {off size : Fin s.rank → ℕ} {inb} (x : (Rect.unit (s := s) off size inb).toLoadRect.shape.Idx) (d : Fin s.rank) :
    ((Rect.unit (s := s) off size inb).toLoadRect.idx x d).val = off d + (x d).val := by
  show off d + 1 * (x d).val = _
  omega

/-- What the loop finds: the blocks, the two heads' parts of queries and gradients, the saved sums. -/
structure Found (n : ℕ) (z0 z1 g0 g1 : ℕ → ℕ → ℝ) (KR VR : ℕ → Fin 128 → ℝ) (Q0 Q1 D0 D1 : Fin 256 → Fin 128 → ℝ) (N0 N1 : Fin 128 → ℝ)
    (Rs : Fin 2 → Fin 256 → Fin 128 → ℝ) (i : grid0.Coords) (arg1 v57 v58 : BitVec 32) (v3 v4 : IVec S256x256 32) (v20 : IVec S256x128 32)
    (v10 v15 : FVec Ideal S1x128 .bf16) (v23 v25 v29 v31 : FVec Ideal S256x128 .bf16)
    (k3 k4 : S4096x128.Idx → EReal) (k5 : S1x2x256x128.Idx → EReal) (k7 : S2x256x256.Idx → EReal) : Prop where
  hn : n < 16
  arg : arg1 = BitVec.ofNat 32 n
  iv : ∀ k : Fin (k0_t1_loop i v57).trips, Scf.iv v58 1#32 k = BitVec.ofNat 32 k.val
  off : ∀ k : Fin (k0_t1_loop i v57).trips, k0_off1 i v57 k = ![256 * k.val, 0]
  trips : (k0_t1_loop i v57).trips = n + 1
  row : ∀ a b : Fin 256, v3 (ix2 a b) = BitVec.ofNat 32 a.val
  col : ∀ a b : Fin 256, v4 (ix2 a b) = BitVec.ofNat 32 b.val
  lane : ∀ (a : Fin 256) (l : Fin 128), v20 (ix2 a l) = BitVec.ofNat 32 l.val
  key : ∀ (s : Fin 4096) (l : Fin 128), k3 (ix2 s l) = (KR s.val l : EReal)
  val : ∀ (s : Fin 4096) (l : Fin 128), k4 (ix2 s l) = (VR s.val l : EReal)
  gt : ∀ a b : Fin 256, k7 (ix3 0 a b) = ((if b < a then 1 else 0 : ℝ) : EReal)
  lt : ∀ a b : Fin 256, k7 (ix3 1 a b) = ((if a < b then 1 else 0 : ℝ) : EReal)
  rs : ∀ (h : Fin 2) (a : Fin 256) (l : Fin 128), k5 (ix4 0 h a l) = (Rs h a l : EReal)
  rs0 : ∀ (a : Fin 256) (l : Fin 128), l.val ≤ n → Rs 0 a l = ∑ u ∈ Ico (256 * l.val + 256) 4096, ell z0 (256 * n + a.val) u
  rs1 : ∀ (a : Fin 256) (l : Fin 128), l.val ≤ n → Rs 1 a l = ∑ u ∈ Ico (256 * l.val + 256) 4096, ell z1 (256 * n + a.val) u
  q0 : IsR v23 Q0
  q1 : IsR v25 Q1
  d0 : IsR v29 D0
  d1 : IsR v31 D1
  half0 : ∀ l, v10 (ix2 0 l) = (N0 l : EReal)
  half1 : ∀ l, v15 (ix2 0 l) = (N1 l : EReal)
  hz0 : ∀ a : Fin 256, ∀ s, z0 (256 * n + a.val) s = ∑ l, Q0 a l * KR s l
  hz1 : ∀ a : Fin 256, ∀ s, z1 (256 * n + a.val) s = ∑ l, Q1 a l * KR s l
  hg0 : ∀ a : Fin 256, ∀ s, g0 (256 * n + a.val) s = ∑ l, D0 a l * VR s l
  hg1 : ∀ a : Fin 256, ∀ s, g1 (256 * n + a.val) s = ∑ l, D1 a l * VR s l

/-- What the loop has left after `k` trips. -/
structure Left (n k : ℕ) (z0 z1 g0 g1 : ℕ → ℕ → ℝ) (KR VR : ℕ → Fin 128 → ℝ) (Q0 Q1 D0 D1 : Fin 256 → Fin 128 → ℝ) (N0 N1 : Fin 128 → ℝ)
    (A9 A10 : Fin 4096 → Fin 128 → ℝ) (acc : FVec Ideal S256x1 .f32 × FVec Ideal S256x1 .f32)
    (r8 : S256x128.Idx → EReal) (r9 r10 : S4096x128.Idx → EReal) : Prop where
  e0 : ∀ a : Fin 256, acc.1 (ix2 a 0) = ((∑ u ∈ range (256 * k), ee z0 g0 (256 * n + a.val) u : ℝ) : EReal)
  e1 : ∀ a : Fin 256, acc.2 (ix2 a 0) = ((∑ u ∈ range (256 * k), ee z1 g1 (256 * n + a.val) u : ℝ) : EReal)
  dq : ∀ (a : Fin 256) (l : Fin 128), r8 (ix2 a l) = ((∑ u ∈ range (256 * k), dzz z0 g0 (256 * n + a.val) u * (KR u l * N0 l)
      + ∑ u ∈ range (256 * k), dzz z1 g1 (256 * n + a.val) u * (KR u l * N1 l) : ℝ) : EReal)
  dk : ∀ (s : Fin 4096) (l : Fin 128), r9 (ix2 s l) = ((A9 s l + if s.val < 256 * k then ∑ a : Fin 256, dzz z0 g0 (256 * n + a.val) s.val * Q0 a l
      + ∑ a : Fin 256, dzz z1 g1 (256 * n + a.val) s.val * Q1 a l else 0 : ℝ) : EReal)
  dv : ∀ (s : Fin 4096) (l : Fin 128), r10 (ix2 s l) = ((A10 s l + if s.val < 256 * k then ∑ a : Fin 256, ww z0 (256 * n + a.val) s.val * D0 a l
      + ∑ a : Fin 256, ww z1 (256 * n + a.val) s.val * D1 a l else 0 : ℝ) : EReal)

section
variable (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole) (arg1 : BitVec 32) (v3 : IVec S256x256 32) (v4 : IVec S256x256 32) (v10 : FVec Ideal S1x128 .bf16) (v15 : FVec Ideal S1x128 .bf16) (v20 : IVec S256x128 32) (v23 : FVec Ideal S256x128 .bf16) (v25 : FVec Ideal S256x128 .bf16) (v29 : FVec Ideal S256x128 .bf16) (v31 : FVec Ideal S256x128 .bf16) (v57 : BitVec 32) (k0_hw1 : k0_chk1 i v57) (v58 : BitVec 32) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty)
  (G8 : BufTy.Contents (Elt Ideal) arg8.view.ty) (G9 : BufTy.Contents (Elt Ideal) arg9.view.ty) (G10 : BufTy.Contents (Elt Ideal) arg10.view.ty) (init : FVec Ideal S256x1 .f32 × FVec Ideal S256x1 .f32)
  {n : ℕ} {z0 z1 g0 g1 : ℕ → ℕ → ℝ} {KR VR : ℕ → Fin 128 → ℝ} {Q0 Q1 D0 D1 : Fin 256 → Fin 128 → ℝ} {N0 N1 : Fin 128 → ℝ} {Rs : Fin 2 → Fin 256 → Fin 128 → ℝ}
  {A9 A10 : Fin 4096 → Fin 128 → ℝ}
  (FD : Found n z0 z1 g0 g1 KR VR Q0 Q1 D0 D1 N0 N1 Rs i arg1 v57 v58 v3 v4 v20 v10 v15 v23 v25 v29 v31 (arg3.view.read (Elt Ideal) X_arg3) (arg4.view.read (Elt Ideal) X_arg4) (arg5.view.read (Elt Ideal) X_arg5) (arg7.view.read (Elt Ideal) X_arg7))
include FD

theorem found_common (k : Fin (k0_t1_loop i v57).trips) : Common i arg1 v57 v58 v3 v4 v20 k n k.val KR VR (readsOf i arg3 arg4 arg5 arg7 v57 k0_hw1 X_arg3 X_arg4 X_arg5 X_arg7 k) := by
  have hk : k.val < n + 1 := lt_of_lt_of_eq k.isLt FD.trips
  have hn := FD.hn
  refine ⟨FD.hn, by omega, FD.arg, FD.iv k, FD.row, FD.col, FD.lane, fun b l => ?_, fun b l => ?_, fun a b => ?_, fun a b => ?_⟩
  · unfold readsOf; dsimp only
    rw [View.readAt_apply, idx_rows _ (FD.off k) b l (by omega)]; exact FD.key _ _
  · unfold readsOf; dsimp only
    rw [View.readAt_apply, idx_rows _ (FD.off k) b l (by omega)]; exact FD.val _ _
  · refine Eq.trans ?_ (FD.gt a b)
    unfold readsOf; dsimp only
    rw [View.readAt_apply]; congr 1; funext x; apply Fin.ext; fin_cases x
    · rfl
    · exact (unit_val _ _).trans (Nat.zero_add _)
    · exact (unit_val _ _).trans (Nat.zero_add _)
  · refine Eq.trans ?_ (FD.lt a b)
    unfold readsOf; dsimp only
    rw [View.readAt_apply]; congr 1; funext x; apply Fin.ext; fin_cases x
    · rfl
    · exact (unit_val _ _).trans (Nat.zero_add _)
    · exact (unit_val _ _).trans (Nat.zero_add _)

theorem found_rs0 (k : Fin (k0_t1_loop i v57).trips) (a : Fin 256) (l : Fin 128) : (readsOf i arg3 arg4 arg5 arg7 v57 k0_hw1 X_arg3 X_arg4 X_arg5 X_arg7 k).rs0 (ix4 0 0 a l) = (Rs 0 a l : EReal) := by
  refine Eq.trans ?_ (FD.rs 0 a l)
  unfold readsOf; dsimp only
  rw [View.readAt_apply]; congr 1; funext x; apply Fin.ext; fin_cases x
  · rfl
  · rfl
  · exact (unit_val _ _).trans (Nat.zero_add _)
  · exact (unit_val _ _).trans (Nat.zero_add _)

theorem found_rs1 (k : Fin (k0_t1_loop i v57).trips) (a : Fin 256) (l : Fin 128) : (readsOf i arg3 arg4 arg5 arg7 v57 k0_hw1 X_arg3 X_arg4 X_arg5 X_arg7 k).rs1 (ix4 0 0 a l) = (Rs 1 a l : EReal) := by
  refine Eq.trans ?_ (FD.rs 1 a l)
  unfold readsOf; dsimp only
  rw [View.readAt_apply]; congr 1; funext x; apply Fin.ext; fin_cases x
  · rfl
  · rfl
  · exact (unit_val _ _).trans (Nat.zero_add _)
  · exact (unit_val _ _).trans (Nat.zero_add _)

theorem found_head0 (k : Fin (k0_t1_loop i v57).trips) (ep : FVec Ideal S256x1 .f32)
    (h : ∀ a : Fin 256, ep (ix2 a 0) = ((∑ u ∈ range (256 * k.val), ee z0 g0 (256 * n + a.val) u : ℝ) : EReal)) :
    OneHead n k.val z0 g0 KR VR Q0 D0 v23 v29 (readsOf i arg3 arg4 arg5 arg7 v57 k0_hw1 X_arg3 X_arg4 X_arg5 X_arg7 k).rs0 ep := by
  have hk : k.val < n + 1 := lt_of_lt_of_eq k.isLt FD.trips
  exact ⟨FD.q0, FD.d0, FD.hz0, FD.hg0, ⟨Rs 0, fun a l => found_rs0 (FD := FD) (k := k) (k0_hw1 := k0_hw1) (a := a) (l := l) .., fun a l hl => by rw [← hl]; exact FD.rs0 a l (by omega)⟩, h⟩

theorem found_head1 (k : Fin (k0_t1_loop i v57).trips) (ep : FVec Ideal S256x1 .f32)
    (h : ∀ a : Fin 256, ep (ix2 a 0) = ((∑ u ∈ range (256 * k.val), ee z1 g1 (256 * n + a.val) u : ℝ) : EReal)) :
    OneHead n k.val z1 g1 KR VR Q1 D1 v25 v31 (readsOf i arg3 arg4 arg5 arg7 v57 k0_hw1 X_arg3 X_arg4 X_arg5 X_arg7 k).rs1 ep := by
  have hk : k.val < n + 1 := lt_of_lt_of_eq k.isLt FD.trips
  exact ⟨FD.q1, FD.d1, FD.hz1, FD.hg1, ⟨Rs 1, fun a l => found_rs1 (FD := FD) (k := k) (k0_hw1 := k0_hw1) (a := a) (l := l) .., fun a l hl => by rw [← hl]; exact FD.rs1 a l (by omega)⟩, h⟩

theorem left_zero (h1 : ∀ a : Fin 256, init.1 (ix2 a 0) = ((0 : ℝ) : EReal)) (h2 : ∀ a : Fin 256, init.2 (ix2 a 0) = ((0 : ℝ) : EReal))
    (h8 : ∀ (a : Fin 256) (l : Fin 128), arg8.view.read (Elt Ideal) G8 (ix2 a l) = ((0 : ℝ) : EReal))
    (h9 : ∀ (s : Fin 4096) (l : Fin 128), arg9.view.read (Elt Ideal) G9 (ix2 s l) = (A9 s l : EReal))
    (h10 : ∀ (s : Fin 4096) (l : Fin 128), arg10.view.read (Elt Ideal) G10 (ix2 s l) = (A10 s l : EReal)) :
    Left n (0) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.2)) := by
  refine ⟨fun a => (h1 a).trans (by simp), fun a => (h2 a).trans (by simp), fun a l => (h8 a l).trans (by simp), fun s l => (h9 s l).trans (by simp), fun s l => (h10 s l).trans (by simp)⟩

theorem left_succ (k : Fin (k0_t1_loop i v57).trips) (L : Left n (k.val) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).2.2.2))) : Left n (k.val+1) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val+1)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val+1)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val+1)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val+1)).2.2.2)) := by
  have hk : k.val < n + 1 := lt_of_lt_of_eq k.isLt FD.trips
  have hn := FD.hn
  have C := found_common (FD := FD) (k0_hw1 := k0_hw1) (k := k) ..
  have O0 := found_head0 (FD := FD) (k0_hw1 := k0_hw1) (k := k) (h := L.e0) ..
  have O1 := found_head1 (FD := FD) (k0_hw1 := k0_hw1) (k := k) (h := L.e1) ..
  have ek : 256 * (k.val + 1) = 256 * k.val + 256 := by ring
  refine ⟨fun a => ?_, fun a => ?_, fun a l => ?_, fun s l => ?_, fun s l => ?_⟩
  · rw [st_k0_t1_succ]; dsimp only; rw [trip_R, ek]; exact head_E C O0 a
  · rw [st_k0_t1_succ]; dsimp only; rw [trip_R, ek]; exact head_E C O1 a
  · rw [st_k0_t1_succ]; dsimp only; rw [View.writes_append, trip_8]
    refine (head_Q C O1 FD.half1 (head_Q C O0 FD.half0 L.dq) a l).trans (congrArg _ ?_)
    dsimp only
    rw [ek, ← Finset.sum_range_add_sum_Ico _ (show 256 * k.val ≤ 256 * k.val + 256 by omega),
      ← Finset.sum_range_add_sum_Ico (fun u => dzz z1 g1 (256 * n + a.val) u * _) (show 256 * k.val ≤ 256 * k.val + 256 by omega)]
    ring
  · rw [st_k0_t1_succ]; dsimp only; rw [View.writes_append]
    by_cases h : s.val < 256 * k.val ∨ 256 * k.val + 256 ≤ s.val
    · rw [trip_9_out (o := 256 * k.val) (ho := FD.off k) (hy := h)]
      refine (L.dk s l).trans (congrArg _ ?_)
      congr 1
      exact if_congr (by omega) rfl rfl
    · obtain ⟨b, hb⟩ : ∃ b : Fin 256, s.val = 256 * k.val + b.val := ⟨⟨s.val - 256 * k.val, by omega⟩, by simp; omega⟩
      rw [trip_9_in (o := 256 * k.val) (ho := FD.off k) (b := b) (l := l) (h0 := hb) (h1 := rfl)]
      have old : IsR (View.readAt (Elt Ideal) arg9.view (Rect.unit (s := S4096x128) (k0_off1 i v57 k) S256x128.size (k0_off1_inb i v57 k0_hw1 k)).toLoadRect
          (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).2.2.1)) fun b l => A9 ⟨256 * k.val + b.val, by omega⟩ l := by
        intro b l
        rw [View.readAt_apply, idx_rows _ (FD.off k) b l (by omega)]
        refine (L.dk _ l).trans (congrArg _ ?_)
        rw [if_neg (by simp), add_zero]
      refine (head_K C O1 (head_K C O0 old) b l).trans (congrArg _ ?_)
      dsimp only
      rw [if_pos (by omega), hb, add_assoc]
      congr 2
      exact Fin.ext hb.symm
  · rw [st_k0_t1_succ]; dsimp only; rw [View.writes_append]
    by_cases h : s.val < 256 * k.val ∨ 256 * k.val + 256 ≤ s.val
    · rw [trip_10_out (o := 256 * k.val) (ho := FD.off k) (hy := h)]
      refine (L.dv s l).trans (congrArg _ ?_)
      congr 1
      exact if_congr (by omega) rfl rfl
    · obtain ⟨b, hb⟩ : ∃ b : Fin 256, s.val = 256 * k.val + b.val := ⟨⟨s.val - 256 * k.val, by omega⟩, by simp; omega⟩
      rw [trip_10_in (o := 256 * k.val) (ho := FD.off k) (b := b) (l := l) (h0 := hb) (h1 := rfl)]
      have old : IsR (View.readAt (Elt Ideal) arg10.view (Rect.unit (s := S4096x128) (k0_off1 i v57 k) S256x128.size (k0_off1_inb i v57 k0_hw1 k)).toLoadRect
          (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k.val)).2.2.2)) fun b l => A10 ⟨256 * k.val + b.val, by omega⟩ l := by
        intro b l
        rw [View.readAt_apply, idx_rows _ (FD.off k) b l (by omega)]
        refine (L.dv _ l).trans (congrArg _ ?_)
        rw [if_neg (by simp), add_zero]
      refine (head_V C O1 (head_V C O0 old) b l).trans (congrArg _ ?_)
      dsimp only
      rw [if_pos (by omega), hb, add_assoc]
      congr 2
      exact Fin.ext hb.symm

theorem left_all (h0 : Left n (0) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.2))) :
    ∀ k, k ≤ n + 1 → Left n (k) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (k)).2.2.2))
  | 0, _ => h0
  | k + 1, hk => left_succ (FD := FD) (k := ⟨k, by rw [FD.trips]; omega⟩) (L := left_all h0 k (by omega)) ..

end
end Cert.KernelIdeal.Sb
end
end
-- ==== Proof.Point.lean ====
module
public import proofs.«01_k».proof.Proof.Loop
public import proofs.«01_k».proof.Proof.Words
public import proofs.«01_k».proof.Proof.RunB
@[expose] public section
set_option maxRecDepth 16384
/-! One grid point: what its pieces write, in the reals of the specification. -/
noncomputable section
namespace Cert.KernelIdeal.Sb
open Idealize.ShloMosaic Idealize.ShloMosaic.TcCoe Idealize.ShloMosaic.Tactic Cert.KernelIdeal Cert.KernelIdeal.Gen Cert.Sb Finset

/-- The lanes of a pair's first head. -/
abbrev NN0 : Fin 128 → ℝ := fun l => if l.val / 64 = 0 then 1 else 0
/-- The lanes of its second head. -/
abbrev NN1 : Fin 128 → ℝ := fun l => if l.val / 64 = 1 then 1 else 0

/-- What a grid point's blocks hold. -/
structure PointIn (i : grid0.Coords) (n : ℕ) (z0 z1 g0 g1 : ℕ → ℕ → ℝ) (KR VR : ℕ → Fin 128 → ℝ) (Q D : Fin 256 → Fin 128 → ℝ)
    (Rs : Fin 2 → Fin 256 → Fin 128 → ℝ) (x0 : Vec Ideal S256x128 .bf16) (x1 x2 : Vec Ideal S4096x128 .bf16) (x3 : Vec Ideal S1x2x256x128 .f32)
    (x4 : Vec Ideal S256x128 .f32) (x5 : Vec Ideal S2x256x256 .bf16) : Prop where
  hi : (i 1).val = n
  hn : n < 16
  q : ∀ a l, x0 (ix2 a l) = (Q a l : EReal)
  key : ∀ (s : Fin 4096) (l : Fin 128), x1 (ix2 s l) = (KR s.val l : EReal)
  val : ∀ (s : Fin 4096) (l : Fin 128), x2 (ix2 s l) = (VR s.val l : EReal)
  rs : ∀ (h : Fin 2) (a : Fin 256) (l : Fin 128), x3 (ix4 0 h a l) = (Rs h a l : EReal)
  gr : ∀ a l, x4 (ix2 a l) = (D a l : EReal)
  gt : ∀ a b : Fin 256, x5 (ix3 0 a b) = ((if b < a then 1 else 0 : ℝ) : EReal)
  lt : ∀ a b : Fin 256, x5 (ix3 1 a b) = ((if a < b then 1 else 0 : ℝ) : EReal)
  rs0 : ∀ (a : Fin 256) (l : Fin 128), l.val ≤ n → Rs 0 a l = ∑ u ∈ Ico (256 * l.val + 256) 4096, ell z0 (256 * n + a.val) u
  rs1 : ∀ (a : Fin 256) (l : Fin 128), l.val ≤ n → Rs 1 a l = ∑ u ∈ Ico (256 * l.val + 256) 4096, ell z1 (256 * n + a.val) u
  hz0 : ∀ a : Fin 256, ∀ s, z0 (256 * n + a.val) s = ∑ l, Q a l * NN0 l * KR s l
  hz1 : ∀ a : Fin 256, ∀ s, z1 (256 * n + a.val) s = ∑ l, Q a l * NN1 l * KR s l
  hg0 : ∀ a : Fin 256, ∀ s, g0 (256 * n + a.val) s = ∑ l, D a l * NN0 l * VR s l
  hg1 : ∀ a : Fin 256, ∀ s, g1 (256 * n + a.val) s = ∑ l, D a l * NN1 l * VR s l

theorem found_of {i : grid0.Coords} {n : ℕ} {z0 z1 g0 g1 : ℕ → ℕ → ℝ} {KR VR : ℕ → Fin 128 → ℝ} {Q D : Fin 256 → Fin 128 → ℝ}
    {Rs : Fin 2 → Fin 256 → Fin 128 → ℝ} {x0 : Vec Ideal S256x128 .bf16} {x1 x2 : Vec Ideal S4096x128 .bf16} {x3 : Vec Ideal S1x2x256x128 .f32}
    {x4 : Vec Ideal S256x128 .f32} {x5 : Vec Ideal S2x256x256 .bf16} (P : PointIn i n z0 z1 g0 g1 KR VR Q D Rs x0 x1 x2 x3 x4 x5)
    (v57 v58 : BitVec 32) (h57 : v57 = 0#32) (h58 : v58 = Scalar.minsi v57 (nkbW (i 1).val)) :
    Found n z0 z1 g0 g1 KR VR (fun a l => Q a l * NN0 l) (fun a l => Q a l * NN1 l) (fun a l => D a l * NN0 l) (fun a l => D a l * NN1 l) NN0 NN1 Rs i
      (BitVec.ofNat 32 (i 1).val) v57 v58 (iota .tc S256x256 32 [0] iota_S256x256_d0_w32) (iota .tc S256x256 32 [1] iota_S256x256_d1_w32) k0_pay59
      k0_pay57 k0_pay58 (k0_pay60 x0) (k0_pay61 x0) (k0_pay63 x4) (k0_pay64 x4) x1 x2 x3 x5 := by
  subst h57
  have hi : (i 1).val < 16 := P.hi ▸ P.hn
  rw [min_zero _ hi] at h58
  subst h58
  refine ⟨P.hn, by rw [P.hi], fun k => iv_zero _, fun k => t1_off i hi k, by rw [t1_trips i hi, P.hi], fun a b => ?_, fun a b => ?_, lane_at, P.key, P.val, P.gt, P.lt, P.rs, P.rs0, P.rs1,
    fun a l => ?_, fun a l => ?_, fun a l => ?_, fun a l => ?_, half0_at, half1_at, P.hz0, P.hz1, P.hg0, P.hg1⟩
  · pointwise
  · pointwise
  · rw [q0_at, P.q, half0_at, ← EReal.coe_mul]
  · rw [q1_at, P.q, half1_at, ← EReal.coe_mul]
  · rw [d0_at, P.gr, half0_at, ← EReal.coe_mul]
  · rw [d1_at, P.gr, half1_at, ← EReal.coe_mul]

/-- How the loop's buffers start. -/
structure Start (A9 A10 : Fin 4096 → Fin 128 → ℝ) (init : FVec Ideal S256x1 .f32 × FVec Ideal S256x1 .f32)
    (r8 : S256x128.Idx → EReal) (r9 r10 : S4096x128.Idx → EReal) : Prop where
  h1 : ∀ a : Fin 256, init.1 (ix2 a 0) = ((0 : ℝ) : EReal)
  h2 : ∀ a : Fin 256, init.2 (ix2 a 0) = ((0 : ℝ) : EReal)
  h8 : ∀ (a : Fin 256) (l : Fin 128), r8 (ix2 a l) = ((0 : ℝ) : EReal)
  h9 : ∀ (s : Fin 4096) (l : Fin 128), r9 (ix2 s l) = (A9 s l : EReal)
  h10 : ∀ (s : Fin 4096) (l : Fin 128), r10 (ix2 s l) = (A10 s l : EReal)

theorem rows_le {n : ℕ} (h : n < 16) : 256 * (n + 1) ≤ 4096 := by omega
theorem row_far {n u : ℕ} (a : Fin 256) (h : 256 * (n + 1) ≤ u) : 256 * n + a.val ≤ u := by have := a.isLt; omega

theorem range_all (f : ℕ → ℝ) (p : ℕ) (hp : p ≤ 4096) (h : ∀ u, p ≤ u → f u = 0) : ∑ u ∈ range p, f u = ∑ u ∈ range 4096, f u := by
  rw [← Finset.sum_range_add_sum_Ico _ hp, left_eq_add]
  exact Finset.sum_eq_zero fun u hu => h u (Finset.mem_Ico.mp hu).1

section
variable (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole) (arg1 : BitVec 32) (v3 : IVec S256x256 32) (v4 : IVec S256x256 32) (v10 : FVec Ideal S1x128 .bf16) (v15 : FVec Ideal S1x128 .bf16) (v20 : IVec S256x128 32) (v23 : FVec Ideal S256x128 .bf16) (v25 : FVec Ideal S256x128 .bf16) (v29 : FVec Ideal S256x128 .bf16) (v31 : FVec Ideal S256x128 .bf16) (v57 : BitVec 32) (k0_hw1 : k0_chk1 i v57) (v58 : BitVec 32) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty)
  {G8 g8 : BufTy.Contents (Elt Ideal) arg8.view.ty} {G9 g9 : BufTy.Contents (Elt Ideal) arg9.view.ty} {G10 g10 : BufTy.Contents (Elt Ideal) arg10.view.ty} {init init2 : FVec Ideal S256x1 .f32 × FVec Ideal S256x1 .f32}
  {v64 : BitVec 32} {n : ℕ} {z0 z1 g0 g1 : ℕ → ℕ → ℝ} {KR VR : ℕ → Fin 128 → ℝ} {Q0 Q1 D0 D1 : Fin 256 → Fin 128 → ℝ} {N0 N1 : Fin 128 → ℝ} {Rs : Fin 2 → Fin 256 → Fin 128 → ℝ}
  {A9 A10 : Fin 4096 → Fin 128 → ℝ} {T1 T2 : ℕ}
  (FD : Found n z0 z1 g0 g1 KR VR Q0 Q1 D0 D1 N0 N1 Rs i arg1 v57 v58 v3 v4 v20 v10 v15 v23 v25 v29 v31 (arg3.view.read (Elt Ideal) X_arg3) (arg4.view.read (Elt Ideal) X_arg4) (arg5.view.read (Elt Ideal) X_arg5) (arg7.view.read (Elt Ideal) X_arg7))
  (h0 : Start A9 A10 init (arg8.view.read (Elt Ideal) G8) (arg9.view.read (Elt Ideal) G9) (arg10.view.read (Elt Ideal) G10))
  (h57 : v57 = 0#32) (hi : (i 1).val < 16) (hT1 : T1 = (k0_t1_loop i v57).trips) (hT2 : T2 = (k0_t2_loop i v57).trips)
include FD h0 h57 hi hT1 hT2

theorem end8 (f : BufTy.Contents (Elt Ideal) arg8.view.ty) (Lz : List (View.Piece (Elt Ideal) S256x128 .f32)) (hf : arg8.view.writes (Elt Ideal) f Lz = G8) (a : Fin 256) (l : Fin 128) :
    arg8.view.read (Elt Ideal) (arg8.view.writes (Elt Ideal) f ((st_k0_t2 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v64 X_arg3 X_arg4 X_arg5 X_arg7 g8 g9 g10 init2 T2).2.1 ++ ((st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init T1).2.1 ++ Lz))) (ix2 a l)
      = ((∑ u ∈ range 4096, dzz z0 g0 (256 * n + a.val) u * (KR u l * N0 l) + ∑ u ∈ range 4096, dzz z1 g1 (256 * n + a.val) u * (KR u l * N1 l) : ℝ) : EReal) := by
  have e2 : T2 = 0 := by rw [hT2, h57, t2_trips i hi]
  have e1 : T1 = n + 1 := hT1.trans FD.trips
  have hn := FD.hn
  clear hT1 hT2
  rw [e1, e2, st_k0_t2.eq_1]
  have L0 : Left n (0) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.2)) := left_zero (FD := FD) (h1 := h0.h1) (h2 := h0.h2) (h8 := h0.h8) (h9 := h0.h9) (h10 := h0.h10) ..
  have L : Left n (n+1) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.2)) := left_all 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init FD L0 (n + 1) (Nat.le_refl _)
  dsimp only
  rw [List.nil_append, View.writes_append, hf]
  refine (L.dq a l).trans (congrArg _ ?_)
  rw [range_all _ _ (rows_le hn), range_all _ _ (rows_le hn)]
  · intro u hu; rw [dzz_of_le (row_far a hu), zero_mul]
  · intro u hu; rw [dzz_of_le (row_far a hu), zero_mul]

theorem end9 (f : BufTy.Contents (Elt Ideal) arg9.view.ty) (Lz : List (View.Piece (Elt Ideal) S4096x128 .f32)) (hf : arg9.view.writes (Elt Ideal) f Lz = G9) (s : Fin 4096) (l : Fin 128) :
    arg9.view.read (Elt Ideal) (arg9.view.writes (Elt Ideal) f ((st_k0_t2 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v64 X_arg3 X_arg4 X_arg5 X_arg7 g8 g9 g10 init2 T2).2.2.1 ++ ((st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init T1).2.2.1 ++ Lz))) (ix2 s l)
      = ((A9 s l + (∑ a : Fin 256, dzz z0 g0 (256 * n + a.val) s.val * Q0 a l + ∑ a : Fin 256, dzz z1 g1 (256 * n + a.val) s.val * Q1 a l) : ℝ) : EReal) := by
  have e2 : T2 = 0 := by rw [hT2, h57, t2_trips i hi]
  have e1 : T1 = n + 1 := hT1.trans FD.trips
  have hn := FD.hn
  clear hT1 hT2
  rw [e1, e2, st_k0_t2.eq_1]
  have L0 : Left n (0) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.2)) := left_zero (FD := FD) (h1 := h0.h1) (h2 := h0.h2) (h8 := h0.h8) (h9 := h0.h9) (h10 := h0.h10) ..
  have L : Left n (n+1) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.2)) := left_all 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init FD L0 (n + 1) (Nat.le_refl _)
  dsimp only
  rw [List.nil_append, View.writes_append, hf]
  refine (L.dk s l).trans (congrArg _ ?_)
  congr 1
  by_cases h : s.val < 256 * (n + 1)
  · rw [if_pos h]
  · rw [if_neg h, Finset.sum_eq_zero, Finset.sum_eq_zero, add_zero]
    · intro a _; rw [dzz_of_le (row_far a (Nat.le_of_not_lt h)), zero_mul]
    · intro a _; rw [dzz_of_le (row_far a (Nat.le_of_not_lt h)), zero_mul]

theorem end9' (f : BufTy.Contents (Elt Ideal) arg9.view.ty) (hf : f = G9) (s : Fin 4096) (l : Fin 128) :
    arg9.view.read (Elt Ideal) (arg9.view.writes (Elt Ideal) f ((st_k0_t2 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v64 X_arg3 X_arg4 X_arg5 X_arg7 g8 g9 g10 init2 T2).2.2.1 ++ (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init T1).2.2.1)) (ix2 s l)
      = ((A9 s l + (∑ a : Fin 256, dzz z0 g0 (256 * n + a.val) s.val * Q0 a l + ∑ a : Fin 256, dzz z1 g1 (256 * n + a.val) s.val * Q1 a l) : ℝ) : EReal) := by
  have := end9 (FD := FD) (h0 := h0) (h57 := h57) (hi := hi) (hT1 := hT1) (hT2 := hT2) (f := f) (Lz := []) (hf := hf) (s := s) (l := l) (𝒱 := 𝒱) (c := c) (bd := bd) (harg2 := harg2) (harg3 := harg3) (harg4 := harg4) (harg5 := harg5) (harg6 := harg6) (harg7 := harg7) (harg8 := harg8) (harg9 := harg9) (harg10 := harg10) (k0_hw1 := k0_hw1) (v64 := v64) (init2 := init2) (g8 := g8) (g9 := g9) (g10 := g10)
  rwa [List.append_nil] at this

theorem end10 (f : BufTy.Contents (Elt Ideal) arg10.view.ty) (Lz : List (View.Piece (Elt Ideal) S4096x128 .f32)) (hf : arg10.view.writes (Elt Ideal) f Lz = G10) (s : Fin 4096) (l : Fin 128) :
    arg10.view.read (Elt Ideal) (arg10.view.writes (Elt Ideal) f ((st_k0_t2 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v64 X_arg3 X_arg4 X_arg5 X_arg7 g8 g9 g10 init2 T2).2.2.2 ++ ((st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init T1).2.2.2 ++ Lz))) (ix2 s l)
      = ((A10 s l + (∑ a : Fin 256, ww z0 (256 * n + a.val) s.val * D0 a l + ∑ a : Fin 256, ww z1 (256 * n + a.val) s.val * D1 a l) : ℝ) : EReal) := by
  have e2 : T2 = 0 := by rw [hT2, h57, t2_trips i hi]
  have e1 : T1 = n + 1 := hT1.trans FD.trips
  have hn := FD.hn
  clear hT1 hT2
  rw [e1, e2, st_k0_t2.eq_1]
  have L0 : Left n (0) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (0)).2.2.2)) := left_zero (FD := FD) (h1 := h0.h1) (h2 := h0.h2) (h8 := h0.h8) (h9 := h0.h9) (h10 := h0.h10) ..
  have L : Left n (n+1) z0 z1 g0 g1 KR VR Q0 Q1 D0 D1 N0 N1 A9 A10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).1
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.1)) (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.1))
      (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init (n+1)).2.2.2)) := left_all 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init FD L0 (n + 1) (Nat.le_refl _)
  dsimp only
  rw [List.nil_append, View.writes_append, hf]
  refine (L.dv s l).trans (congrArg _ ?_)
  congr 1
  by_cases h : s.val < 256 * (n + 1)
  · rw [if_pos h]
  · rw [if_neg h, Finset.sum_eq_zero, Finset.sum_eq_zero, add_zero]
    · intro a _; rw [ww_of_le (row_far a (Nat.le_of_not_lt h)), zero_mul]
    · intro a _; rw [ww_of_le (row_far a (Nat.le_of_not_lt h)), zero_mul]

theorem end10' (f : BufTy.Contents (Elt Ideal) arg10.view.ty) (hf : f = G10) (s : Fin 4096) (l : Fin 128) :
    arg10.view.read (Elt Ideal) (arg10.view.writes (Elt Ideal) f ((st_k0_t2 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v64 X_arg3 X_arg4 X_arg5 X_arg7 g8 g9 g10 init2 T2).2.2.2 ++ (st_k0_t1 (F := Ideal) 𝒱 c bd i arg2 harg2 arg3 harg3 arg4 harg4 arg5 harg5 arg6 harg6 arg7 harg7 arg8 harg8 arg9 harg9 arg10 harg10 arg1 v3 v4 v10 v15 v20 v23 v25 v29 v31 v57 k0_hw1 v58 X_arg3 X_arg4 X_arg5 X_arg7 G8 G9 G10 init T1).2.2.2)) (ix2 s l)
      = ((A10 s l + (∑ a : Fin 256, ww z0 (256 * n + a.val) s.val * D0 a l + ∑ a : Fin 256, ww z1 (256 * n + a.val) s.val * D1 a l) : ℝ) : EReal) := by
  have := end10 (FD := FD) (h0 := h0) (h57 := h57) (hi := hi) (hT1 := hT1) (hT2 := hT2) (f := f) (Lz := []) (hf := hf) (s := s) (l := l) (𝒱 := 𝒱) (c := c) (bd := bd) (harg2 := harg2) (harg3 := harg3) (harg4 := harg4) (harg5 := harg5) (harg6 := harg6) (harg7 := harg7) (harg8 := harg8) (harg9 := harg9) (harg10 := harg10) (k0_hw1 := k0_hw1) (v64 := v64) (init2 := init2) (g8 := g8) (g9 := g9) (g10 := g10)
  rwa [List.append_nil] at this

end

section
variable  (hC : CountOk Ideal) (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole)
     (hc : first0 i) (x0 : Vec Ideal S256x128 .bf16) (x1 : Vec Ideal S4096x128 .bf16) (x2 : Vec Ideal S4096x128 .bf16) (x3 : Vec Ideal S1x2x256x128 .f32) (x4 : Vec Ideal S256x128 .f32) (x5 : Vec Ideal S2x256x256 .bf16)
 {n : ℕ} {z0 z1 g0 g1 : ℕ → ℕ → ℝ} {KR VR : ℕ → Fin 128 → ℝ} {Q D : Fin 256 → Fin 128 → ℝ} {Rs : Fin 2 → Fin 256 → Fin 128 → ℝ} (P : PointIn i n z0 z1 g0 g1 KR VR Q D Rs x0 x1 x2 x3 x4 x5)

theorem runA_q : View.readAt (Elt Ideal) arg2.view (Rect.unit ![0, 0] S256x128.size inb_S256x128_S256x128_0_0).toLoadRect (harg2.unread x0) = x0 := by
  rw [View.readAt_full, harg2.read_unread]
theorem runA_r : runA.sl.r c arg2 harg2 x0 = k0_pay60 x0 := by
  unfold runA.sl.r; rw [View.readAt_full, harg2.read_unread]
theorem runA_r1 : runA.sl.r_1 c arg2 harg2 x0 = k0_pay61 x0 := by
  unfold runA.sl.r_1; rw [View.readAt_full, harg2.read_unread]
theorem runA_r2 : runA.sl.r_2 c arg6 harg6 x4 = k0_pay63 x4 := by
  unfold runA.sl.r_2; rw [View.readAt_full, harg6.read_unread]
theorem runA_r3 : runA.sl.r_3 c arg6 harg6 x4 = k0_pay64 x4 := by
  unfold runA.sl.r_3; rw [View.readAt_full, harg6.read_unread]
include P in
theorem runA_count : Scalar.fptosi 32 (k0_pay1 (runA.sl.v35 i) (runA.sl.r_4 c arg5 harg5 x3) (runA.sl.v40 c arg5 harg5 x3)) = 0#32 := by
  refine count_zero _ _ _ fun l => ⟨0, ?_⟩
  unfold runA.sl.r_4
  rw [rs_at, View.readAt_apply, harg5.read_unread]
  refine lt_of_lt_of_eq (EReal.bot_lt_coe (Rs 0 0 l)) ((P.rs 0 0 l).symm.trans ?_)
  congr 1; funext x; apply Fin.ext; fin_cases x
  · rfl
  · rfl
  · rfl
  · exact ((unit_val _ _).trans (Nat.zero_add _)).symm
include P in
theorem runA_found (v57 v58 : BitVec 32) (h57 : v57 = 0#32) (h58 : v58 = Scalar.minsi v57 (nkbW (i 1).val)) :
    Found n z0 z1 g0 g1 KR VR (fun a l => Q a l * NN0 l) (fun a l => Q a l * NN1 l) (fun a l => D a l * NN0 l) (fun a l => D a l * NN1 l) NN0 NN1 Rs i
      (BitVec.ofNat 32 (i 1).val) v57 v58 runA.sl.v3 runA.sl.v4 k0_pay59
      k0_pay57 k0_pay58 (runA.sl.r c arg2 harg2 x0) (runA.sl.r_1 c arg2 harg2 x0) (runA.sl.r_2 c arg6 harg6 x4) (runA.sl.r_3 c arg6 harg6 x4)
      (arg3.view.read (Elt Ideal) (harg3.unread x1)) (arg4.view.read (Elt Ideal) (harg4.unread x2)) (arg5.view.read (Elt Ideal) (harg5.unread x3)) (arg7.view.read (Elt Ideal) (harg7.unread x5)) := by
  rw [runA_r, runA_r1, runA_r2, runA_r3, harg3.read_unread, harg4.read_unread, harg5.read_unread, harg7.read_unread]
  exact found_of P v57 v58 h57 h58

include P in
theorem runA_6  (a : Fin 256) (l : Fin 128) :
    arg8.view.read (Elt Ideal) (arg8.view.writes (Elt Ideal) arg8.view.junk (runA hC c i arg2 harg2 arg3 harg3 arg4 harg4 arg5 harg5 arg6 harg6 arg7 harg7 arg8 harg8 arg9 harg9 arg10 harg10 hc x0 x1 x2 x3 x4 x5).1) (ix2 a l)
      = ((∑ u ∈ range 4096, dzz z0 g0 (256 * n + a.val) u * (KR u l * NN0 l) + ∑ u ∈ range 4096, dzz z1 g1 (256 * n + a.val) u * (KR u l * NN1 l) : ℝ) : EReal) := by
  unfold runA
  dsimp only
  exact end8 (FD := runA_found (P := P) (v57 := _) (v58 := _) (h57 := runA_count (P := P) ..) (h58 := rfl) ..) (h0 := ⟨zero_at, zero_at, fun a l => by unfold runA.sl.H6_1; rw [View.read_writes_full]; exact fill65 _, fun s l => by unfold runA.sl.H7_1; rw [View.read_writes_full]; exact fill55 _, fun s l => by unfold runA.sl.H8_1; rw [View.read_writes_full]; exact fill56 _⟩) (h57 := runA_count (P := P) ..) (hi := P.hi ▸ P.hn) (hT1 := rfl) (hT2 := rfl) (A9 := fun _ _ => 0) (A10 := fun _ _ => 0) (hf := rfl) ..

include P in
theorem runA_7  (s : Fin 4096) (l : Fin 128) :
    arg9.view.read (Elt Ideal) (arg9.view.writes (Elt Ideal) arg9.view.junk (runA hC c i arg2 harg2 arg3 harg3 arg4 harg4 arg5 harg5 arg6 harg6 arg7 harg7 arg8 harg8 arg9 harg9 arg10 harg10 hc x0 x1 x2 x3 x4 x5).2.1) (ix2 s l)
      = ((0 + (∑ a : Fin 256, dzz z0 g0 (256 * n + a.val) s.val * (Q a l * NN0 l) + ∑ a : Fin 256, dzz z1 g1 (256 * n + a.val) s.val * (Q a l * NN1 l)) : ℝ) : EReal) := by
  unfold runA
  dsimp only
  exact end9 (FD := runA_found (P := P) (v57 := _) (v58 := _) (h57 := runA_count (P := P) ..) (h58 := rfl) ..) (h0 := ⟨zero_at, zero_at, fun a l => by unfold runA.sl.H6_1; rw [View.read_writes_full]; exact fill65 _, fun s l => by unfold runA.sl.H7_1; rw [View.read_writes_full]; exact fill55 _, fun s l => by unfold runA.sl.H8_1; rw [View.read_writes_full]; exact fill56 _⟩) (h57 := runA_count (P := P) ..) (hi := P.hi ▸ P.hn) (hT1 := rfl) (hT2 := rfl) (A9 := fun _ _ => 0) (A10 := fun _ _ => 0) (hf := rfl) ..

include P in
theorem runA_8  (s : Fin 4096) (l : Fin 128) :
    arg10.view.read (Elt Ideal) (arg10.view.writes (Elt Ideal) arg10.view.junk (runA hC c i arg2 harg2 arg3 harg3 arg4 harg4 arg5 harg5 arg6 harg6 arg7 harg7 arg8 harg8 arg9 harg9 arg10 harg10 hc x0 x1 x2 x3 x4 x5).2.2.1) (ix2 s l)
      = ((0 + (∑ a : Fin 256, ww z0 (256 * n + a.val) s.val * (D a l * NN0 l) + ∑ a : Fin 256, ww z1 (256 * n + a.val) s.val * (D a l * NN1 l)) : ℝ) : EReal) := by
  unfold runA
  dsimp only
  exact end10 (FD := runA_found (P := P) (v57 := _) (v58 := _) (h57 := runA_count (P := P) ..) (h58 := rfl) ..) (h0 := ⟨zero_at, zero_at, fun a l => by unfold runA.sl.H6_1; rw [View.read_writes_full]; exact fill65 _, fun s l => by unfold runA.sl.H7_1; rw [View.read_writes_full]; exact fill55 _, fun s l => by unfold runA.sl.H8_1; rw [View.read_writes_full]; exact fill56 _⟩) (h57 := runA_count (P := P) ..) (hi := P.hi ▸ P.hn) (hT1 := rfl) (hT2 := rfl) (A9 := fun _ _ => 0) (A10 := fun _ _ => 0) (hf := rfl) ..
end

section
variable  (hC : CountOk Ideal) (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S256x128 .f32) (harg6 : arg6.IsWhole) (arg7 : Memref sig .tc .vmem S2x256x256 .bf16) (harg7 : arg7.IsWhole) (arg8 : Memref sig .tc .vmem S256x128 .f32) (harg8 : arg8.IsWhole) (arg9 : Memref sig .tc .vmem S4096x128 .f32) (harg9 : arg9.IsWhole) (arg10 : Memref sig .tc .vmem S4096x128 .f32) (harg10 : arg10.IsWhole)
     (hc : ¬first0 i) (x0 : Vec Ideal S256x128 .bf16) (x1 : Vec Ideal S4096x128 .bf16) (x2 : Vec Ideal S4096x128 .bf16) (x3 : Vec Ideal S1x2x256x128 .f32) (x4 : Vec Ideal S256x128 .f32) (x5 : Vec Ideal S2x256x256 .bf16)
 (xo7 xo8 : Vec Ideal S4096x128 .f32) {n : ℕ} {z0 z1 g0 g1 : ℕ → ℕ → ℝ} {KR VR : ℕ → Fin 128 → ℝ} {Q D : Fin 256 → Fin 128 → ℝ} {Rs : Fin 2 → Fin 256 → Fin 128 → ℝ} (P : PointIn i n z0 z1 g0 g1 KR VR Q D Rs x0 x1 x2 x3 x4 x5)

theorem runB_q : View.readAt (Elt Ideal) arg2.view (Rect.unit ![0, 0] S256x128.size inb_S256x128_S256x128_0_0).toLoadRect (harg2.unread x0) = x0 := by
  rw [View.readAt_full, harg2.read_unread]
theorem runB_r : runB.sl.r c arg2 harg2 x0 = k0_pay60 x0 := by
  unfold runB.sl.r; rw [View.readAt_full, harg2.read_unread]
theorem runB_r1 : runB.sl.r_1 c arg2 harg2 x0 = k0_pay61 x0 := by
  unfold runB.sl.r_1; rw [View.readAt_full, harg2.read_unread]
theorem runB_r2 : runB.sl.r_2 c arg6 harg6 x4 = k0_pay63 x4 := by
  unfold runB.sl.r_2; rw [View.readAt_full, harg6.read_unread]
theorem runB_r3 : runB.sl.r_3 c arg6 harg6 x4 = k0_pay64 x4 := by
  unfold runB.sl.r_3; rw [View.readAt_full, harg6.read_unread]
include P in
theorem runB_count : Scalar.fptosi 32 (k0_pay1 (runB.sl.v35 i) (runB.sl.r_4 c arg5 harg5 x3) (runB.sl.v40 c arg5 harg5 x3)) = 0#32 := by
  refine count_zero _ _ _ fun l => ⟨0, ?_⟩
  unfold runB.sl.r_4
  rw [rs_at, View.readAt_apply, harg5.read_unread]
  refine lt_of_lt_of_eq (EReal.bot_lt_coe (Rs 0 0 l)) ((P.rs 0 0 l).symm.trans ?_)
  congr 1; funext x; apply Fin.ext; fin_cases x
  · rfl
  · rfl
  · rfl
  · exact ((unit_val _ _).trans (Nat.zero_add _)).symm
include P in
theorem runB_found (v57 v58 : BitVec 32) (h57 : v57 = 0#32) (h58 : v58 = Scalar.minsi v57 (nkbW (i 1).val)) :
    Found n z0 z1 g0 g1 KR VR (fun a l => Q a l * NN0 l) (fun a l => Q a l * NN1 l) (fun a l => D a l * NN0 l) (fun a l => D a l * NN1 l) NN0 NN1 Rs i
      (BitVec.ofNat 32 (i 1).val) v57 v58 runB.sl.v3 runB.sl.v4 k0_pay59
      k0_pay57 k0_pay58 (runB.sl.r c arg2 harg2 x0) (runB.sl.r_1 c arg2 harg2 x0) (runB.sl.r_2 c arg6 harg6 x4) (runB.sl.r_3 c arg6 harg6 x4)
      (arg3.view.read (Elt Ideal) (harg3.unread x1)) (arg4.view.read (Elt Ideal) (harg4.unread x2)) (arg5.view.read (Elt Ideal) (harg5.unread x3)) (arg7.view.read (Elt Ideal) (harg7.unread x5)) := by
  rw [runB_r, runB_r1, runB_r2, runB_r3, harg3.read_unread, harg4.read_unread, harg5.read_unread, harg7.read_unread]
  exact found_of P v57 v58 h57 h58

include P in
theorem runB_6  {A9 A10 : Fin 4096 → Fin 128 → ℝ} (h9 : ∀ s l, xo7 (ix2 s l) = (A9 s l : EReal)) (h10 : ∀ s l, xo8 (ix2 s l) = (A10 s l : EReal)) (a : Fin 256) (l : Fin 128) :
    arg8.view.read (Elt Ideal) (arg8.view.writes (Elt Ideal) arg8.view.junk (runB hC c i arg2 harg2 arg3 harg3 arg4 harg4 arg5 harg5 arg6 harg6 arg7 harg7 arg8 harg8 arg9 harg9 arg10 harg10 hc x0 x1 x2 x3 x4 x5 xo7 xo8).1) (ix2 a l)
      = ((∑ u ∈ range 4096, dzz z0 g0 (256 * n + a.val) u * (KR u l * NN0 l) + ∑ u ∈ range 4096, dzz z1 g1 (256 * n + a.val) u * (KR u l * NN1 l) : ℝ) : EReal) := by
  unfold runB
  dsimp only
  exact end8 (FD := runB_found (P := P) (v57 := _) (v58 := _) (h57 := runB_count (P := P) ..) (h58 := rfl) ..) (h0 := ⟨zero_at, zero_at, fun a l => by unfold runB.sl.H6_1; rw [View.read_writes_full]; exact fill65 _, fun s l => by rw [harg9.read_unread]; exact h9 s l, fun s l => by rw [harg10.read_unread]; exact h10 s l⟩) (h57 := runB_count (P := P) ..) (hi := P.hi ▸ P.hn) (hT1 := rfl) (hT2 := rfl) (A9 := A9) (A10 := A10) (hf := rfl) ..

include P in
theorem runB_7  {A9 A10 : Fin 4096 → Fin 128 → ℝ} (h9 : ∀ s l, xo7 (ix2 s l) = (A9 s l : EReal)) (h10 : ∀ s l, xo8 (ix2 s l) = (A10 s l : EReal)) (s : Fin 4096) (l : Fin 128) :
    arg9.view.read (Elt Ideal) (arg9.view.writes (Elt Ideal) (harg9.unread xo7) (runB hC c i arg2 harg2 arg3 harg3 arg4 harg4 arg5 harg5 arg6 harg6 arg7 harg7 arg8 harg8 arg9 harg9 arg10 harg10 hc x0 x1 x2 x3 x4 x5 xo7 xo8).2.1) (ix2 s l)
      = ((A9 s l + (∑ a : Fin 256, dzz z0 g0 (256 * n + a.val) s.val * (Q a l * NN0 l) + ∑ a : Fin 256, dzz z1 g1 (256 * n + a.val) s.val * (Q a l * NN1 l)) : ℝ) : EReal) := by
  unfold runB
  dsimp only
  exact end9' (FD := runB_found (P := P) (v57 := _) (v58 := _) (h57 := runB_count (P := P) ..) (h58 := rfl) ..) (h0 := ⟨zero_at, zero_at, fun a l => by unfold runB.sl.H6_1; rw [View.read_writes_full]; exact fill65 _, fun s l => by rw [harg9.read_unread]; exact h9 s l, fun s l => by rw [harg10.read_unread]; exact h10 s l⟩) (h57 := runB_count (P := P) ..) (hi := P.hi ▸ P.hn) (hT1 := rfl) (hT2 := rfl) (A9 := A9) (A10 := A10) (hf := rfl) ..

include P in
theorem runB_8  {A9 A10 : Fin 4096 → Fin 128 → ℝ} (h9 : ∀ s l, xo7 (ix2 s l) = (A9 s l : EReal)) (h10 : ∀ s l, xo8 (ix2 s l) = (A10 s l : EReal)) (s : Fin 4096) (l : Fin 128) :
    arg10.view.read (Elt Ideal) (arg10.view.writes (Elt Ideal) (harg10.unread xo8) (runB hC c i arg2 harg2 arg3 harg3 arg4 harg4 arg5 harg5 arg6 harg6 arg7 harg7 arg8 harg8 arg9 harg9 arg10 harg10 hc x0 x1 x2 x3 x4 x5 xo7 xo8).2.2.1) (ix2 s l)
      = ((A10 s l + (∑ a : Fin 256, ww z0 (256 * n + a.val) s.val * (D a l * NN0 l) + ∑ a : Fin 256, ww z1 (256 * n + a.val) s.val * (D a l * NN1 l)) : ℝ) : EReal) := by
  unfold runB
  dsimp only
  exact end10' (FD := runB_found (P := P) (v57 := _) (v58 := _) (h57 := runB_count (P := P) ..) (h58 := rfl) ..) (h0 := ⟨zero_at, zero_at, fun a l => by unfold runB.sl.H6_1; rw [View.read_writes_full]; exact fill65 _, fun s l => by rw [harg9.read_unread]; exact h9 s l, fun s l => by rw [harg10.read_unread]; exact h10 s l⟩) (h57 := runB_count (P := P) ..) (hi := P.hi ▸ P.hn) (hT1 := rfl) (hT2 := rfl) (A9 := A9) (A10 := A10) (hf := rfl) ..
end

end Cert.KernelIdeal.Sb
end
end
-- ==== Proof.Grid.lean ====
module
public import proofs.«01_k».proof.Proof.Blocks
public import proofs.«01_k».proof.Proof.Point
@[expose] public section
set_option maxRecDepth 16384
/-! The grid's points one after another: what the outputs' buffers hold after each, in the reals of the specification. -/
noncomputable section
namespace Cert.KernelIdeal.Sb
open Cert.KernelIdeal Cert.KernelIdeal.Gen Idealize.ShloMosaic Idealize.ShloMosaic.TcCoe Idealize.ShloMosaic.Tactic Idealize.SL.Sem Cert.Sb Finset

theorem half_one (f : ℕ → ℝ) : ∑ l : Fin 128, f l.val * NN0 l = ∑ d : Fin 64, f d.val := by
  rw [Fin.sum_univ_eq_sum_range (fun l => f l * (if l / 64 = 0 then 1 else 0)) 128, Fin.sum_univ_eq_sum_range f 64,
    show 128 = 64 + 64 from rfl, sum_range_add]
  rw [sum_congr rfl (fun x hx => by rw [if_pos (by have := mem_range.1 hx; omega), mul_one] : ∀ x ∈ range 64, f x * (if x / 64 = 0 then 1 else 0) = f x),
    sum_eq_zero (fun x hx => by rw [if_neg (by have := mem_range.1 hx; omega), mul_zero] : ∀ x ∈ range 64, f (64 + x) * (if (64 + x) / 64 = 0 then 1 else 0) = 0), add_zero]

theorem half_two (f : ℕ → ℝ) : ∑ l : Fin 128, f l.val * NN1 l = ∑ d : Fin 64, f (64 + d.val) := by
  rw [Fin.sum_univ_eq_sum_range (fun l => f l * (if l / 64 = 1 then 1 else 0)) 128, Fin.sum_univ_eq_sum_range (fun d => f (64 + d)) 64,
    show 128 = 64 + 64 from rfl, sum_range_add]
  rw [sum_eq_zero (fun x hx => by rw [if_neg (by have := mem_range.1 hx; omega), mul_zero] : ∀ x ∈ range 64, f x * (if x / 64 = 1 then 1 else 0) = 0),
    sum_congr rfl (fun x hx => by rw [if_pos (by have := mem_range.1 hx; omega), mul_one] : ∀ x ∈ range 64, f (64 + x) * (if (64 + x) / 64 = 1 then 1 else 0) = f (64 + x)), zero_add]

theorem zz_one (Q K : ℕ → ℕ → ℝ) (p t s : ℕ) : zz Q K (2 * p) t s = ∑ l : Fin 128, Q t (128 * p + l.val) * NN0 l * K s (128 * p + l.val) := by
  rw [show (∑ l : Fin 128, Q t (128 * p + l.val) * NN0 l * K s (128 * p + l.val)) = ∑ l : Fin 128, (fun l => Q t (128 * p + l) * K s (128 * p + l)) l.val * NN0 l from
    sum_congr rfl fun l _ => by ring]
  refine Eq.trans ?_ (half_one (fun l => Q t (128 * p + l) * K s (128 * p + l))).symm
  unfold zz
  refine sum_congr rfl fun d _ => ?_
  rw [show 64 * (2 * p) = 128 * p by ring]

theorem zz_two (Q K : ℕ → ℕ → ℝ) (p t s : ℕ) : zz Q K (2 * p + 1) t s = ∑ l : Fin 128, Q t (128 * p + l.val) * NN1 l * K s (128 * p + l.val) := by
  rw [show (∑ l : Fin 128, Q t (128 * p + l.val) * NN1 l * K s (128 * p + l.val)) = ∑ l : Fin 128, (fun l => Q t (128 * p + l) * K s (128 * p + l)) l.val * NN1 l from
    sum_congr rfl fun l _ => by ring]
  refine Eq.trans ?_ (half_two (fun l => Q t (128 * p + l) * K s (128 * p + l))).symm
  unfold zz
  refine sum_congr rfl fun d _ => ?_
  rw [show 64 * (2 * p + 1) = 128 * p + 64 by ring, add_assoc]

/-- The arguments are reals. -/
structure Args (m : (ℓ : Loc nD τ sig) → Buf (Elt Ideal) ℓ) (c : Dev nD) (Q K W O : ℕ → ℕ → ℝ) : Prop where
  q : ∀ (t : Fin 4096) (e : Fin 1024), (m ((c : Thread nD τ).loc main_arg0) : FVec Ideal S4096x1024 .bf16) (ix2 t e) = (Q t.val e.val : EReal)
  k : ∀ (t : Fin 4096) (e : Fin 1024), (m ((c : Thread nD τ).loc main_arg1) : FVec Ideal S4096x1024 .bf16) (ix2 t e) = (K t.val e.val : EReal)
  v : ∀ (t : Fin 4096) (e : Fin 1024), (m ((c : Thread nD τ).loc main_arg2) : FVec Ideal S4096x1024 .bf16) (ix2 t e) = (W t.val e.val : EReal)
  o : ∀ (t : Fin 4096) (e : Fin 1024), (m ((c : Thread nD τ).loc main_arg3) : FVec Ideal S4096x1024 .f32) (ix2 t e) = (O t.val e.val : EReal)

section
variable {m : (ℓ : Loc nD τ sig) → Buf (Elt Ideal) ℓ} {c : Dev nD} {Q K W O : ℕ → ℕ → ℝ} (A : Args m c Q K W O)
include A

theorem point_in (t : Fin cfg0.N) : ∃ Rs, PointIn (grid0.coords t) (t.val % 16) (zz Q K (2 * (t.val / 16))) (zz Q K (2 * (t.val / 16) + 1))
    (zz O W (2 * (t.val / 16))) (zz O W (2 * (t.val / 16) + 1)) (fun s l => K s (128 * (t.val / 16) + l.val)) (fun s l => W s (128 * (t.val / 16) + l.val))
    (fun a l => Q (256 * (t.val % 16) + a.val) (128 * (t.val / 16) + l.val)) (fun a l => O (256 * (t.val % 16) + a.val) (128 * (t.val / 16) + l.val)) Rs
    (iblk m c 0 t) (iblk m c 1 t) (iblk m c 2 t) (iblk m c 3 t) (iblk m c 4 t) (iblk m c 5 t) := by
  have ht : t.val < 128 := pt_lt t
  have e1 : (grid0.coords t 1).val = t.val / 1 % 16 := Pipeline.Grid.coords_val t 1 (by decide) rfl
  rw [Nat.div_one] at e1
  generalize hn : t.val % 16 = n at *
  generalize hp : t.val / 16 = p at *
  have hn16 : n < 16 := by omega
  have hp8 : p < 8 := by omega
  choose R hR using fun (h : Fin 2) (a : Fin 256) (l : Fin 128) => rs_some A.q A.k ⟨p, hp8⟩ h ⟨256 * n + a.val, by omega⟩ l
  have rsv : ∀ (h : Fin 2) (a : Fin 256) (l : Fin 128), l.val ≤ n → R h a l = ∑ u ∈ Ico (256 * l.val + 256) 4096, ell (zz Q K (2 * p + h.val)) (256 * n + a.val) u := by
    intro h a l hl
    have := (hR h a l).symm.trans (rs_seen A.q A.k ⟨p, hp8⟩ h ⟨256 * n + a.val, by omega⟩ l (by show l.val ≤ (256 * n + a.val) / 256; omega))
    exact EReal.coe_injective this
  refine ⟨R, e1, hn16, fun a l => ?_, fun s l => ?_, fun s l => ?_, fun h a l => ?_, fun a l => ?_, fun a b => ?_, fun a b => ?_, fun a l hl => rsv 0 a l hl, fun a l hl => rsv 1 a l hl,
    fun a s => zz_one Q K p _ s, fun a s => zz_two Q K p _ s, fun a s => zz_one O W p _ s, fun a s => zz_two O W p _ s⟩
  · exact (blk0 t m c a l ⟨256 * n + a.val, by omega⟩ ⟨128 * p + l.val, by omega⟩ (by rw [hn]) (by rw [hp])).trans (A.q _ _)
  · exact (blk1 t m c s l ⟨128 * p + l.val, by omega⟩ (by rw [hp])).trans (A.k _ _)
  · exact (blk2 t m c s l ⟨128 * p + l.val, by omega⟩ (by rw [hp])).trans (A.v _ _)
  · exact (blk3 t m c h a l ⟨p, hp8⟩ ⟨256 * n + a.val, by omega⟩ hp.symm (by rw [hn])).trans (hR h a l)
  · exact (blk4 t m c a l ⟨256 * n + a.val, by omega⟩ ⟨128 * p + l.val, by omega⟩ (by rw [hn]) (by rw [hp])).trans (A.o _ _)
  · exact (blk5 t m c 0 a b).trans (tri_gt a b)
  · exact (blk5 t m c 1 a b).trans (tri_lt a b)

end

/-- The key output over the first rows. -/
def dkTo (Q K W O : ℕ → ℕ → ℝ) (p : ℕ) (s : ℕ) (l : Fin 128) (T : ℕ) : ℝ :=
  ∑ a ∈ range T, (dzz (zz Q K (2 * p)) (zz O W (2 * p)) a s * (Q a (128 * p + l.val) * NN0 l) + dzz (zz Q K (2 * p + 1)) (zz O W (2 * p + 1)) a s * (Q a (128 * p + l.val) * NN1 l))
/-- The value output over the first rows. -/
def dvTo (Q K O : ℕ → ℕ → ℝ) (p : ℕ) (s : ℕ) (l : Fin 128) (T : ℕ) : ℝ :=
  ∑ a ∈ range T, (ww (zz Q K (2 * p)) a s * (O a (128 * p + l.val) * NN0 l) + ww (zz Q K (2 * p + 1)) a s * (O a (128 * p + l.val) * NN1 l))

theorem rows_step (f g : ℕ → ℝ) (n : ℕ) :
    ∑ a ∈ range (256 * n), (f a + g a) + (∑ a : Fin 256, f (256 * n + a.val) + ∑ a : Fin 256, g (256 * n + a.val)) = ∑ a ∈ range (256 * (n + 1)), (f a + g a) := by
  rw [show 256 * (n + 1) = 256 * n + 256 by ring, sum_range_add, ← sum_add_distrib, Fin.sum_univ_eq_sum_range (fun a => f (256 * n + a) + g (256 * n + a)) 256]

/-- What the buffers hold after a point. -/
structure After (Q K W O : ℕ → ℕ → ℝ) (p n : ℕ) (x : Outs Ideal) : Prop where
  dq : ∀ (a : Fin 256) (l : Fin 128), x.1 (ix2 a l)
      = ((∑ u ∈ range 4096, dzz (zz Q K (2 * p)) (zz O W (2 * p)) (256 * n + a.val) u * (K u (128 * p + l.val) * NN0 l)
        + ∑ u ∈ range 4096, dzz (zz Q K (2 * p + 1)) (zz O W (2 * p + 1)) (256 * n + a.val) u * (K u (128 * p + l.val) * NN1 l) : ℝ) : EReal)
  dk : ∀ (s : Fin 4096) (l : Fin 128), x.2.1 (ix2 s l) = (dkTo Q K W O p s.val l (256 * (n + 1)) : EReal)
  dv : ∀ (s : Fin 4096) (l : Fin 128), x.2.2 (ix2 s l) = (dvTo Q K O p s.val l (256 * (n + 1)) : EReal)

section
variable {m : (ℓ : Loc nD τ sig) → Buf (Elt Ideal) ℓ} {c : Dev nD} {Q K W O : ℕ → ℕ → ℝ} (A : Args m c Q K W O) (hC : CountOk Ideal)
include A

theorem after_A (t : Fin cfg0.N) (h0 : t.val % 16 = 0) : After Q K W O (t.val / 16) 0 (outA m hC c t h0) := by
  obtain ⟨R, P⟩ := point_in A t
  rw [h0] at P
  refine ⟨fun a l => ?_, fun s l => ?_, fun s l => ?_⟩
  · unfold outA; dsimp only
    rw [View.read_writes_of_cover VO6 VO6.junk (ms6 t).view (ms6 t).view.junk _ (coverA6 m hC c t h0)]
    exact runA_6 (P := P) (arg8 := ms6 t) (arg9 := ms7 t) (arg10 := ms8 t) (harg8 := hs6 t) (harg9 := hs7 t) (harg10 := hs8 t) ..
  · unfold outA; dsimp only
    rw [View.read_writes_of_cover VO7 VO7.junk (ms7 t).view (ms7 t).view.junk _ (coverA7 m hC c t h0)]
    refine (runA_7 (P := P) (arg8 := ms6 t) (arg9 := ms7 t) (arg10 := ms8 t) (harg8 := hs6 t) (harg9 := hs7 t) (harg10 := hs8 t) ..).trans (congrArg _ ?_)
    unfold dkTo
    rw [← rows_step, mul_zero, range_zero, sum_empty]
  · unfold outA; dsimp only
    rw [View.read_writes_of_cover VO8 VO8.junk (ms8 t).view (ms8 t).view.junk _ (coverA8 m hC c t h0)]
    have h := runA_8 hC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((first0_iff t).mpr h0) (iblk m c 0 t) (iblk m c 1 t) (iblk m c 2 t) (iblk m c 3 t) (iblk m c 4 t) (iblk m c 5 t) P s l
    rw [h]
    refine congrArg Real.toEReal ?_
    unfold dvTo
    rw [← rows_step, mul_zero, range_zero, sum_empty]

theorem after_B (t : Fin cfg0.N) (h0 : ¬t.val % 16 = 0) (x : Outs Ideal) (n : ℕ) (hn : t.val % 16 = n + 1) (hx : After Q K W O (t.val / 16) n x) :
    After Q K W O (t.val / 16) (n + 1) (outB m hC c t h0 x.2.1 x.2.2) := by
  obtain ⟨R, P⟩ := point_in A t
  rw [hn] at P
  refine ⟨fun a l => ?_, fun s l => ?_, fun s l => ?_⟩
  · unfold outB; dsimp only
    rw [View.read_writes_of_cover VO6 VO6.junk (ms6 t).view (ms6 t).view.junk _ (coverB6 m hC c t h0 x.2.1 x.2.2)]
    exact runB_6 (P := P) (arg8 := ms6 t) (arg9 := ms7 t) (arg10 := ms8 t) (harg8 := hs6 t) (harg9 := hs7 t) (harg10 := hs8 t) (h9 := hx.dk) (h10 := hx.dv) ..
  · unfold outB; dsimp only
    refine (runB_7 (P := P) (arg8 := ms6 t) (arg9 := ms7 t) (arg10 := ms8 t) (harg8 := hs6 t) (harg9 := hs7 t) (harg10 := hs8 t) (h9 := hx.dk) (h10 := hx.dv) ..).trans (congrArg _ ?_)
    unfold dkTo
    rw [← rows_step _ _ (n + 1)]
  · unfold outB; dsimp only
    have h := runB_8 hC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((first0_iff t).mp h)) (iblk m c 0 t) (iblk m c 1 t) (iblk m c 2 t) (iblk m c 3 t) (iblk m c 4 t) (iblk m c 5 t) x.2.1 x.2.2 P hx.dk hx.dv s l
    rw [h]
    refine congrArg Real.toEReal ?_
    unfold dvTo
    rw [← rows_step _ _ (n + 1)]

theorem after_all (n : ℕ) : ∀ t : Fin cfg0.N, t.val % 16 = n → After Q K W O (t.val / 16) n (outs m hC c t.val t.isLt) := by
  induction n with
  | zero => intro t h0; rw [outs_A m hC c t h0]; exact after_A A hC t h0
  | succ n ih =>
    intro t hn
    have h0 : ¬t.val % 16 = 0 := by omega
    rw [outs_B m hC c t h0]
    refine after_B A hC t h0 _ n hn ?_
    have := ih ⟨t.val - 1, pred_lt t⟩ (by show (t.val - 1) % 16 = n; omega)
    rwa [show (⟨t.val - 1, pred_lt t⟩ : Fin cfg0.N).val / 16 = t.val / 16 from by show (t.val - 1) / 16 = t.val / 16; omega] at this
end
end Cert.KernelIdeal.Sb
-- ==== Proof.Final.lean ====
module
public import proofs.«01_k».proof.Proof.Grid
@[expose] public section
set_option maxRecDepth 16384
/-! The three results after the run, in the reals of the specification. -/
noncomputable section
namespace Cert.Sb
open Finset
/-- The gradient of the queries. -/
def dqS (Q K W O : ℕ → ℕ → ℝ) (t e : ℕ) : ℝ := ∑ u ∈ range 4096, dzz (zz Q K (e / 64)) (zz O W (e / 64)) t u * K u e
/-- The gradient of the keys. -/
def dkS (Q K W O : ℕ → ℕ → ℝ) (s e : ℕ) : ℝ := ∑ a ∈ range 4096, dzz (zz Q K (e / 64)) (zz O W (e / 64)) a s * Q a e
/-- The gradient of the values. -/
def dvS (Q K O : ℕ → ℕ → ℝ) (s e : ℕ) : ℝ := ∑ a ∈ range 4096, ww (zz Q K (e / 64)) a s * O a e
end Cert.Sb
namespace Cert.KernelIdeal.Sb
open Cert.KernelIdeal Cert.KernelIdeal.Gen Idealize.ShloMosaic Idealize.ShloMosaic.TcCoe Idealize.ShloMosaic.Tactic Idealize.SL.Sem Cert.Sb Finset

theorem pick (X : ℕ → ℝ) (p : ℕ) (l : Fin 128) (y : ℝ) : X (2 * p) * (y * NN0 l) + X (2 * p + 1) * (y * NN1 l) = X ((128 * p + l.val) / 64) * y := by
  rcases (by omega : l.val / 64 = 0 ∨ l.val / 64 = 1) with h | h
  · rw [show (128 * p + l.val) / 64 = 2 * p by omega]; simp only [NN0, NN1, h]; norm_num
  · rw [show (128 * p + l.val) / 64 = 2 * p + 1 by omega]; simp only [NN0, NN1, h]; norm_num

variable {m : (ℓ : Loc nD τ sig) → Buf (Elt Ideal) ℓ} {c : Dev nD} {Q K W O : ℕ → ℕ → ℝ} (A : Args m c Q K W O) (hC : CountOk Ideal)
include A

theorem final6 : (dats m hC 0 c).arrAt 6 (cfgs 0).N = (fun i => ((dqS Q K W O (i 0).val (i 1).val : ℝ) : EReal) : FVec Ideal S4096x1024 .f32) := by
  refine (dats m hC 0 c).arrAt_eq_of_covers 6 _ (by decide +kernel) fun t _ y => ?_
  blk_simp
  rw [after6, (idx t).2.2.2.2.2.2.1]
  have H := after_all A hC (t.val % 16) t rfl
  generalize outs m hC c t.val t.isLt = x at H ⊢
  generalize t.val / 16 = p at H ⊢
  generalize t.val % 16 = n at H ⊢
  idx_vars y
  refine (H.dq _ _).trans (congrArg Real.toEReal ?_)
  rw [← sum_add_distrib]
  show _ = dqS Q K W O (n * 256 + _) (p * 128 + _)
  rw [mul_comm n, mul_comm p]
  exact sum_congr rfl fun u _ => pick (fun h => dzz (zz Q K h) (zz O W h) _ u) p _ _

theorem final7 : (dats m hC 0 c).arrAt 7 (cfgs 0).N = (fun i => ((dkS Q K W O (i 0).val (i 1).val : ℝ) : EReal) : FVec Ideal S4096x1024 .f32) := by
  refine (dats m hC 0 c).arrAt_eq_of_covers 7 _ (by decide +kernel) fun t hf y => ?_
  blk_simp
  rw [after7, (idx t).2.2.2.2.2.2.2.1]
  have H := after_all A hC 15 t ((flush0_7 t).mp hf)
  generalize outs m hC c t.val t.isLt = x at H ⊢
  generalize t.val / 16 = p at H ⊢
  idx_vars y
  refine (H.dk _ _).trans (congrArg Real.toEReal ?_)
  show _ = dkS Q K W O (0 * 4096 + _) (p * 128 + _)
  rw [zero_mul, zero_add, mul_comm p]
  exact sum_congr rfl fun a _ => pick (fun h => dzz (zz Q K h) (zz O W h) a _) p _ _

theorem final8 : (dats m hC 0 c).arrAt 8 (cfgs 0).N = (fun i => ((dvS Q K O (i 0).val (i 1).val : ℝ) : EReal) : FVec Ideal S4096x1024 .f32) := by
  refine (dats m hC 0 c).arrAt_eq_of_covers 8 _ (by decide +kernel) fun t hf y => ?_
  blk_simp
  rw [after8, (idx t).2.2.2.2.2.2.2.2]
  have H := after_all A hC 15 t ((flush0_8 t).mp hf)
  generalize outs m hC c t.val t.isLt = x at H ⊢
  generalize t.val / 16 = p at H ⊢
  idx_vars y
  refine (H.dv _ _).trans (congrArg Real.toEReal ?_)
  show _ = dvS Q K O (0 * 4096 + _) (p * 128 + _)
  rw [zero_mul, zero_add, mul_comm p]
  exact sum_congr rfl fun a _ => pick (fun h => ww (zz Q K h) a _) p _ _
end Cert.KernelIdeal.Sb
-- ==== Proof.Ref.lean ====
module
public import proofs.«01_k».proof.Proof.Final
public import proofs.«01_k».proof.Proof.Gen.ReferenceIdeal.Run
@[expose] public section
set_option maxRecDepth 16384
/-! The reference's three results, in the reals of the specification. -/
noncomputable section
namespace Cert.ReferenceIdeal.Sb
open Cert.ReferenceIdeal Cert.ReferenceIdeal.Gen Idealize.ShloMosaic Idealize.ShloMosaic.TcCoe Idealize.ShloMosaic.Tactic Idealize.SL.Sem Cert.Sb Finset

/-- One number per head, query and key. -/
abbrev Tri := FVec Ideal S16x4096x4096 .f32

/-- An argument's heads. -/
def hd (x : FVec Ideal S4096x1024 .bf16) : FVec Ideal S4096x16x64 .f32 := shapeCast S4096x16x64 (extf .f32 x bitsLt_bf16_f32) shapeCasts_S4096x1024_S4096x16x64

/-- The output gradient's heads, turned. -/
def hdo (x : FVec Ideal S4096x1024 .f32) : FVec Ideal S16x64x4096 .f32 :=
  transpose S16x64x4096 [1, 2, 0] (shapeCast S4096x16x64 x shapeCasts_S4096x1024_S4096x16x64) transposes_S4096x16x64_S16x64x4096_1_2_0

/-- The scores. -/
def sc (q k : FVec Ideal S4096x1024 .bf16) : Tri := Host.dotGeneral dot_S4096x16x64_S4096x16x64_S16x4096x4096_2_2_0_0_1_1 none (hd q) (hd k)

/-- Key before query. -/
def seen : IVec S16x4096x4096 1 :=
  broadcastInDim S16x4096x4096 ![1, 2] bcast_S4096x4096_S16x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Zeros, as a constant and as a converted one. -/
def zer : Tri := broadcastInDim S16x4096x4096 ![] bcast_S_S16x4096x4096 (constant S_ .f32 0x00000000#32)
def zed : Tri := broadcastInDim S16x4096x4096 ![] bcast_S_S16x4096x4096 (id (constant S_ .f32 0x00000000#32))
/-- Infinities. -/
def top : Tri := broadcastInDim S16x4096x4096 ![] bcast_S_S16x4096x4096 (constant S_ .f32 0x7F800000#32)

/-- The softplus of each entry. -/
def sp (x : Tri) : Tri :=
  select (cmpf .une (subf x zer) (subf x zer)) (addf x zer) (addf (maximumf x zer) (Host.log1p (Host.exp (Host.negf (Host.absf (subf x zer))))))

/-- Its slope. -/
def slope (x : Tri) : Tri := Host.exp (subf (select (cmpf .oeq x top) zer x) (select (cmpf .oeq (sp x) top) zer (sp x)))

variable (q k v : FVec Ideal S4096x1024 .bf16) (o : FVec Ideal S4096x1024 .f32)

/-- The log of what a pair leaves over. -/
def left : Tri := select seen (Host.negf (sp (Host.negf (Host.negf (sc q k))))) zed

/-- The weights, before the mask. -/
def wt : Tri :=
  Host.exp (addf (Host.negf (sp (Host.negf (sc q k))))
    (subf (Host.reduceWindowAdd ![1, 1, 4096] ![1, 1, 1] ![0, 0, 0] ![0, 0, 4095] (left q k) (broadcastInDim S_ ![] bcast_S_S_ (constant S_ .f32 0x00000000#32))
      reduceWindows_S16x4096x4096_S16x4096x4096_w1s1p0_0_w1s1p0_0_w4096s1p0_4095 h_S_) (left q k)))

/-- The gradient of the log weights. -/
def lw : Tri := mulf (select seen (Host.dotGeneral dot_S16x64x4096_S4096x16x64_S16x4096x4096_1_2_2_0_0_1 none (hdo o) (hd v)) zer) (wt q k)

/-- Its sums over the earlier keys. -/
def ear : Tri :=
  select seen (addf (Host.negf (lw q k v o)) (Host.reduceWindowAdd ![1, 1, 4096] ![1, 1, 1] ![0, 0, 4095] ![0, 0, 0] (lw q k v o)
    (broadcastInDim S_ ![] bcast_S_S_ (constant S_ .f32 0x00000000#32)) reduceWindows_S16x4096x4096_S16x4096x4096_w1s1p0_0_w1s1p0_0_w4096s1p4095_0 h_S_)) zer

/-- The gradient of the scores. -/
def dsc : Tri :=
  addf (Host.negf (Host.negf (mulf (Host.negf (ear q k v o)) (slope (Host.negf (Host.negf (sc q k)))))))
    (Host.negf (mulf (Host.negf (lw q k v o)) (slope (Host.negf (sc q k)))))

/-- The three results. -/
def dqR : FVec Ideal S4096x1024 .f32 :=
  shapeCast S4096x1024 (transpose S4096x16x64 [1, 0, 2] (Host.dotGeneral dot_S16x4096x4096_S4096x16x64_S16x4096x64_2_0_1_2_0_1 none (dsc q k v o) (hd k))
    transposes_S16x4096x64_S4096x16x64_1_0_2) shapeCasts_S4096x16x64_S4096x1024
def dkR : FVec Ideal S4096x1024 .f32 :=
  shapeCast S4096x1024 (transpose S4096x16x64 [1, 0, 2] (Host.dotGeneral dot_S16x4096x4096_S4096x16x64_S16x4096x64_1_0_2_2_0_1 none (dsc q k v o) (hd q))
    transposes_S16x4096x64_S4096x16x64_1_0_2) shapeCasts_S4096x16x64_S4096x1024
def dvR : FVec Ideal S4096x1024 .f32 :=
  shapeCast S4096x1024 (transpose S4096x16x64 [2, 0, 1] (Host.dotGeneral dot_S16x64x4096_S16x4096x4096_S16x64x4096_2_1_1_2_0_0 none (hdo o) (select seen (wt q k) zed))
    transposes_S16x64x4096_S4096x16x64_2_0_1) shapeCasts_S4096x16x64_S4096x1024

section
variable (m : (ℓ : Loc nD τ sig) → Buf (Elt Ideal) ℓ) (c : Dev nD)
theorem v45 : Value.res_main_v45 (F := Ideal) m c = dvR (m ((c.tc : Thread nD τ).loc main_arg0)) (m ((c.tc : Thread nD τ).loc main_arg1)) (m ((c.tc : Thread nD τ).loc main_arg3)) := rfl
theorem v44 : Value.res_main_v44 (F := Ideal) m c = dkR (m ((c.tc : Thread nD τ).loc main_arg0)) (m ((c.tc : Thread nD τ).loc main_arg1)) (m ((c.tc : Thread nD τ).loc main_arg2)) (m ((c.tc : Thread nD τ).loc main_arg3)) := rfl
theorem v43 : Value.res_main_v43 (F := Ideal) m c = dqR (m ((c.tc : Thread nD τ).loc main_arg0)) (m ((c.tc : Thread nD τ).loc main_arg1)) (m ((c.tc : Thread nD τ).loc main_arg2)) (m ((c.tc : Thread nD τ).loc main_arg3)) := rfl
end
end Cert.ReferenceIdeal.Sb
-- ==== Proof.RefAt.lean ====
module
public import proofs.«01_k».proof.Proof.Ref
@[expose] public section
set_option maxRecDepth 16384
/-! The reference at an index. -/
noncomputable section
namespace Cert.ReferenceIdeal.Sb
open Cert.ReferenceIdeal Cert.ReferenceIdeal.Gen Idealize.ShloMosaic Idealize.ShloMosaic.TcCoe Idealize.ShloMosaic.Tactic Idealize.SL.Sem Cert.Sb Finset

theorem hd_at (x : FVec Ideal S4096x1024 .bf16) (X : ℕ → ℕ → ℝ) (hx : ∀ (t : Fin 4096) (e : Fin 1024), x (ix2 t e) = (X t.val e.val : EReal))
    (h : Fin 16) (t : Fin 4096) (d : Fin 64) : hd x (ix3 t h d) = (X t.val (64 * h.val + d.val) : EReal) := by
  pointwise [hd]
  rw [hx]
  dsimp only
  rw [mul_comm]

theorem hdo_at (x : FVec Ideal S4096x1024 .f32) (X : ℕ → ℕ → ℝ) (hx : ∀ (t : Fin 4096) (e : Fin 1024), x (ix2 t e) = (X t.val e.val : EReal))
    (h : Fin 16) (t : Fin 4096) (d : Fin 64) : hdo x (ix3 h d t) = (X t.val (64 * h.val + d.val) : EReal) := by
  pointwise [hdo]
  rw [hx]
  dsimp only
  rw [mul_comm]

theorem seen_at (h : Fin 16) (t s : Fin 4096) : seen (ix3 h t s) = if s.val < t.val then 1#1 else 0#1 := by
  pointwise [seen]
  exact Cert.KernelIdeal.Sb.slt_words _ _ s.isLt t.isLt

theorem zero_bits : Ideal.ofBits .f32 0x00000000#32 = (0 : EReal) := by simp [Ideal.ofBits, Ideal.ieee]
theorem inf_bits : Ideal.ofBits .f32 0x7F800000#32 = (⊤ : EReal) := by simp [Ideal.ofBits, Ideal.ieee]

theorem zer_at (h : Fin 16) (t s : Fin 4096) : zer (ix3 h t s) = (0 : EReal) := zero_bits
theorem zed_at (h : Fin 16) (t s : Fin 4096) : zed (ix3 h t s) = (0 : EReal) := zero_bits
theorem top_at (h : Fin 16) (t s : Fin 4096) : top (ix3 h t s) = (⊤ : EReal) := inf_bits

theorem sp_at (x : Tri) (h : Fin 16) (t s : Fin 4096) (r : ℝ) (hx : x (ix3 h t s) = (r : EReal)) : sp x (ix3 h t s) = ((-lsg (-r) : ℝ) : EReal) := by
  pointwise [sp, zer_at, hx]
  exact softplus_real r

theorem slope_at (x : Tri) (h : Fin 16) (t s : Fin 4096) (r : ℝ) (hx : x (ix3 h t s) = (r : EReal)) : slope x (ix3 h t s) = ((Real.exp (lsg r) : ℝ) : EReal) := by
  pointwise [slope, zer_at, top_at, hx]
  rw [sp_at x h t s r hx, if_neg (EReal.coe_ne_top _), if_neg (EReal.coe_ne_top _), ← EReal.coe_sub, Ideal.exp_coe, lsg_neg]
  congr 2
  ring

section
variable {q k v : FVec Ideal S4096x1024 .bf16} {o : FVec Ideal S4096x1024 .f32} {Q K W O : ℕ → ℕ → ℝ}
  (hq : ∀ (t : Fin 4096) (e : Fin 1024), q (ix2 t e) = (Q t.val e.val : EReal)) (hk : ∀ (t : Fin 4096) (e : Fin 1024), k (ix2 t e) = (K t.val e.val : EReal))
  (hv : ∀ (t : Fin 4096) (e : Fin 1024), v (ix2 t e) = (W t.val e.val : EReal)) (ho : ∀ (t : Fin 4096) (e : Fin 1024), o (ix2 t e) = (O t.val e.val : EReal))
include hq hk

theorem sc_at (h : Fin 16) (t s : Fin 4096) : sc q k (ix3 h t s) = (zz Q K h.val t.val s.val : EReal) := by
  pointwise [sc]
  refine sum_real fun d _ => ?_
  rw [hd_at q Q hq, hd_at k K hk, ← EReal.coe_mul]

theorem left_at (h : Fin 16) (t s : Fin 4096) : left q k (ix3 h t s) = (ell (zz Q K h.val) t.val s.val : EReal) := by
  pointwise [left]
  rw [seen_at, zed_at, sp_at _ h t s (zz Q K h.val t.val s.val) (by pointwise; rw [sc_at hq hk, neg_neg])]
  unfold ell
  by_cases hs : s.val < t.val
  · rw [if_pos hs, if_pos hs, ← EReal.coe_neg, neg_neg, lsg_neg]; rfl
  · rw [if_neg hs, if_neg hs]; rfl

theorem cumL_at (h : Fin 16) (t s : Fin 4096) :
    (Host.reduceWindowAdd ![1, 1, 4096] ![1, 1, 1] ![0, 0, 0] ![0, 0, 4095] (left q k) (broadcastInDim S_ ![] bcast_S_S_ (constant S_ .f32 0x00000000#32))
      reduceWindows_S16x4096x4096_S16x4096x4096_w1s1p0_0_w1s1p0_0_w4096s1p0_4095 h_S_ : Tri) (ix3 h t s) = ((∑ u ∈ Ico s.val 4096, ell (zz Q K h.val) t.val u : ℝ) : EReal) := by
  refine Eq.trans ?_ (cum_after reduceWindows_S16x4096x4096_S16x4096x4096_w1s1p0_0_w1s1p0_0_w4096s1p0_4095 (left q k) (fun h t s => ell (zz Q K h) t s) (left_at hq hk) h t s)
  unfold Host.reduceWindowAdd
  rw [Ideal.hostReduceWindowAdd_def]
  congr 1
  simp [broadcastInDim, constant, Ideal.ofBits, Ideal.ieee]

theorem wt_at (h : Fin 16) (t s : Fin 4096) : wt q k (ix3 h t s) = ((Real.exp (lsg (zz Q K h.val t.val s.val) + later (zz Q K h.val) t.val s.val) : ℝ) : EReal) := by
  have e1 := cumL_at hq hk h t s
  unfold wt
  generalize (Host.reduceWindowAdd ![1, 1, 4096] ![1, 1, 1] ![0, 0, 0] ![0, 0, 4095] (left q k) (broadcastInDim S_ ![] bcast_S_S_ (constant S_ .f32 0x00000000#32))
      reduceWindows_S16x4096x4096_S16x4096x4096_w1s1p0_0_w1s1p0_0_w4096s1p0_4095 h_S_ : Tri) = X at e1 ⊢
  pointwise
  rw [left_at hq hk, e1, sp_at _ h t s (-zz Q K h.val t.val s.val) (by pointwise; rw [sc_at hq hk, EReal.coe_neg])]
  rw [← EReal.coe_neg, ← EReal.coe_sub, ← EReal.coe_add, Ideal.exp_coe, neg_neg, neg_neg]
  congr 3
  unfold later
  rw [sum_eq_sum_Ico_succ_bot s.isLt]
  ring

include hv ho
theorem lw_at (h : Fin 16) (t s : Fin 4096) : lw q k v o (ix3 h t s) = (ee (zz Q K h.val) (zz O W h.val) t.val s.val : EReal) := by
  pointwise [lw]
  rw [wt_at hq hk, seen_at, zer_at, sum_real (g := fun d : Fin 64 => O t.val (64 * h.val + d.val) * W s.val (64 * h.val + d.val))
    fun d _ => by rw [hdo_at o O ho, hd_at v W hv, ← EReal.coe_mul]]
  unfold ee ww
  by_cases hs : s.val < t.val
  · rw [if_pos hs, if_pos hs, EReal.coe_mul]; rfl
  · rw [if_neg hs, if_neg hs, mul_zero]; exact zero_mul _

theorem cumE_at (h : Fin 16) (t s : Fin 4096) :
    (Host.reduceWindowAdd ![1, 1, 4096] ![1, 1, 1] ![0, 0, 4095] ![0, 0, 0] (lw q k v o) (broadcastInDim S_ ![] bcast_S_S_ (constant S_ .f32 0x00000000#32))
      reduceWindows_S16x4096x4096_S16x4096x4096_w1s1p0_0_w1s1p0_0_w4096s1p4095_0 h_S_ : Tri) (ix3 h t s) = ((∑ u ∈ range (s.val + 1), ee (zz Q K h.val) (zz O W h.val) t.val u : ℝ) : EReal) := by
  refine Eq.trans ?_ (cum_upto reduceWindows_S16x4096x4096_S16x4096x4096_w1s1p0_0_w1s1p0_0_w4096s1p4095_0 (lw q k v o) (fun h t s => ee (zz Q K h) (zz O W h) t s) (lw_at hq hk hv ho) h t s)
  unfold Host.reduceWindowAdd
  rw [Ideal.hostReduceWindowAdd_def]
  congr 1
  simp [broadcastInDim, constant, Ideal.ofBits, Ideal.ieee]

theorem ear_at (h : Fin 16) (t s : Fin 4096) : ear q k v o (ix3 h t s) = ((if s.val < t.val then pp (zz Q K h.val) (zz O W h.val) t.val s.val else 0 : ℝ) : EReal) := by
  have e1 := cumE_at hq hk hv ho h t s
  unfold ear
  generalize (Host.reduceWindowAdd ![1, 1, 4096] ![1, 1, 1] ![0, 0, 4095] ![0, 0, 0] (lw q k v o) (broadcastInDim S_ ![] bcast_S_S_ (constant S_ .f32 0x00000000#32))
      reduceWindows_S16x4096x4096_S16x4096x4096_w1s1p0_0_w1s1p0_0_w4096s1p4095_0 h_S_ : Tri) = X at e1 ⊢
  pointwise
  rw [lw_at hq hk hv ho, e1, seen_at, zer_at, ← EReal.coe_neg, ← EReal.coe_add, sum_range_succ]
  by_cases hs : s.val < t.val
  · rw [if_pos hs, if_pos hs]
    refine Eq.trans rfl (congrArg Real.toEReal ?_)
    unfold pp; ring
  · rw [if_neg hs, if_neg hs]; rfl

theorem dsc_at (h : Fin 16) (t s : Fin 4096) : dsc q k v o (ix3 h t s) = (dzz (zz Q K h.val) (zz O W h.val) t.val s.val : EReal) := by
  pointwise [dsc]
  rw [ear_at hq hk hv ho, lw_at hq hk hv ho, slope_at _ h t s (zz Q K h.val t.val s.val) (by pointwise; rw [sc_at hq hk, neg_neg]),
    slope_at _ h t s (-zz Q K h.val t.val s.val) (by pointwise; rw [sc_at hq hk, EReal.coe_neg])]
  simp only [← EReal.coe_neg, ← EReal.coe_mul, ← EReal.coe_add]
  refine congrArg Real.toEReal ?_
  rw [show Real.exp (lsg (-zz Q K h.val t.val s.val)) = 1 - Real.exp (lsg (zz Q K h.val t.val s.val)) by rw [← exp_lsg_add (zz Q K h.val t.val s.val)]; ring]
  unfold dzz bet
  by_cases hs : s.val < t.val
  · rw [if_pos hs, if_pos hs]; ring
  · rw [if_neg hs, if_neg hs, show ee (zz Q K h.val) (zz O W h.val) t.val s.val = 0 by unfold ee; rw [ww_of_le (by omega), mul_zero]]; ring

theorem dqR_at (t : Fin 4096) (e : Fin 1024) : dqR q k v o (ix2 t e) = (dqS Q K W O t.val e.val : EReal) := by
  pointwise [dqR]
  refine (sum_real (g := fun u : Fin 4096 => dzz (zz Q K (e.val / 64)) (zz O W (e.val / 64)) t.val u.val * K u.val e.val) fun u _ => ?_).trans
    (congrArg Real.toEReal (Fin.sum_univ_eq_sum_range (fun u => dzz (zz Q K (e.val / 64)) (zz O W (e.val / 64)) t.val u * K u e.val) 4096))
  rw [dsc_at hq hk hv ho, hd_at k K hk, ← EReal.coe_mul]
  dsimp only
  rw [Nat.div_add_mod]
theorem dkR_at (t : Fin 4096) (e : Fin 1024) : dkR q k v o (ix2 t e) = (dkS Q K W O t.val e.val : EReal) := by
  pointwise [dkR]
  refine (sum_real (g := fun a : Fin 4096 => dzz (zz Q K (e.val / 64)) (zz O W (e.val / 64)) a.val t.val * Q a.val e.val) fun u _ => ?_).trans
    (congrArg Real.toEReal (Fin.sum_univ_eq_sum_range (fun a => dzz (zz Q K (e.val / 64)) (zz O W (e.val / 64)) a t.val * Q a e.val) 4096))
  rw [dsc_at hq hk hv ho, hd_at q Q hq, ← EReal.coe_mul]
  dsimp only
  rw [Nat.div_add_mod]
omit hv
theorem dvR_at (t : Fin 4096) (e : Fin 1024) : dvR q k o (ix2 t e) = (dvS Q K O t.val e.val : EReal) := by
  pointwise [dvR]
  refine (sum_real (g := fun a : Fin 4096 => ww (zz Q K (e.val / 64)) a.val t.val * O a.val e.val) fun a _ => ?_).trans
    (congrArg Real.toEReal (Fin.sum_univ_eq_sum_range (fun a => ww (zz Q K (e.val / 64)) a t.val * O a e.val) 4096))
  rw [hdo_at o O ho, seen_at, wt_at hq hk, zed_at]
  dsimp only
  rw [Nat.div_add_mod]
  unfold ww
  by_cases hs : t.val < a.val
  · rw [if_pos hs, if_pos hs, EReal.coe_mul, mul_comm]; rfl
  · rw [if_neg hs, if_neg hs, zero_mul]; exact mul_zero _
end
end Cert.ReferenceIdeal.Sb
-- ==== Proof.Finite.lean ====
module
public import proofs.«01_k».proof.Defs
public import proofs.«01_k».proof.Proof.Gen.Pre_finite
public import proofs.«01_k».proof.Proof.RefAt
@[expose] public section
set_option maxRecDepth 16384
/-! Finite arguments are reals. -/
noncomputable section
namespace Cert.Sb
open Idealize.ShloMosaic Idealize.ShloMosaic.TcCoe Idealize.ShloMosaic.Tactic Idealize.SL.Sem Cert.KernelIdeal

/-- What the test of one entry says. -/
theorem real_of (x : EReal) (h : (if FloatOps.absf (F := Ideal) (φ := .f32) x < (⊤ : EReal) then 1#1 else 0#1) = 1#1) : x = ((x.toReal : ℝ) : EReal) := by
  have h' : FloatOps.absf (F := Ideal) (φ := .f32) x < (⊤ : EReal) := by
    by_contra hn
    rw [if_neg hn] at h
    exact absurd h (by decide)
  rw [Ideal.absf_def] at h'
  refine (EReal.coe_toReal ?_ ?_).symm
  · rintro rfl; simp at h'
  · rintro rfl; simp at h'

theorem test_one (x : EReal) : (if FloatOps.absf (F := Ideal) (φ := .f32) x < (⊤ : EReal) then 1#1 else 0#1)
    = BitVec.ofBool (decide (FloatOps.absf (F := Ideal) (φ := .f32) x < Ideal.ofBits FTy.f32 2139095040#32)) := by
  rw [show Ideal.ofBits FTy.f32 2139095040#32 = (⊤ : EReal) from Cert.ReferenceIdeal.Sb.inf_bits]
  by_cases h : FloatOps.absf (F := Ideal) (φ := .f32) x < (⊤ : EReal)
  · rw [if_pos h, decide_eq_true h]; rfl
  · rw [if_neg h, decide_eq_false h]; rfl

variable (q k v : FVec Ideal S4096x1024 .bf16) (o : FVec Ideal S4096x1024 .f32)

theorem fin0 (h : (Cert.Pre_finite.fn (F := Ideal) q k v o).1 = fun _ => 1#1) (t : Fin 4096) (e : Fin 1024) : q (ix2 t e) = ((q (ix2 t e)).toReal : EReal) := by
  refine real_of _ (Eq.trans ?_ (congrFun h (ix2 t e)))
  pointwise [Cert.Pre_finite.fn]
  exact test_one _

theorem fin1 (h : (Cert.Pre_finite.fn (F := Ideal) q k v o).2.1 = fun _ => 1#1) (t : Fin 4096) (e : Fin 1024) : k (ix2 t e) = ((k (ix2 t e)).toReal : EReal) := by
  refine real_of _ (Eq.trans ?_ (congrFun h (ix2 t e)))
  pointwise [Cert.Pre_finite.fn]
  exact test_one _

theorem fin2 (h : (Cert.Pre_finite.fn (F := Ideal) q k v o).2.2.1 = fun _ => 1#1) (t : Fin 4096) (e : Fin 1024) : v (ix2 t e) = ((v (ix2 t e)).toReal : EReal) := by
  refine real_of _ (Eq.trans ?_ (congrFun h (ix2 t e)))
  pointwise [Cert.Pre_finite.fn]
  exact test_one _

theorem fin3 (h : (Cert.Pre_finite.fn (F := Ideal) q k v o).2.2.2 = fun _ => 1#1) (t : Fin 4096) (e : Fin 1024) : o (ix2 t e) = ((o (ix2 t e)).toReal : EReal) := by
  refine real_of _ (Eq.trans ?_ (congrFun h (ix2 t e)))
  pointwise [Cert.Pre_finite.fn]
  exact test_one _

/-- An array's entries as reals, by their row and column. -/
def ofArr {φ : FTy} (x : FVec Ideal S4096x1024 φ) (a b : ℕ) : ℝ := if h : a < 4096 ∧ b < 1024 then (x (ix2 ⟨a, h.1⟩ ⟨b, h.2⟩) : EReal).toReal else 0

theorem ofArr_at {φ : FTy} (x : FVec Ideal S4096x1024 φ) (t : Fin 4096) (e : Fin 1024) : ofArr x t.val e.val = (x (ix2 t e) : EReal).toReal := by
  unfold ofArr; rw [dif_pos ⟨t.isLt, e.isLt⟩]

theorem args_of (m : (ℓ : Loc nD τ sig) → Buf (Elt Ideal) ℓ) (h : Cert.Pre_KernelIdeal_finite m) (c : Dev nD) :
    Cert.KernelIdeal.Sb.Args m c (ofArr (φ := .bf16) (m ((c.tc : Thread nD τ).loc main_arg0))) (ofArr (φ := .bf16) (m ((c.tc : Thread nD τ).loc main_arg1)))
      (ofArr (φ := .bf16) (m ((c.tc : Thread nD τ).loc main_arg2))) (ofArr (φ := .f32) (m ((c.tc : Thread nD τ).loc main_arg3))) where
  q t e := by rw [ofArr_at]; exact fin0 _ _ _ _ (h c).1 t e
  k t e := by rw [ofArr_at]; exact fin1 _ _ _ _ (h c).2.1 t e
  v t e := by rw [ofArr_at]; exact fin2 _ _ _ _ (h c).2.2.1 t e
  o t e := by rw [ofArr_at]; exact fin3 _ _ _ _ (h c).2.2.2 t e
end Cert.Sb
-- ==== Proof.Dact.lean ====
module

public import proofs.«01_k».proof.Proof.Gen.Kernel2Ideal.Value
public import proofs.«01_k».proof.Proof.Gen.Reference2Ideal.Run
public import proofs.«01_k».proof.Proof.Gen.Pre_finite2
public import proofs.«01_k».proof.Proof.Finite
public import Idealize.ShloMosaic.Lib.Pipeline.ValueKit
public import Idealize.ShloMosaic.Lib.Pointwise

@[expose] public section

/-!
The gated unit's gradient: every point multiplies a block of the cotangent with a block of the down
projection's rows, and from that product forms the gate's and the up part's cotangents.
-/

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The reference's gate. -/
abbrev gateR (x : FVec Ideal S2x4096x2816 .bf16) : FVec Ideal Cert.Reference2Ideal.S4096x2816 .f32 :=
  shapeCast _ (extractStridedSlice Cert.Reference2Ideal.S1x4096x2816 ![0, 0, 0] (extf .f32 x Cert.Reference2Ideal.Gen.bitsLt_bf16_f32) Cert.Reference2Ideal.Gen.slices_S2x4096x2816_S1x4096x2816_0_0_0) Cert.Reference2Ideal.Gen.shapeCasts_S1x4096x2816_S4096x2816

/-- The reference's up part. -/
abbrev upR (x : FVec Ideal S2x4096x2816 .bf16) : FVec Ideal Cert.Reference2Ideal.S4096x2816 .f32 :=
  shapeCast _ (extractStridedSlice Cert.Reference2Ideal.S1x4096x2816 ![1, 0, 0] (extf .f32 x Cert.Reference2Ideal.Gen.bitsLt_bf16_f32) Cert.Reference2Ideal.Gen.slices_S2x4096x2816_S1x4096x2816_1_0_0) Cert.Reference2Ideal.Gen.shapeCasts_S1x4096x2816_S4096x2816

/-- An array of ones. -/
abbrev oneR : FVec Ideal Cert.Reference2Ideal.S4096x2816 .f32 :=
  broadcastInDim Cert.Reference2Ideal.S4096x2816 ![] Cert.Reference2Ideal.Gen.bcast_S_S4096x2816 (constant Cert.Reference2Ideal.S_ .f32 0x3F800000#32)

/-- The reference's logistic function of the gate. -/
abbrev sigR (x : FVec Ideal S2x4096x2816 .bf16) : FVec Ideal Cert.Reference2Ideal.S4096x2816 .f32 :=
  Host.divf oneR (addf oneR (Host.exp (Host.negf (gateR x))))

/-- The reference's product of the cotangent with the down projection's transpose. -/
abbrev prodR (dx : FVec Ideal S4096x1024 .bf16) (w : FVec Ideal S2816x1024 .bf16) : FVec Ideal Cert.Reference2Ideal.S4096x2816 .f32 :=
  Host.dotGeneral Cert.Reference2Ideal.dot_S4096x1024_S2816x1024_S4096x2816_1_1_0_0_n_n none (extf .f32 dx Cert.Reference2Ideal.Gen.bitsLt_bf16_f32) (extf .f32 w Cert.Reference2Ideal.Gen.bitsLt_bf16_f32)

/-- The reference's result. -/
abbrev REF (dx : FVec Ideal S4096x1024 .bf16) (w : FVec Ideal S2816x1024 .bf16) (x : FVec Ideal S2x4096x2816 .bf16) :
    FVec Ideal S2x4096x2816 .bf16 :=
  truncf .bf16 (addf
    (pad Cert.Reference2Ideal.S2x4096x2816 ![1, 0, 0] ![0, 0, 0] ![0, 0, 0] (broadcastInDim Cert.Reference2Ideal.S1x4096x2816 ![1, 2] Cert.Reference2Ideal.Gen.bcast_S4096x2816_S1x4096x2816_1_2
      (mulf (mulf (gateR x) (sigR x)) (prodR dx w))) (constant Cert.Reference2Ideal.S_ .f32 0x00000000#32) Cert.Reference2Ideal.Gen.pads_S1x4096x2816_S2x4096x2816_100_000_000 Cert.Reference2Ideal.Gen.h_S_)
    (pad Cert.Reference2Ideal.S2x4096x2816 ![0, 0, 0] ![1, 0, 0] ![0, 0, 0] (broadcastInDim Cert.Reference2Ideal.S1x4096x2816 ![1, 2] Cert.Reference2Ideal.Gen.bcast_S4096x2816_S1x4096x2816_1_2
      (addf (mulf (mulf (prodR dx w) (upR x)) (sigR x))
        (mulf (mulf (gateR x) (mulf (prodR dx w) (upR x))) (mulf (sigR x) (subf oneR (sigR x))))))
      (constant Cert.Reference2Ideal.S_ .f32 0x00000000#32) Cert.Reference2Ideal.Gen.pads_S1x4096x2816_S2x4096x2816_010_000_000 Cert.Reference2Ideal.Gen.h_S_)) Cert.Reference2Ideal.Gen.bitsLt_bf16_f32

/-- The cotangent's product with a row of the down projection. -/
def prodS (dx : FVec Ideal S4096x1024 .bf16) (w : FVec Ideal S2816x1024 .bf16) (i : Fin 4096) (l : Fin 2816) : EReal :=
  ∑ k : Fin 1024, dx (ix2 i k) * w (ix2 l k)

/-- The logistic function. -/
def sigS (g : EReal) : EReal := Ideal.div 1 (1 + Ideal.exp (-g))

/-- The reference's cotangent of the gate. -/
theorem ref_gate (dx : FVec Ideal S4096x1024 .bf16) (w : FVec Ideal S2816x1024 .bf16) (x : FVec Ideal S2x4096x2816 .bf16)
    (j : S2x4096x2816.Idx) (h : (j 0).val = 0) : REF dx w x j
      = prodS dx w (j 1) (j 2) * x (ix3 1 (j 1) (j 2)) * sigS (x (ix3 0 (j 1) (j 2)))
        + x (ix3 0 (j 1) (j 2)) * (prodS dx w (j 1) (j 2) * x (ix3 1 (j 1) (j 2)))
          * (sigS (x (ix3 0 (j 1) (j 2))) * (1 - sigS (x (ix3 0 (j 1) (j 2))))) := by
  pointwise [REF, gateR, upR, oneR, sigR, prodR]
  have c1 : ¬(1 ≤ (j 0).val ∧ (j 0).val - 1 < 1) := by omega
  have c2 : (j 0).val < 1 := by omega
  simp only [c1, c2, dite_true, dite_false, zero_add]
  rfl

/-- The reference's cotangent of the up part. -/
theorem ref_up (dx : FVec Ideal S4096x1024 .bf16) (w : FVec Ideal S2816x1024 .bf16) (x : FVec Ideal S2x4096x2816 .bf16)
    (j : S2x4096x2816.Idx) (h : (j 0).val = 1) : REF dx w x j
      = x (ix3 0 (j 1) (j 2)) * sigS (x (ix3 0 (j 1) (j 2))) * prodS dx w (j 1) (j 2) := by
  pointwise [REF, gateR, upR, oneR, sigR, prodR]
  have c1 : 1 ≤ (j 0).val ∧ (j 0).val - 1 < 1 := by omega
  have c2 : ¬(j 0).val < 1 := by omega
  simp only [c1, c2, and_self, dite_true, dite_false, add_zero]
  rfl

/-- Where the windows' blocks sit at each point. -/
theorem idx : ∀ t : Fin cfg0.N, win0_0.index t = ![t.val / 2, 0]
    ∧ win0_1.index t = ![t.val % 2, 0]
    ∧ win0_2.index t = ![0, t.val / 2, t.val % 2]
    ∧ win0_3.index t = ![0, t.val / 2, t.val % 2] :=
  (by decide +kernel : ∀ t : Fin grid0.N, _)

/-- What a point stores of the gate's cotangent. -/
theorem pay_gate (v0 : Vec Ideal S512x1024 .bf16) (v1 : Vec Ideal S1408x1024 .bf16) (v3 v6 : Vec Ideal S1x512x1408 .bf16)
    (j : S1x512x1408.Idx) : k0_pay4 v0 v1 v3 v6 j
      = (∑ k : Fin 1024, v0 (ix2 (j 1) k) * v1 (ix2 (j 2) k)) * v6 j * sigS (v3 j) * (1 + v3 j * (1 - sigS (v3 j))) := by
  pointwise [k0_pay4, k0_pay1, k0_pay2, k0_pay3]
  simp only [zero_sub]
  rfl

/-- What a point stores of the up part's cotangent. -/
theorem pay_up (v0 : Vec Ideal S512x1024 .bf16) (v1 : Vec Ideal S1408x1024 .bf16) (v3 : Vec Ideal S1x512x1408 .bf16)
    (j : S1x512x1408.Idx) : k0_pay5 v0 v1 v3 j
      = (∑ k : Fin 1024, v0 (ix2 (j 1) k) * v1 (ix2 (j 2) k)) * v3 j * sigS (v3 j) := by
  pointwise [k0_pay5, k0_pay1, k0_pay2, k0_pay3]
  simp only [zero_sub]
  rfl

/-- The logistic function of a real. -/
theorem sigS_coe (g : ℝ) : sigS (g : EReal) = ((1 / (1 + Real.exp (-g)) : ℝ) : EReal) := by
  unfold sigS
  have p : 0 < 1 + Real.exp (-g) := by positivity
  rw [← EReal.coe_neg, Ideal.exp_coe, ← EReal.coe_one, ← EReal.coe_add, Ideal.div_coe p.ne', EReal.coe_one, one_mul]

/-- The two forms of the gate's cotangent agree on reals. -/
theorem gate_eq (d u g : ℝ) : (d : EReal) * u * sigS g * (1 + g * (1 - sigS g))
    = d * u * sigS g + g * (d * u) * (sigS g * (1 - sigS g)) := by
  rw [sigS_coe]
  generalize 1 / (1 + Real.exp (-g)) = s
  rw [← EReal.coe_one]
  simp only [← EReal.coe_mul, ← EReal.coe_sub, ← EReal.coe_add]
  congr 1
  ring

/-- Every entry of the three arrays is a real. -/
structure Reals (dx : FVec Ideal S4096x1024 .bf16) (w : FVec Ideal S2816x1024 .bf16) (x : FVec Ideal S2x4096x2816 .bf16) : Prop where
  dx : ∀ i, dx i = ((dx i).toReal : EReal)
  w : ∀ i, w i = ((w i).toReal : EReal)
  x : ∀ i, x i = ((x i).toReal : EReal)

/-- What the precondition says. -/
theorem reals_of (h : Cert.Pre_Kernel2Ideal_finite2 m) (c : Dev nD) :
    Reals (m ((c.tc : Thread nD τ).loc main_arg0)) (m ((c.tc : Thread nD τ).loc main_arg1)) (m ((c.tc : Thread nD τ).loc main_arg2)) where
  dx i := by
    refine Cert.Sb.real_of _ (Eq.trans ?_ (congrFun (h c).1 i))
    pointwise [Cert.Pre_finite2.fn]
    exact Cert.Sb.test_one _
  w i := by
    refine Cert.Sb.real_of _ (Eq.trans ?_ (congrFun (h c).2.1 i))
    pointwise [Cert.Pre_finite2.fn]
    exact Cert.Sb.test_one _
  x i := by
    refine Cert.Sb.real_of _ (Eq.trans ?_ (congrFun (h c).2.2 i))
    pointwise [Cert.Pre_finite2.fn]
    exact Cert.Sb.test_one _

/-- Of real arrays, the gate's cotangent in the form the points compute it. -/
theorem ref_gate' {dx : FVec Ideal S4096x1024 .bf16} {w : FVec Ideal S2816x1024 .bf16} {x : FVec Ideal S2x4096x2816 .bf16}
    (h : Reals dx w x) (j : S2x4096x2816.Idx) (hj : (j 0).val = 0) : REF dx w x j
      = prodS dx w (j 1) (j 2) * x (ix3 1 (j 1) (j 2)) * sigS (x (ix3 0 (j 1) (j 2)))
        * (1 + x (ix3 0 (j 1) (j 2)) * (1 - sigS (x (ix3 0 (j 1) (j 2))))) := by
  rw [ref_gate dx w x j hj]
  have hd : prodS dx w (j 1) (j 2) = ((∑ k : Fin 1024, (dx (ix2 (j 1) k)).toReal * (w (ix2 (j 2) k)).toReal : ℝ) : EReal) := by
    refine Cert.Sb.sum_real fun k _ => ?_
    rw [EReal.coe_mul, ← h.dx, ← h.w]
  rw [hd, h.x (ix3 0 (j 1) (j 2)), h.x (ix3 1 (j 1) (j 2))]
  exact (gate_eq _ _ _).symm

/-- What a point stores is the reference at the index its block's entry sits at. -/
theorem point (c : Dev nD) (h : Reals (m ((c.tc : Thread nD τ).loc main_arg0)) (m ((c.tc : Thread nD τ).loc main_arg1)) (m ((c.tc : Thread nD τ).loc main_arg2)))
    (t : Fin cfg0.N) (y : S2x512x1408.Idx) (j : S2x4096x2816.Idx)
    (hj0 : (j 0).val = (y 0).val) (hj1 : (j 1).val = t.val / 2 * 512 + (y 1).val) (hj2 : (j 2).val = t.val % 2 * 1408 + (y 2).val) :
    out0_3 (iblk m c 0 t) (iblk m c 1 t) (iblk m c 2 t) y
      = REF (m ((c.tc : Thread nD τ).loc main_arg0)) (m ((c.tc : Thread nD τ).loc main_arg1)) (m ((c.tc : Thread nD τ).loc main_arg2)) j := by
  unfold out0_3
  canon_tiles x hx
  · rw [ref_up _ _ _ j (by omega), pay_up, mul_assoc, mul_comm]
    unfold prodS
    blk_point [iblk, V, idx t]
  · rw [ref_gate' h j (by omega), pay_gate]
    unfold prodS
    blk_point [iblk, V, idx t]

/-- The array the grid leaves is the reference's. -/
theorem final (c : Dev nD) (h : Reals (m ((c.tc : Thread nD τ).loc main_arg0)) (m ((c.tc : Thread nD τ).loc main_arg1)) (m ((c.tc : Thread nD τ).loc main_arg2))) :
    (dats m 0 c).arrAt 3 (cfgs 0).N
      = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  refine point m c h t y _ ?_ ?_ ?_
  all_goals (blk_simp [idx t] <;> try omega)

end Cert.Kernel2Ideal.Ffn

end
-- ==== Proof.Quiet.lean ====
module

public import Idealize.ShloMosaic.Lib.Quiescent
public import Idealize.ShloMosaic.Lib.Claim

@[expose] public section

/-! What a run without semaphores leaves: its arguments as they were, and every counter at zero. -/

noncomputable section

open Idealize.ShloMosaic Idealize.SL.Sem

namespace Cert

/-- A run's postcondition, of which only the arguments' part is kept. -/
theorem quiet_of_run {nD : ℕ} {τ : Topo} {sig : RefSig} {Val : EltTy → Type} {Λ : Labels}
    {defs : Defs nD τ sig Val Λ} {p : (c : Thread nD τ) → Prog (TpuEff nD τ sig Val Λ c.2) PUnit} {s : MemSt nD τ sig Val}
    {P A : Dev nD → PUnit × MemSt nD τ sig Val → Prop} (hs : sig.nSem + sig.nDmaSem = 0)
    (run : θ_run defs p s fun r => ∀ c, P c r) (keep : ∀ c r, P c r → A c r) :
    θ_run defs p s fun r => (∀ c, A c r) ∧ r.2.sem = fun _ => 0 :=
  (θ_run defs p s).mono (fun r h => ⟨fun c => keep c r (h c), sem_eq_zero_of_no_sems hs r.2⟩) run

end Cert
-- ==== Proof.Dh.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

/-!
The up projection's gradient with respect to the hidden states: four points in a row add four
products, one per chip's share of the weight, and the last of them writes the sum out.
-/

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The reference's two cotangents, side by side as the columns of one array. -/
def beside (g : FVec Ideal S2x4096x2816 .bf16) : FVec Ideal Cert.Reference3Ideal.S4096x5632 .f32 :=
  addf (pad Cert.Reference3Ideal.S4096x5632 ![0, 2816] ![0, 0] ![0, 0] (shapeCast _ (extractStridedSlice Cert.Reference3Ideal.S1x4096x2816 ![1, 0, 0] (extf .f32 g Cert.Reference3Ideal.Gen.bitsLt_bf16_f32) Cert.Reference3Ideal.Gen.slices_S2x4096x2816_S1x4096x2816_1_0_0) Cert.Reference3Ideal.Gen.shapeCasts_S1x4096x2816_S4096x2816) (constant Cert.Reference3Ideal.S_ .f32 0x00000000#32) Cert.Reference3Ideal.Gen.pads_S4096x2816_S4096x5632_000_281600 Cert.Reference3Ideal.Gen.h_S_)
    (pad Cert.Reference3Ideal.S4096x5632 ![0, 0] ![0, 2816] ![0, 0] (shapeCast _ (extractStridedSlice Cert.Reference3Ideal.S1x4096x2816 ![0, 0, 0] (extf .f32 g Cert.Reference3Ideal.Gen.bitsLt_bf16_f32) Cert.Reference3Ideal.Gen.slices_S2x4096x2816_S1x4096x2816_0_0_0) Cert.Reference3Ideal.Gen.shapeCasts_S1x4096x2816_S4096x2816) (constant Cert.Reference3Ideal.S_ .f32 0x00000000#32) Cert.Reference3Ideal.Gen.pads_S4096x2816_S4096x5632_000_028160 Cert.Reference3Ideal.Gen.h_S_)

/-- The reference's result: the cotangents side by side times the weight's transpose. -/
abbrev REF (g : FVec Ideal S2x4096x2816 .bf16) (w : FVec Ideal S1024x5632 .bf16) :
    FVec Ideal S4096x1024 .f32 :=
  Host.dotGeneral Cert.Reference3Ideal.dot_S4096x5632_S1024x5632_S4096x1024_1_1_0_0_n_n none (beside g)
    (extf .f32 w Cert.Reference3Ideal.Gen.bitsLt_bf16_f32)

/-- Column `s * 1408 + k` of the cotangents side by side is column `s % 2 * 1408 + k` of cotangent `s / 2`. -/
theorem beside_at (g : FVec Ideal S2x4096x2816 .bf16) (i : Fin 4096) (l : Fin 5632) (s : Fin 4) (k : Fin 1408)
    (hl : l.val = s.val * 1408 + k.val) :
    beside g (ix2 i l) = g (ix3 ⟨s.val / 2, by omega⟩ i ⟨s.val % 2 * 1408 + k.val, by omega⟩) := by
  pointwise [beside]
  by_cases hh : s.val < 2
  · have c1 : ¬(2816 ≤ l.val ∧ l.val - 2816 < 2816) := by omega
    have c2 : l.val < 2816 := by omega
    simp only [c1, c2, dite_true, dite_false, zero_add]
    blk_point []
  · have c1 : 2816 ≤ l.val ∧ l.val - 2816 < 2816 := by omega
    have c2 : ¬l.val < 2816 := by omega
    simp only [c1, c2, and_self, dite_true, dite_false, add_zero]
    blk_point []

/-- The reference at an index, chip by chip. -/
theorem ref_at (g : FVec Ideal S2x4096x2816 .bf16) (w : FVec Ideal S1024x5632 .bf16) (j : S4096x1024.Idx) :
    REF g w j = ∑ s : Fin 4, ∑ k : Fin 1408,
      g (ix3 ⟨s.val / 2, by omega⟩ (j 0) ⟨s.val % 2 * 1408 + k.val, by omega⟩)
        * w (ix2 (j 1) ⟨s.val * 1408 + k.val, by omega⟩) := by
  pointwise [REF]
  refine (Fin.sum_mul_add_congr fun s k hl => ?_).symm
  rw [beside_at g (j 0) ⟨s.val * 1408 + k.val, hl⟩ s k rfl]

/-- One product. -/
theorem pay1_at (x0 : Vec Ideal S1x1024x1408 .bf16) (x1 : Vec Ideal S1x1024x1408 .bf16) (j : S1024x1024.Idx) :
    k0_pay1 x0 x1 j = ∑ k : Fin 1408, x0 (ix3 0 (j 0) k) * x1 (ix3 0 (j 1) k) := by
  pointwise [k0_pay1]

theorem pay2_at (x0 : Vec Ideal S1x1024x1408 .bf16) (x1 : Vec Ideal S1x1024x1408 .bf16) (j : S1024x1024.Idx) :
    k0_pay2 x0 x1 j = k0_pay1 x0 x1 j := by
  pointwise [k0_pay2]

theorem pay3_at (x0 : Vec Ideal S1x1024x1408 .bf16) (x1 : Vec Ideal S1x1024x1408 .bf16) (acc : Vec Ideal S1024x1024 .f32)
    (j : S1024x1024.Idx) : k0_pay3 x0 x1 acc j = acc j + k0_pay1 x0 x1 j := by
  pointwise [k0_pay3]

theorem pay4_at (x0 : Vec Ideal S1x1024x1408 .bf16) (x1 : Vec Ideal S1x1024x1408 .bf16) (acc : Vec Ideal S1024x1024 .f32)
    (j : S1024x1024.Idx) : k0_pay4 x0 x1 acc j = acc j + k0_pay1 x0 x1 j := by
  pointwise [k0_pay4]

/-- Where the windows' blocks sit at each point. -/
theorem idx : ∀ t : Fin cfg0.N, win0_0.index t = ![t.val % 4 / 2, t.val / 4, t.val % 2]
    ∧ win0_1.index t = ![t.val % 4, 0, 0]
    ∧ win0_2.index t = ![t.val / 4, 0] :=
  (by decide +kernel : ∀ t : Fin grid0.N, _)

/-- The running sum after the first point of a row of four. -/
theorem first (c : Dev nD) (t : Fin cfg0.N) (h : t.val % 4 = 0) (j : S1024x1024.Idx) :
    (outsAt0 m c t.val t.isLt).2 j = k0_pay1 (iblk m c 0 t) (iblk m c 1 t) j := by
  rw [outsAt0_A m c t h (by omega) (by omega)]
  frame_out
  rw [pay2_at]

/-- The running sum after a middle point. -/
theorem mid (c : Dev nD) (t : Fin cfg0.N) (h : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  rw [outsAt0_B m c t (by omega) h (by omega)]
  frame_out
  rw [pay3_at]
  exact congrArg (· + _) (congrFun (Memref.IsWhole.read_unread (m := Memref.whole cc0_scratch0) _ _) j)

/-- What the last point writes out. -/
theorem last (c : Dev nD) (t : Fin cfg0.N) (h : t.val % 4 = 3) (j : S1024x1024.Idx) :
    (outsAt0 m c t.val t.isLt).1 j
      = (outsAt0 m c (t.val - 1) (Nat.lt_of_le_of_lt (Nat.sub_le _ _) t.isLt)).2 j
        + k0_pay1 (iblk m c 0 t) (iblk m c 1 t) j := by
  rw [outsAt0_C m c t (by omega) (by omega) h]
  frame_out
  rw [pay4_at]
  exact congrArg (· + _) (congrFun (Memref.IsWhole.read_unread (m := Memref.whole cc0_scratch0) _ _) j)

/-- What the last point writes out, as a sum over the row's four points. -/
theorem row (c : Dev nD) (t : Fin cfg0.N) (h : t.val % 4 = 3) (j : S1024x1024.Idx) :
    (outsAt0 m c t.val t.isLt).1 j = ∑ s : Fin 4,
      k0_pay1 (iblk m c 0 ⟨t.val - (3 - s.val), Nat.lt_of_le_of_lt (Nat.sub_le _ _) t.isLt⟩)
        (iblk m c 1 ⟨t.val - (3 - s.val), Nat.lt_of_le_of_lt (Nat.sub_le _ _) t.isLt⟩) j := by
  have h2 := mid m c ⟨t.val - 1, Nat.lt_of_le_of_lt (Nat.sub_le _ _) t.isLt⟩ (by simp only; omega) j
  have h1 := mid m c ⟨t.val - 1 - 1, Nat.lt_of_le_of_lt ((Nat.sub_le _ _).trans (Nat.sub_le _ _)) t.isLt⟩ (by simp only; omega) j
  have h0 := first m c ⟨t.val - 1 - 1 - 1, Nat.lt_of_le_of_lt ((Nat.sub_le _ _).trans ((Nat.sub_le _ _).trans (Nat.sub_le _ _))) t.isLt⟩ (by simp only; omega) j
  rw [last m c t h j]
  simp only [] at h0 h1 h2
  rw [h2, h1, h0, Fin.sum_univ_four]
  rfl

/-- What a row's last point writes out is the reference at the index its block's entry sits at. -/
theorem point (c : Dev nD) (t : Fin cfg0.N) (h : t.val % 4 = 3) (y : S1024x1024.Idx) (j : S4096x1024.Idx)
    (h0 : (j 0).val = t.val / 4 * 1024 + (y 0).val) (h1 : (j 1).val = (y 1).val) :
    (outsAt0 m c t.val t.isLt).1 y
      = REF (m ((c : Thread nD τ).loc main_arg0)) (m ((c : Thread nD τ).loc main_arg1)) j := by
  rw [row m c t h y, ref_at _ _ j]
  show @Eq EReal _ _
  refine Finset.sum_congr rfl fun s _ => ?_
  rw [pay1_at]
  refine Finset.sum_congr rfl fun k _ => ?_
  have ht : t.val < 16 := t.isLt
  blk_point [iblk, V, idx ⟨t.val - (3 - s.val), Nat.lt_of_le_of_lt (Nat.sub_le _ _) t.isLt⟩]

/-- The array the grid leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_
  all_goals (blk_simp [idx t] <;> try omega)

end Cert.Kernel3Ideal.Ffn

end
-- ==== Proof.Dwgu.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

/-!
The up projection's weight gradient: every point of the grid multiplies a column block of the
hidden states, transposed, with one half of one of the two cotangents, and the blocks tile the four
chips' shares of the weight.
-/

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen

variable (m : (ℓ : Loc nD τ sig) → Buf (Elt Ideal) ℓ)

/-- The reference's two cotangents, side by side as the columns of one array. -/
abbrev beside (g : FVec Ideal S2x4096x2816 .bf16) : FVec Ideal Cert.Reference4Ideal.S4096x5632 .f32 :=
  addf (pad Cert.Reference4Ideal.S4096x5632 ![0, 2816] ![0, 0] ![0, 0] (shapeCast _ (extractStridedSlice Cert.Reference4Ideal.S1x4096x2816 ![1, 0, 0] (extf .f32 g Cert.Reference4Ideal.Gen.bitsLt_bf16_f32) Cert.Reference4Ideal.Gen.slices_S2x4096x2816_S1x4096x2816_1_0_0) Cert.Reference4Ideal.Gen.shapeCasts_S1x4096x2816_S4096x2816) (constant Cert.Reference4Ideal.S_ .f32 0x00000000#32) Cert.Reference4Ideal.Gen.pads_S4096x2816_S4096x5632_000_281600 Cert.Reference4Ideal.Gen.h_S_)
    (pad Cert.Reference4Ideal.S4096x5632 ![0, 0] ![0, 2816] ![0, 0] (shapeCast _ (extractStridedSlice Cert.Reference4Ideal.S1x4096x2816 ![0, 0, 0] (extf .f32 g Cert.Reference4Ideal.Gen.bitsLt_bf16_f32) Cert.Reference4Ideal.Gen.slices_S2x4096x2816_S1x4096x2816_0_0_0) Cert.Reference4Ideal.Gen.shapeCasts_S1x4096x2816_S4096x2816) (constant Cert.Reference4Ideal.S_ .f32 0x00000000#32) Cert.Reference4Ideal.Gen.pads_S4096x2816_S4096x5632_000_028160 Cert.Reference4Ideal.Gen.h_S_)

/-- The reference's result: `hᵀ dgu`, its columns dealt to the four chips. -/
abbrev REF (h : FVec Ideal S4096x1024 .bf16) (g : FVec Ideal S2x4096x2816 .bf16) :
    FVec Ideal S4x1024x1408 .bf16 :=
  truncf .bf16 (transpose Cert.Reference4Ideal.S4x1024x1408 [1, 0, 2] (shapeCast _ (transpose Cert.Reference4Ideal.S1024x5632 [1, 0] (Host.dotGeneral Cert.Reference4Ideal.dot_S4096x5632_S4096x1024_S5632x1024_0_0_1_1_n_n none (beside g) (extf .f32 h Cert.Reference4Ideal.Gen.bitsLt_bf16_f32)) Cert.Reference4Ideal.Gen.transposes_S5632x1024_S1024x5632_1_0) Cert.Reference4Ideal.Gen.shapeCasts_S1024x5632_S1024x4x1408) Cert.Reference4Ideal.Gen.transposes_S1024x4x1408_S4x1024x1408_1_0_2) Cert.Reference4Ideal.Gen.bitsLt_bf16_f32

/-- Where the windows' blocks sit at each point. -/
theorem idx : ∀ t : Fin cfg0.N, win0_0.index t = ![0, t.val / 4]
    ∧ win0_1.index t = ![t.val % 4 / 2, 0, t.val % 2]
    ∧ win0_2.index t = ![t.val % 4, t.val / 4, 0] :=
  (by decide +kernel : ∀ t : Fin grid0.N, _)

/-- The reference at an index: chip `j 0`'s column `j 2` is column `j 0 % 2 * 1408 + j 2` of cotangent `j 0 / 2`. -/
theorem ref_at (h : FVec Ideal S4096x1024 .bf16) (g : FVec Ideal S2x4096x2816 .bf16) (j : S4x1024x1408.Idx)
    (a : Fin 2) (r : Fin 1024) (b : Fin 2816) (ha : a.val = (j 0).val / 2) (hr : r.val = (j 1).val)
    (hb : b.val = (j 0).val % 2 * 1408 + (j 2).val) : REF h g j
      = ∑ k : Fin 4096, h (ix2 k r) * g (ix3 a k b) := by
  have hj : (j 2).val < 1408 := (j 2).isLt
  have hj0 : (j 0).val < 4 := (j 0).isLt
  pointwise [REF, beside]
  show @Eq EReal _ _
  refine Finset.sum_congr rfl fun k _ => ?_
  rw [mul_comm]
  by_cases hh : (j 0).val < 2
  · have c1 : ¬(2816 ≤ (j 0).val * 1408 + (j 2).val ∧ (j 0).val * 1408 + (j 2).val - 2816 < 2816) := by omega
    have c2 : (j 0).val * 1408 + (j 2).val < 2816 := by omega
    rw [dif_neg c1, dif_pos c2, zero_add]
    blk_point []
  · have c1 : 2816 ≤ (j 0).val * 1408 + (j 2).val ∧ (j 0).val * 1408 + (j 2).val - 2816 < 2816 := by omega
    have c2 : ¬(j 0).val * 1408 + (j 2).val < 2816 := by omega
    simp only [c1, c2, and_self, dite_true, dite_false, add_zero]
    blk_point []

/-- What a point stores is the reference at the index its block's entry sits at. -/
theorem point (c : Dev nD) (t : Fin cfg0.N) (y : S1x512x1408.Idx) (j : S4x1024x1408.Idx)
    (h0 : (j 0).val = t.val % 4) (h1 : (j 1).val = t.val / 4 * 512 + (y 1).val) (h2 : (j 2).val = (y 2).val) :
    k0_pay1 (iblk m c 0 t) (iblk m c 1 t) y
      = REF (m ((c : Thread nD τ).loc main_arg0)) (m ((c : Thread nD τ).loc main_arg1)) j := by
  have hj : (j 2).val < 1408 := (j 2).isLt
  rw [ref_at _ _ j ⟨t.val % 4 / 2, by omega⟩ (j 1) ⟨t.val % 2 * 1408 + (y 2).val, by omega⟩ (by simp only; omega) rfl
    (by simp only; omega)]
  pointwise [k0_pay1]
  blk_point [iblk, V, idx t]

/-- The array the grid leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  refine point m c t y _ ?_ ?_ ?_
  all_goals (blk_simp [idx t] <;> try omega)

end Cert.Kernel4Ideal.Ffn

end
-- ==== Proof.Prod.lean ====
module

public import Idealize.ShloMosaic.Lib.KernelVsHost
public import Idealize.ShloMosaic.Lib.Pipeline.ValueKit
public import Idealize.ShloMosaic.Lib.Pointwise

@[expose] public section

/-!
Products of matrices, cut in blocks, for any sizes: a block's product is the whole product at the index the
block's entry sits at. The calls that are products use these, and themselves only say where their blocks sit.
-/

set_option maxRecDepth 16384

noncomputable section

open Idealize.ShloMosaic

namespace Cert.Prod

/-- The shape of a matrix. -/
abbrev Mat (a b : ℕ) : Shape := ⟨2, ![a, b]⟩

/-- The shape of a stack of matrices. -/
abbrev Stack (a b c : ℕ) : Shape := ⟨3, ![a, b, c]⟩

/-- The dimension numbers of `a bᵀ`. -/
abbrev rowsRows {M K N : ℕ} (wf : DotDims.WF (Mat M K) (Mat N K) (Mat M N) [1] [1] [0] [0] [] []) :
    DotDims (Mat M K) (Mat N K) (Mat M N) where
  lhsContracting := [1]
  rhsContracting := [1]
  lhsNonContracting := [0]
  rhsNonContracting := [0]
  lhsBatch := []
  rhsBatch := []
  wf := wf

/-- The dimension numbers of `aᵀ b`. -/
abbrev colsCols {M K N : ℕ} (wf : DotDims.WF (Mat K M) (Mat K N) (Mat M N) [0] [0] [1] [1] [] []) :
    DotDims (Mat K M) (Mat K N) (Mat M N) where
  lhsContracting := [0]
  rhsContracting := [0]
  lhsNonContracting := [1]
  rhsNonContracting := [1]
  lhsBatch := []
  rhsBatch := []
  wf := wf

/-- The dimension numbers of `a b`. -/
abbrev rowsCols {M K N : ℕ} (wf : DotDims.WF (Mat M K) (Mat K N) (Mat M N) [1] [0] [0] [1] [] []) :
    DotDims (Mat M K) (Mat K N) (Mat M N) where
  lhsContracting := [1]
  rhsContracting := [0]
  lhsNonContracting := [0]
  rhsNonContracting := [1]
  lhsBatch := []
  rhsBatch := []
  wf := wf

section
variable {M K N m n : ℕ} {φ₁ φ₂ : FTy}

theorem dot_plain (wf : DotDims.WF (Mat M K) (Mat K N) (Mat M N) [1] [0] [0] [1] [] [])
    (a : FVec Ideal (Mat M K) φ₁) (w : FVec Ideal (Mat K N) φ₂) (j : (Mat M N).Idx) :
    Host.dotGeneral (rowsCols wf) none a w j = ∑ k : Fin K, a (ix2 (j 0) k) * w (ix2 k (j 1)) :=
  (Ideal.matmul_apply₁_of (rowsCols wf) (a := 1) rfl (K := K) rfl a w (fun _ => 0) j
    (fun k => ix2 (j 0) k) (fun k => ix2 k (j 1))
    (fun _ => Shape.Idx.norm2 _) (fun _ => Shape.Idx.norm2 _)).trans (zero_add _)

theorem dot_rows (wf : DotDims.WF (Mat M K) (Mat N K) (Mat M N) [1] [1] [0] [0] [] [])
    (a : FVec Ideal (Mat M K) φ₁) (w : FVec Ideal (Mat N K) φ₂) (j : (Mat M N).Idx) :
    Host.dotGeneral (rowsRows wf) none a w j = ∑ k : Fin K, a (ix2 (j 0) k) * w (ix2 (j 1) k) :=
  (Ideal.matmul_apply₁_of (rowsRows wf) (a := 1) rfl (K := K) rfl a w (fun _ => 0) j
    (fun k => ix2 (j 0) k) (fun k => ix2 (j 1) k)
    (fun _ => Shape.Idx.norm2 _) (fun _ => Shape.Idx.norm2 _)).trans (zero_add _)

theorem dot_cols (wf : DotDims.WF (Mat K M) (Mat K N) (Mat M N) [0] [0] [1] [1] [] [])
    (a : FVec Ideal (Mat K M) φ₁) (w : FVec Ideal (Mat K N) φ₂) (j : (Mat M N).Idx) :
    Host.dotGeneral (colsCols wf) none a w j = ∑ k : Fin K, a (ix2 k (j 0)) * w (ix2 k (j 1)) :=
  (Ideal.matmul_apply₁_of (colsCols wf) (a := 0) rfl (K := K) rfl a w (fun _ => 0) j
    (fun k => ix2 k (j 0)) (fun k => ix2 k (j 1))
    (fun _ => Shape.Idx.norm2 _) (fun _ => Shape.Idx.norm2 _)).trans (zero_add _)

end

section
variable {M K N m n C : ℕ}

/-- A block of `a w` is the product of the rows of `a` and the columns of `w` that it meets. -/
theorem block_plain {a : FVec Ideal (Mat M K) .bf16} {w : FVec Ideal (Mat K N) .bf16}
    {x : FVec Ideal (Mat m K) .bf16} {v : FVec Ideal (Mat K n) .bf16} {y : (Mat m n).Idx} {j : (Mat M N).Idx}
    {wf : DotDims.WF (Mat m K) (Mat K n) (Mat m n) [1] [0] [0] [1] [] []}
    {wf' : DotDims.WF (Mat M K) (Mat K N) (Mat M N) [1] [0] [0] [1] [] []}
    {h h' : FTy.bits .bf16 < FTy.bits .f32}
    (hx : ∀ k, x (ix2 (y 0) k) = a (ix2 (j 0) k)) (hv : ∀ k, v (ix2 k (y 1)) = w (ix2 k (j 1))) :
    matmul (rowsCols wf) none x v (constant (Mat m n) .f32 0x00000000#32) y
      = Host.dotGeneral (rowsCols wf') none (extf .f32 a h) (extf .f32 w h') j := by
  rw [matmul_zero_eq_dotGeneral, dot_plain, dot_plain]
  exact Finset.sum_congr rfl fun k _ => congrArg₂ (· * ·) (hx k) (hv k)

/-- A block of `a wᵀ` is the product of the rows of `a` and of `w` that it meets. -/
theorem block_rows {a : FVec Ideal (Mat M K) .bf16} {w : FVec Ideal (Mat N K) .bf16}
    {x : FVec Ideal (Mat m K) .bf16} {v : FVec Ideal (Mat n K) .bf16} {y : (Mat m n).Idx} {j : (Mat M N).Idx}
    {wf : DotDims.WF (Mat m K) (Mat n K) (Mat m n) [1] [1] [0] [0] [] []}
    {wf' : DotDims.WF (Mat M K) (Mat N K) (Mat M N) [1] [1] [0] [0] [] []}
    {h h' : FTy.bits .bf16 < FTy.bits .f32}
    (hx : ∀ k, x (ix2 (y 0) k) = a (ix2 (j 0) k)) (hv : ∀ k, v (ix2 (y 1) k) = w (ix2 (j 1) k)) :
    matmul (rowsRows wf) none x v (constant (Mat m n) .f32 0x00000000#32) y
      = Host.dotGeneral (rowsRows wf') none (extf .f32 a h) (extf .f32 w h') j := by
  rw [matmul_zero_eq_dotGeneral, dot_rows, dot_rows]
  exact Finset.sum_congr rfl fun k _ => congrArg₂ (· * ·) (hx k) (hv k)

/-- A block of `aᵀ g` is the product of the columns of `a` and of `g` that it meets; the whole is computed as the
transpose of `gᵀ a`. -/
theorem block_cols {a : FVec Ideal (Mat K M) .bf16} {g : FVec Ideal (Mat K N) .bf16}
    {x : FVec Ideal (Mat K m) .bf16} {v : FVec Ideal (Mat K n) .bf16} {y : (Mat m n).Idx} {j : (Mat M N).Idx}
    {wf : DotDims.WF (Mat K m) (Mat K n) (Mat m n) [0] [0] [1] [1] [] []}
    {wf' : DotDims.WF (Mat K N) (Mat K M) (Mat N M) [0] [0] [1] [1] [] []}
    {h h' b b' : FTy.bits .bf16 < FTy.bits .f32} {ht : (Mat N M).Transposes [1, 0] (Mat M N)}
    (hx : ∀ k, x (ix2 k (y 0)) = a (ix2 k (j 0))) (hv : ∀ k, v (ix2 k (y 1)) = g (ix2 k (j 1))) :
    truncf .bf16 (matmul (colsCols wf) none x v (constant (Mat m n) .f32 0x00000000#32)) b y
      = truncf .bf16 (transpose (Mat M N) [1, 0]
          (Host.dotGeneral (colsCols wf') none (extf .f32 g h) (extf .f32 a h')) ht) b' j := by
  have e : ht.src j = ix2 (j 1) (j 0) := Shape.Idx.norm2 _
  show matmul (colsCols wf) none x v (constant (Mat m n) .f32 0x00000000#32) y
    = Host.dotGeneral (colsCols wf') none (extf .f32 g h) (extf .f32 a h') (ht.src j)
  rw [e, matmul_zero_eq_dotGeneral, dot_cols]
  refine Eq.trans ?_ (dot_cols wf' (extf .f32 g h) (extf .f32 a h') (ix2 (j 1) (j 0))).symm
  exact Finset.sum_congr rfl fun k _ => (congrArg₂ (· * ·) (hx k) (hv k)).trans (mul_comm _ _)

end

/-- A block of a sum whose kernel adds in the other order. -/
theorem block_add {s s' : Shape} {p q : FVec Ideal s .f32} {p' q' : FVec Ideal s' .f32} {y : s.Idx} {j : s'.Idx}
    (hp : p y = p' j) (hq : q y = q' j) : addf p q y = addf q' p' j :=
  (add_comm (p y) (q y)).trans (congrArg₂ (fun u l : EReal => u + l) hq hp)

section
variable {C S R K : ℕ} {α : Type}

/-- The columns dealt to `S` chips: chip `j 0`'s column `j 2` is column `j 0 * K + j 2`. -/
theorem dealt_at (hC : C = S * K) (v : (Mat R C).Idx → α) (hs : (Mat R C).ShapeCasts (Stack R S K))
    (ht : (Stack R S K).Transposes [1, 0, 2] (Stack S R K)) (j : (Stack S R K).Idx) (b : Fin C)
    (hb : b.val = (j 0).val * K + (j 2).val) :
    transpose (Stack S R K) [1, 0, 2] (shapeCast (Stack R S K) v hs) ht j = v (ix2 (j 1) b) := by
  have e : ht.src j = ix3 (j 1) (j 0) (j 2) := Shape.Idx.norm3 _
  show v (Shape.reshapeEquiv hs (ht.src j)) = _
  rw [e]
  refine congrArg v (Shape.reshapeEquiv_eq_of_vals hs _ _ _ _ (rowMajor_val2 _ C rfl)
    (rowMajor_val3 _ (S * K) K rfl rfl) ?_)
  show (j 1).val * C + b.val = (j 1).val * (S * K) + (j 0).val * K + (j 2).val
  rw [hb, hC, Nat.add_assoc]

/-- A stack of one matrix is the matrix. -/
theorem stack_one (v : (Mat R K).Idx → α) (h : (Mat R K).ShapeCasts (Stack 1 R K)) (y : (Stack 1 R K).Idx) :
    shapeCast (Stack 1 R K) v h y = v (ix2 (y 1) (y 2)) := by
  show v (Shape.reshapeEquiv h y) = _
  refine congrArg v (Shape.reshapeEquiv_eq_of_vals h _ _ _ _ (rowMajor_val2 _ K rfl)
    (rowMajor_val3 _ (R * K) K rfl rfl) ?_)
  have h0 : (y 0).val = 0 := Nat.lt_one_iff.mp (y 0).isLt
  show (y 1).val * K + (y 2).val = (y 0).val * (R * K) + (y 1).val * K + (y 2).val
  rw [h0, Nat.zero_mul, Nat.zero_add]

/-- A stack of one matrix, as a matrix. -/
theorem unstack_one (v : (Stack 1 R K).Idx → α) (h : (Stack 1 R K).ShapeCasts (Mat R K)) (y : (Mat R K).Idx) :
    shapeCast (Mat R K) v h y = v (ix3 0 (y 0) (y 1)) := by
  show v (Shape.reshapeEquiv h y) = _
  refine congrArg v (Shape.reshapeEquiv_eq_of_vals h _ _ _ _ (rowMajor_val3 _ (R * K) K rfl rfl)
    (rowMajor_val2 _ K rfl) ?_)
  show 0 * (R * K) + (y 0).val * K + (y 1).val = (y 0).val * K + (y 1).val
  rw [Nat.zero_mul, Nat.zero_add]

end

/-- A block of `aᵀ g` whose columns are dealt to `S` chips, the whole computed as the transpose of `gᵀ a` and dealt. -/
theorem block_dealt {S K M T C n : ℕ} (hC : C = S * K)
    {a : FVec Ideal (Mat T M) .bf16} {g : FVec Ideal (Mat T C) .bf16}
    {x : FVec Ideal (Mat T n) .bf16} {v : FVec Ideal (Mat T K) .bf16} {y : (Stack 1 n K).Idx} {j : (Stack S M K).Idx}
    {wf : DotDims.WF (Mat T n) (Mat T K) (Mat n K) [0] [0] [1] [1] [] []}
    {wf' : DotDims.WF (Mat T C) (Mat T M) (Mat C M) [0] [0] [1] [1] [] []}
    {h h' b b' : FTy.bits .bf16 < FTy.bits .f32} {ht : (Mat C M).Transposes [1, 0] (Mat M C)}
    {hs : (Mat M C).ShapeCasts (Stack M S K)} {hu : (Stack M S K).Transposes [1, 0, 2] (Stack S M K)}
    {ho : (Mat n K).ShapeCasts (Stack 1 n K)}
    (hx : ∀ k, x (ix2 k (y 1)) = a (ix2 k (j 1)))
    (hv : ∀ k (hl : (j 0).val * K + (j 2).val < C),
      v (ix2 k (y 2)) = g (ix2 k ⟨(j 0).val * K + (j 2).val, hl⟩)) :
    shapeCast (Stack 1 n K) (truncf .bf16 (matmul (colsCols wf) none x v (constant (Mat n K) .f32 0x00000000#32)) b) ho y
      = truncf .bf16 (transpose (Stack S M K) [1, 0, 2] (shapeCast (Stack M S K) (transpose (Mat M C) [1, 0]
          (Host.dotGeneral (colsCols wf') none (extf .f32 g h) (extf .f32 a h')) ht) hs) hu) b' j := by
  have l0 : (j 0).val < S := (j 0).isLt
  have l2 : (j 2).val < K := (j 2).isLt
  have lt : (j 0).val * K + (j 2).val < C := by
    have := Nat.mul_le_mul_right K (Nat.succ_le_of_lt l0)
    rw [Nat.succ_mul] at this
    omega
  refine (stack_one _ ho y).trans (Eq.trans ?_ (dealt_at hC (transpose (Mat M C) [1, 0]
    (Host.dotGeneral (colsCols wf') none (extf .f32 g h) (extf .f32 a h')) ht) hs hu j ⟨_, lt⟩ rfl).symm)
  exact block_cols (b := b) (b' := b') (hx := hx) (hv := fun k => hv k lt)

section
variable {M K L N m n : ℕ}

/-- `a wᵀ`, its sum cut in four: the four products of the matching columns' blocks, added. -/
theorem four_rows (hL : L = 4 * K) {a : FVec Ideal (Mat M L) .bf16} {w : FVec Ideal (Mat N L) .bf16}
    {x : Fin 4 → FVec Ideal (Mat m K) .bf16} {v : Fin 4 → FVec Ideal (Stack 1 n K) .bf16}
    {y : (Mat m n).Idx} {j : (Mat M N).Idx}
    {wf : DotDims.WF (Mat m K) (Mat n K) (Mat m n) [1] [1] [0] [0] [] []}
    {wf' : DotDims.WF (Mat M L) (Mat N L) (Mat M N) [1] [1] [0] [0] [] []}
    {h h' : FTy.bits .bf16 < FTy.bits .f32} {hs : (Stack 1 n K).ShapeCasts (Mat n K)}
    (hx : ∀ s k (hl : s.val * K + k.val < L), x s (ix2 (y 0) k) = a (ix2 (j 0) ⟨s.val * K + k.val, hl⟩))
    (hv : ∀ s k (hl : s.val * K + k.val < L), v s (ix3 0 (y 1) k) = w (ix2 (j 1) ⟨s.val * K + k.val, hl⟩)) :
    ∑ s : Fin 4, matmul (rowsRows wf) none (x s) (shapeCast (Mat n K) (v s) hs)
        (constant (Mat m n) .f32 0x00000000#32) y
      = Host.dotGeneral (rowsRows wf') none (extf .f32 a h) (extf .f32 w h') j := by
  simp only [matmul_zero_eq_dotGeneral, dot_rows, unstack_one]
  exact Fin.sum_mul_add_congr (fun s k hl => congrArg₂ (· * ·) (hx s k hl) (hv s k hl)) hL

/-- A running sum over points in rows of four: what a row's last point gives is the sum of the row's four terms. -/
theorem row_of_four {T : ℕ} (f p o : ∀ t, t < T → EReal)
    (first : ∀ t (h : t < T), t % 4 = 0 → f t h = p t h)
    (mid : ∀ t (h : t < T), 1 ≤ t % 4 ∧ t % 4 ≤ 2 → f t h = f (t - 1) (by omega) + p t h)
    (last : ∀ t (h : t < T), t % 4 = 3 → o t h = f (t - 1) (by omega) + p t h)
    (t : ℕ) (h : t < T) (h3 : t % 4 = 3) :
    o t h = ∑ s : Fin 4, p (t - (3 - s.val)) (by omega) := by
  rw [last t h h3, mid (t - 1) (by omega) (by omega), mid (t - 1 - 1) (by omega) (by omega),
    first (t - 1 - 1 - 1) (by omega) (by omega), Fin.sum_univ_four]
  rfl

end

end Cert.Prod

end
-- ==== Proof.Dwdown.lean ====
module

public import proofs.«01_k».proof.Proof.Gen.Kernel5Ideal.Value
public import proofs.«01_k».proof.Proof.Gen.Reference5Ideal.Run
public import proofs.«01_k».proof.Proof.Prod

@[expose] public section

/-!
The down projection's weight gradient: every point of the grid multiplies a column block of the
activations, transposed, with the whole of the cotangent, and the blocks tile the result.
-/

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

variable (m : (ℓ : Loc nD τ sig) → Buf (Elt Ideal) ℓ)

/-- The reference's result: `aᵀ dx`, computed as the transpose of `dxᵀ a`. -/
abbrev REF (a : FVec Ideal S4096x2816 .bf16) (dx : FVec Ideal S4096x1024 .bf16) :
    FVec Ideal S2816x1024 .bf16 :=
  truncf .bf16 (transpose Cert.Reference5Ideal.S2816x1024 [1, 0]
    (Host.dotGeneral Cert.Reference5Ideal.dot_S4096x1024_S4096x2816_S1024x2816_0_0_1_1_n_n none
      (extf .f32 dx Cert.Reference5Ideal.Gen.bitsLt_bf16_f32)
      (extf .f32 a Cert.Reference5Ideal.Gen.bitsLt_bf16_f32))
    Cert.Reference5Ideal.Gen.transposes_S1024x2816_S2816x1024_1_0)
    Cert.Reference5Ideal.Gen.bitsLt_bf16_f32

/-- Where the windows' blocks sit at each point. -/
theorem idx : ∀ t : Fin cfg0.N, win0_0.index t = ![0, t.val] ∧ win0_1.index t = ![0, 0]
    ∧ win0_2.index t = ![t.val, 0] :=
  (by decide +kernel : ∀ t : Fin grid0.N, _)

/-- The array the grid leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  refine Cert.Prod.block_cols (fun k => ?_) (fun k => ?_)
  all_goals blk_point [iblk, V, idx t]

end Cert.Kernel5Ideal.Ffn

end
-- ==== Proof.Up.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

/-!
The first product of the gated unit: every point of the grid multiplies a block of rows of the hidden
states with a chip's columns for the gate and another chip's for the up part, stores both, and stores
the gate's product with its logistic function and the up part.
-/

set_option maxRecDepth 16384

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen

variable (m : (ℓ : Loc nD τ sig) → Buf (Elt Ideal) ℓ)

/-- The reference's product of the hidden states with the weight. -/
abbrev prodR (h : FVec Ideal S4096x1024 .bf16) (w : FVec Ideal S1024x5632 .bf16) : FVec Ideal Cert.Reference6Ideal.S4096x5632 .f32 :=
  Host.dotGeneral Cert.Reference6Ideal.dot_S4096x1024_S1024x5632_S4096x5632_1_0_0_1_n_n none (extf .f32 h Cert.Reference6Ideal.Gen.bitsLt_bf16_f32) (extf .f32 w Cert.Reference6Ideal.Gen.bitsLt_bf16_f32)

/-- The reference's gate. -/
abbrev gateR (h : FVec Ideal S4096x1024 .bf16) (w : FVec Ideal S1024x5632 .bf16) : FVec Ideal Cert.Reference6Ideal.S4096x2816 .f32 :=
  extractStridedSlice Cert.Reference6Ideal.S4096x2816 ![0, 0] (prodR h w) Cert.Reference6Ideal.Gen.slices_S4096x5632_S4096x2816_0_0

/-- The reference's up part. -/
abbrev upR (h : FVec Ideal S4096x1024 .bf16) (w : FVec Ideal S1024x5632 .bf16) : FVec Ideal Cert.Reference6Ideal.S4096x2816 .f32 :=
  extractStridedSlice Cert.Reference6Ideal.S4096x2816 ![0, 2816] (prodR h w) Cert.Reference6Ideal.Gen.slices_S4096x5632_S4096x2816_0_2816

/-- An array of ones. -/
abbrev oneR : FVec Ideal Cert.Reference6Ideal.S4096x2816 .f32 :=
  broadcastInDim Cert.Reference6Ideal.S4096x2816 ![] Cert.Reference6Ideal.Gen.bcast_S_S4096x2816 (constant Cert.Reference6Ideal.S_ .f32 0x3F800000#32)

/-- The reference's first result: gate and up part. -/
abbrev BOTH (h : FVec Ideal S4096x1024 .bf16) (w : FVec Ideal S1024x5632 .bf16) : FVec Ideal S2x4096x2816 .bf16 :=
  truncf .bf16 (concatenate Cert.Reference6Ideal.S2x4096x2816 0 [⟨Cert.Reference6Ideal.S1x4096x2816, (broadcastInDim Cert.Reference6Ideal.S1x4096x2816 ![1, 2] Cert.Reference6Ideal.Gen.bcast_S4096x2816_S1x4096x2816_1_2 (gateR h w))⟩, ⟨Cert.Reference6Ideal.S1x4096x2816, (broadcastInDim Cert.Reference6Ideal.S1x4096x2816 ![1, 2] Cert.Reference6Ideal.Gen.bcast_S4096x2816_S1x4096x2816_1_2 (upR h w))⟩] Cert.Reference6Ideal.Gen.concatenates_S1x4096x2816_S1x4096x2816_S2x4096x2816_d0) Cert.Reference6Ideal.Gen.bitsLt_bf16_f32

/-- The reference's second result: the activations. -/
abbrev ACT (h : FVec Ideal S4096x1024 .bf16) (w : FVec Ideal S1024x5632 .bf16) : FVec Ideal S4096x2816 .bf16 :=
  truncf .bf16 (mulf (mulf (gateR h w) (Host.divf oneR (addf oneR (Host.exp (Host.negf (gateR h w)))))) (upR h w)) Cert.Reference6Ideal.Gen.bitsLt_bf16_f32

/-- A hidden state's product with a column of the weight. -/
def prodS (h : FVec Ideal S4096x1024 .bf16) (w : FVec Ideal S1024x5632 .bf16) (i : Fin 4096) (l : Fin 5632) : EReal :=
  ∑ k : Fin 1024, h (ix2 i k) * w (ix2 k l)

/-- The logistic function. -/
def sigS (g : EReal) : EReal := Ideal.div 1 (1 + Ideal.exp (-g))

/-- The reference's first result at an index. -/
theorem both_at (h : FVec Ideal S4096x1024 .bf16) (w : FVec Ideal S1024x5632 .bf16) (j : S2x4096x2816.Idx)
    (l : Fin 5632) (hl : l.val = (j 0).val * 2816 + (j 2).val) : BOTH h w j = prodS h w (j 1) l := by
  have hj : (j 2).val < 2816 := (j 2).isLt
  have hj0 : (j 0).val < 2 := (j 0).isLt
  pointwise [BOTH, gateR, upR]
  unfold prodS
  split
  · rw [show l = ⟨(j 2).val, by omega⟩ from Fin.ext (by simp only; omega)]
  · rw [show l = ⟨2816 + (j 2).val, by omega⟩ from Fin.ext (by simp only; omega)]

/-- The reference's second result at an index. -/
theorem act_at (h : FVec Ideal S4096x1024 .bf16) (w : FVec Ideal S1024x5632 .bf16) (j : S4096x2816.Idx)
    (l u : Fin 5632) (hl : l.val = (j 1).val) (hu : u.val = 2816 + (j 1).val) : ACT h w j
      = prodS h w (j 0) l * sigS (prodS h w (j 0) l) * prodS h w (j 0) u := by
  have hj : (j 1).val < 2816 := (j 1).isLt
  pointwise [ACT, gateR, upR, oneR]
  have el : (⟨(j 1).val, by omega⟩ : Fin 5632) = l := Fin.ext hl.symm
  have eu : (⟨2816 + (j 1).val, by omega⟩ : Fin 5632) = u := Fin.ext hu.symm
  refine Eq.trans ?_ (congrArg₂ (fun l u => prodS h w (j 0) l * sigS (prodS h w (j 0) l) * prodS h w (j 0) u) el eu)
  rfl

/-- Where the windows' blocks sit at each point. -/
theorem idx : ∀ t : Fin cfg0.N, win0_0.index t = ![t.val / 2, 0]
    ∧ win0_1.index t = ![t.val % 2, 0, 0]
    ∧ win0_2.index t = ![t.val % 2 + 2, 0, 0]
    ∧ win0_3.index t = ![0, t.val / 2, t.val % 2]
    ∧ win0_4.index t = ![t.val / 2, t.val % 2] :=
  (by decide +kernel : ∀ t : Fin grid0.N, _)

/-- What a point stores of the gate. -/
theorem pay_gate (v0 : Vec Ideal S512x1024 .bf16) (v1 : Vec Ideal S1x1024x1408 .bf16) (j : S1x512x1408.Idx) :
    k0_pay3 v0 v1 j = ∑ k : Fin 1024, v0 (ix2 (j 1) k) * v1 (ix3 0 k (j 2)) := by
  pointwise [k0_pay3, k0_pay1]

/-- What a point stores of the up part. -/
theorem pay_up (v0 : Vec Ideal S512x1024 .bf16) (v4 : Vec Ideal S1x1024x1408 .bf16) (j : S1x512x1408.Idx) :
    k0_pay4 v0 v4 j = ∑ k : Fin 1024, v0 (ix2 (j 1) k) * v4 (ix3 0 k (j 2)) := by
  pointwise [k0_pay4, k0_pay2]

/-- What a point stores of the activations. -/
theorem pay_act (v0 : Vec Ideal S512x1024 .bf16) (v1 v4 : Vec Ideal S1x1024x1408 .bf16) (j : S512x1408.Idx) :
    k0_pay5 v0 v1 v4 j = (∑ k : Fin 1024, v0 (ix2 (j 0) k) * v1 (ix3 0 k (j 1)))
      * sigS (∑ k : Fin 1024, v0 (ix2 (j 0) k) * v1 (ix3 0 k (j 1)))
      * ∑ k : Fin 1024, v0 (ix2 (j 0) k) * v4 (ix3 0 k (j 1)) := by
  pointwise [k0_pay5, k0_pay1, k0_pay2]
  simp only [zero_sub]
  rfl

/-- A point's columns for the gate. -/
theorem gate_cols (c : Dev nD) (t : Fin cfg0.N) (k : Fin 1024) (x : Fin 1408) (l : Fin 5632)
    (hl : l.val = t.val % 2 * 1408 + x.val) :
    iblk m c 1 t (ix3 0 k x) = m ((c.tc : Thread nD τ).loc main_arg1) (ix2 k l) := by
  blk_point [iblk, V, idx t]

/-- A point's columns for the up part. -/
theorem up_cols (c : Dev nD) (t : Fin cfg0.N) (k : Fin 1024) (x : Fin 1408) (l : Fin 5632)
    (hl : l.val = 2816 + t.val % 2 * 1408 + x.val) :
    iblk m c 2 t (ix3 0 k x) = m ((c.tc : Thread nD τ).loc main_arg1) (ix2 k l) := by
  blk_point [iblk, V, idx t]

/-- What a point stores of gate and up part is the reference at the index its block's entry sits at. -/
theorem point3 (c : Dev nD) (t : Fin cfg0.N) (y : S2x512x1408.Idx) (j : S2x4096x2816.Idx)
    (hj0 : (j 0).val = (y 0).val) (hj1 : (j 1).val = t.val / 2 * 512 + (y 1).val) (hj2 : (j 2).val = t.val % 2 * 1408 + (y 2).val) :
    out0_3 (iblk m c 0 t) (iblk m c 1 t) (iblk m c 2 t) y
      = BOTH (m ((c.tc : Thread nD τ).loc main_arg0)) (m ((c.tc : Thread nD τ).loc main_arg1)) j := by
  have hj : (j 2).val < 2816 := (j 2).isLt
  have hj' : (j 0).val < 2 := (j 0).isLt
  rw [both_at _ _ j ⟨(j 0).val * 2816 + (j 2).val, by omega⟩ rfl]
  unfold out0_3 prodS
  canon_tiles x hx
  · rw [pay_up, View.ld_unit_lit' _ _ (by decide), View.ld_unit_lit' _ _ (by decide)]
    refine Finset.sum_congr rfl fun k _ => congrArg₂ (· * ·) ?_ (up_cols m c t k _ _ ?_)
    · blk_point [iblk, V, idx t]
    · simp only; omega
  · rw [pay_gate, View.ld_unit_lit' _ _ (by decide), View.ld_unit_lit' _ _ (by decide)]
    refine Finset.sum_congr rfl fun k _ => congrArg₂ (· * ·) ?_ (gate_cols m c t k _ _ ?_)
    · blk_point [iblk, V, idx t]
    · simp only; omega

/-- What a point stores of the activations is the reference at the index its block's entry sits at. -/
theorem point4 (c : Dev nD) (t : Fin cfg0.N) (y : S512x1408.Idx) (j : S4096x2816.Idx)
    (hj0 : (j 0).val = t.val / 2 * 512 + (y 0).val) (hj1 : (j 1).val = t.val % 2 * 1408 + (y 1).val) :
    k0_pay5 (iblk m c 0 t) (iblk m c 1 t) (iblk m c 2 t) y
      = ACT (m ((c.tc : Thread nD τ).loc main_arg0)) (m ((c.tc : Thread nD τ).loc main_arg1)) j := by
  have hj : (j 1).val < 2816 := (j 1).isLt
  rw [act_at _ _ j ⟨(j 1).val, by omega⟩ ⟨2816 + (j 1).val, by omega⟩ rfl rfl, pay_act]
  unfold prodS
  blk_point [iblk, V, idx t]

/-- The array of gate and up part that the grid leaves is the reference's. -/
theorem final3 (c : Dev nD) : (dats m 0 c).arrAt 3 (cfgs 0).N
    = BOTH (m ((c.tc : Thread nD τ).loc main_arg0)) (m ((c.tc : Thread nD τ).loc main_arg1)) := by
  refine (dats m 0 c).arrAt_eq_of_covers 3 _ (by decide +kernel) fun t _ y => ?_
  blk_simp
  rw [after0_3]
  refine point3 m c t y _ ?_ ?_ ?_
  all_goals (blk_simp [idx t] <;> try omega)

/-- The array of activations that the grid leaves is the reference's. -/
theorem final4 (c : Dev nD) : (dats m 0 c).arrAt 4 (cfgs 0).N
    = ACT (m ((c.tc : Thread nD τ).loc main_arg0)) (m ((c.tc : Thread nD τ).loc main_arg1)) := by
  refine (dats m 0 c).arrAt_eq_of_covers 4 _ (by decide +kernel) fun t _ y => ?_
  blk_simp
  rw [after0_4]
  frame_out
  refine point4 m c t y _ ?_ ?_
  all_goals (blk_simp [idx t] <;> try omega)

end Cert.Kernel6Ideal.Ffn

end
-- ==== Proof.Down.lean ====
module

public import proofs.«01_k».proof.Proof.Gen.Kernel7Ideal.Value
public import proofs.«01_k».proof.Proof.Gen.Reference7Ideal.Run
public import proofs.«01_k».proof.Proof.Prod

@[expose] public section

/-!
The down projection: every point of the grid multiplies a block of rows of the activations with the
whole weight and adds the residual, and the blocks tile the result.
-/

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen

variable (m : (ℓ : Loc nD τ sig) → Buf (Elt Ideal) ℓ)

/-- The reference's result: `x + a w`. -/
abbrev REF (x : FVec Ideal S4096x1024 .f32) (a : FVec Ideal S4096x2816 .bf16) (w : FVec Ideal S2816x1024 .bf16) :
    FVec Ideal S4096x1024 .f32 :=
  addf x (Host.dotGeneral Cert.Reference7Ideal.dot_S4096x2816_S2816x1024_S4096x1024_1_0_0_1_n_n none
    (extf .f32 a Cert.Reference7Ideal.Gen.bitsLt_bf16_f32)
    (extf .f32 w Cert.Reference7Ideal.Gen.bitsLt_bf16_f32))

/-- Where the windows' blocks sit at each point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The array the grid leaves is the reference's. -/
theorem final (c : Dev nD) : (dats m 0 c).arrAt 3 (cfgs 0).N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  refine Cert.Prod.block_add (Cert.Prod.block_plain (fun k => ?_) (fun k => ?_)) ?_
  all_goals blk_point [iblk, V, idx t]

end Cert.Kernel7Ideal.Ffn

end
-- ==== Proof.Ffn.lean ====
module

public import proofs.«01_k».proof.Defs
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Pre_finite2
public import proofs.«01_k».proof.Proof.Dact
public import proofs.«01_k».proof.Proof.Quiet
public import proofs.«01_k».proof.Proof.Dh
public import proofs.«01_k».proof.Proof.Dwgu
public import proofs.«01_k».proof.Proof.Dwdown
public import proofs.«01_k».proof.Proof.Up
public import proofs.«01_k».proof.Proof.Down
public import Idealize.ShloMosaic.Lib.Claim

@[expose] public section

/-!
The feed-forward layer's calls, two forward and four backward: frames, and kernel against reference.
-/

set_option maxRecDepth 16384

noncomputable section

namespace Cert.Ffn

open Idealize.ShloMosaic Idealize.SL.Sem

theorem ref_gate : Cert.quiescent_Reference2Ideal := fun m ρ _ =>
  quiet_of_run (by decide) (Cert.Reference2Ideal.Value.run (F := Ideal) m ρ) fun _ _ h => h.2

theorem algebraic_gate : Cert.algebraic_Kernel2Ideal_Reference2Ideal_pre_finite2 := by
  pair_intro
  · run_from Cert.Kernel2Ideal.Gen.run_main m g
  · run_from Cert.Reference2Ideal.Value.run (F := Ideal) m' g'
    exact (Cert.Kernel2Ideal.Ffn.final m c (Cert.Kernel2Ideal.Ffn.reals_of m hpre c)).symm

theorem ref_hidden : Cert.quiescent_Reference3Ideal := fun m ρ _ =>
  quiet_of_run (by decide) (Cert.Reference3Ideal.Value.run (F := Ideal) m ρ) fun _ _ h => h.2

theorem algebraic_hidden : Cert.algebraic_Kernel3Ideal_Reference3Ideal := by
  pair_intro
  · run_from Cert.Kernel3Ideal.Gen.run_main m g
  · run_from Cert.Reference3Ideal.Value.run (F := Ideal) m' g'
    exact (Cert.Kernel3Ideal.Ffn.final m c).symm

theorem ref_upWeight : Cert.quiescent_Reference4Ideal := fun m ρ _ =>
  quiet_of_run (by decide) (Cert.Reference4Ideal.Value.run (F := Ideal) m ρ) fun _ _ h => h.2

theorem algebraic_upWeight : Cert.algebraic_Kernel4Ideal_Reference4Ideal := by
  pair_intro
  · run_from Cert.Kernel4Ideal.Gen.run_main m g
  · run_from Cert.Reference4Ideal.Value.run (F := Ideal) m' g'
    exact (Cert.Kernel4Ideal.Ffn.final m c).symm

theorem ref_downWeight : Cert.quiescent_Reference5Ideal := fun m ρ _ =>
  quiet_of_run (by decide) (Cert.Reference5Ideal.Value.run (F := Ideal) m ρ) fun _ _ h => h.2

theorem algebraic_downWeight : Cert.algebraic_Kernel5Ideal_Reference5Ideal := by
  pair_intro
  · run_from Cert.Kernel5Ideal.Gen.run_main m g
  · run_from Cert.Reference5Ideal.Value.run (F := Ideal) m' g'
    exact (Cert.Kernel5Ideal.Ffn.final m c).symm

theorem ref_up : Cert.quiescent_Reference6Ideal := fun m ρ _ =>
  quiet_of_run (by decide) (Cert.Reference6Ideal.Value.run (F := Ideal) m ρ) fun _ _ h => h.2.2

theorem algebraic_up : Cert.algebraic_Kernel6Ideal_Reference6Ideal := by
  pair_intro
  · run_from Cert.Kernel6Ideal.Gen.run_main m g
  · run_from Cert.Reference6Ideal.Value.run (F := Ideal) m' g'
    · exact (Cert.Kernel6Ideal.Ffn.final3 m c).symm
    · exact (Cert.Kernel6Ideal.Ffn.final4 m c).symm

theorem ref_down : Cert.quiescent_Reference7Ideal := fun m ρ _ =>
  quiet_of_run (by decide) (Cert.Reference7Ideal.Value.run (F := Ideal) m ρ) fun _ _ h => h.2

theorem algebraic_down : Cert.algebraic_Kernel7Ideal_Reference7Ideal := by
  pair_intro
  · run_from Cert.Kernel7Ideal.Gen.run_main m g
  · run_from Cert.Reference7Ideal.Value.run (F := Ideal) m' g'
    exact (Cert.Kernel7Ideal.Ffn.final m c).symm

end Cert.Ffn

end
-- ==== Proof.Sb.lean ====
module

public import proofs.«01_k».proof.Defs
public import proofs.«01_k».proof.Proof.Prod
public import proofs.«01_k».proof.Proof.Quiet
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9Ideal
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel18Ideal
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19Ideal
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20Ideal
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel25Ideal
public import proofs.«01_k».proof.Proof.Gen.Reference25Ideal
public import proofs.«01_k».proof.Proof.Gen.Kernel25Ideal.Value
public import proofs.«01_k».proof.Proof.Gen.Reference25Ideal.Run
public import Idealize.ShloMosaic.Lib.Claim

@[expose] public section

/-!
The attention layer's products: with the weight of queries, keys and values, and with the output weight;
forward, and for each the gradient through it and its own gradient.
-/

set_option maxRecDepth 16384

noncomputable section

open Idealize.ShloMosaic Idealize.ShloMosaic.TcCoe Idealize.SL.Sem
open Idealize.ShloMosaic.Pipeline (Dat)

namespace Cert.Kernel8Ideal.Sb

open Cert.Kernel8Ideal Cert.Kernel8Ideal.Gen

variable (m : (ℓ : Loc nD τ sig) → Buf (Elt Ideal) ℓ)

/-- Where the windows' blocks sit at each point. -/
theorem idx : ∀ t : Fin cfg0.N, win0_0.index t = ![t.val / 4, t.val % 4]
    ∧ win0_1.index t = ![t.val % 4, 0, 0] ∧ win0_2.index t = ![t.val / 4, 0] :=
  (by decide +kernel : ∀ t : Fin grid0.N, _)

/-- What a row's last point writes out, as a sum over the row's four points. -/
theorem row (c : Dev nD) (j : S1024x1024.Idx) (t : ℕ) (h : t < cfg0.N) (h3 : t % 4 = 3) :
    (outsAt0 m c t h).1 j = ∑ s : Fin 4,
      k0_pay1 (iblk m c 0 ⟨t - (3 - s.val), by omega⟩) (iblk m c 1 ⟨t - (3 - s.val), by omega⟩) j := by
  refine Cert.Prod.row_of_four (fun t h => (outsAt0 m c t h).2 j)
    (fun t h => k0_pay1 (iblk m c 0 ⟨t, h⟩) (iblk m c 1 ⟨t, h⟩) j) (fun t h => (outsAt0 m c t h).1 j)
    (fun t h h0 => ?_) (fun t h h1 => ?_) (fun t h h2 => ?_) t h h3
  · rw [outsAt0_A m c ⟨t, h⟩ h0 (by simp only; omega) (by simp only; omega)]
    frame_out
    pointwise [k0_pay2]
  · rw [outsAt0_B m c ⟨t, h⟩ (by simp only; omega) h1 (by simp only; omega)]
    frame_out
    pointwise [k0_pay3]
    exact congrArg (· + _) (congrFun (Memref.IsWhole.read_unread (m := Memref.whole cc0_scratch0) _ _) j)
  · rw [outsAt0_C m c ⟨t, h⟩ (by simp only; omega) (by simp only; omega) h2]
    frame_out
    pointwise [k0_pay4]
    exact congrArg (· + _) (congrFun (Memref.IsWhole.read_unread (m := Memref.whole cc0_scratch0) _ _) j)

theorem frame_ref : Cert.quiescent_Reference8Ideal := fun m ρ _ =>
  quiet_of_run (by decide) (Cert.Reference8Ideal.Value.run (F := Ideal) m ρ) fun _ _ h => h.2

theorem algebraic : Cert.algebraic_Kernel8Ideal_Reference8Ideal := by
  pair_intro
  · run_from Cert.Kernel8Ideal.Gen.run_main m g
  · run_from Cert.Reference8Ideal.Value.run (F := Ideal) m' g'
    refine ((dats m 0 c).arrAt_eq_of_covers 2 _ (by decide +kernel) fun t hf y => ?_).symm
    have ht : t.val < 16 := t.isLt
    have h3 := (flush0_2 t).mp hf
    blk_simp
    rw [after0_2, row m c y t.val t.isLt h3]
    refine Cert.Prod.four_rows (K := 768) rfl (fun s k _ => ?_) (fun s k _ => ?_)
    all_goals blk_point [iblk, V, idx t, idx ⟨t.val - (3 - s.val), Nat.lt_of_le_of_lt (Nat.sub_le _ _) t.isLt⟩]

end Cert.Kernel8Ideal.Sb

namespace Cert.Kernel9Ideal.Sb

open Cert.Kernel9Ideal Cert.Kernel9Ideal.Gen

/-- Where the windows' blocks sit at each point. -/
theorem idx : ∀ t : Fin cfg0.N, win0_0.index t = ![0, 0] ∧ win0_1.index t = ![0, t.val]
    ∧ win0_2.index t = ![t.val, 0, 0] :=
  (by decide +kernel : ∀ t : Fin grid0.N, _)

theorem frame_ref : Cert.quiescent_Reference9Ideal := fun m ρ _ =>
  quiet_of_run (by decide) (Cert.Reference9Ideal.Value.run (F := Ideal) m ρ) fun _ _ h => h.2

theorem algebraic : Cert.algebraic_Kernel9Ideal_Reference9Ideal := by
  pair_intro
  · run_from Cert.Kernel9Ideal.Gen.run_main m g
  · run_from Cert.Reference9Ideal.Value.run (F := Ideal) m' g'
    refine ((dats m 0 c).arrAt_eq_of_covers 2 _ (by decide +kernel) fun t _ y => ?_).symm
    blk_simp
    rw [after0_2]
    frame_out
    refine Cert.Prod.block_dealt (K := 768) rfl (fun k => ?_) (fun k _ => ?_)
    all_goals blk_point [iblk, V, idx t]

end Cert.Kernel9Ideal.Sb

namespace Cert.Kernel18Ideal.Sb

open Cert.Kernel18Ideal Cert.Kernel18Ideal.Gen

/-- Where the windows' blocks sit at each point. -/
theorem idx : ∀ t : Fin cfg0.N, win0_0.index t = ![t.val, 0] ∧ win0_1.index t = ![0, 0]
    ∧ win0_2.index t = ![t.val, 0] :=
  (by decide +kernel : ∀ t : Fin grid0.N, _)

theorem frame_ref : Cert.quiescent_Reference18Ideal := fun m ρ _ =>
  quiet_of_run (by decide) (Cert.Reference18Ideal.Value.run (F := Ideal) m ρ) fun _ _ h => h.2

theorem algebraic : Cert.algebraic_Kernel18Ideal_Reference18Ideal := by
  pair_intro
  · run_from Cert.Kernel18Ideal.Gen.run_main m g
  · run_from Cert.Reference18Ideal.Value.run (F := Ideal) m' g'
    refine ((dats m 0 c).arrAt_eq_of_covers 2 _ (by decide +kernel) fun t _ y => ?_).symm
    blk_simp
    rw [after0_2]
    frame_out
    refine Cert.Prod.block_rows (fun k => ?_) (fun k => ?_)
    all_goals blk_point [iblk, V, idx t]

end Cert.Kernel18Ideal.Sb

namespace Cert.Kernel19Ideal.Sb

open Cert.Kernel19Ideal Cert.Kernel19Ideal.Gen

/-- Where the windows' blocks sit at the grid's one point. -/
theorem idx : ∀ t : Fin cfg0.N, win0_0.index t = ![0, 0] ∧ win0_1.index t = ![0, 0]
    ∧ win0_2.index t = ![0, 0] :=
  (by decide +kernel : ∀ t : Fin grid0.N, _)

theorem frame_ref : Cert.quiescent_Reference19Ideal := fun m ρ _ =>
  quiet_of_run (by decide) (Cert.Reference19Ideal.Value.run (F := Ideal) m ρ) fun _ _ h => h.2

theorem algebraic : Cert.algebraic_Kernel19Ideal_Reference19Ideal := by
  pair_intro
  · run_from Cert.Kernel19Ideal.Gen.run_main m g
  · run_from Cert.Reference19Ideal.Value.run (F := Ideal) m' g'
    refine ((dats m 0 c).arrAt_eq_of_covers 2 _ (by decide +kernel) fun t _ y => ?_).symm
    blk_simp
    rw [after0_2]
    frame_out
    refine Cert.Prod.block_cols (fun k => ?_) (fun k => ?_)
    all_goals blk_point [iblk, V, idx t]

end Cert.Kernel19Ideal.Sb

namespace Cert.Kernel20Ideal.Sb

open Cert.Kernel20Ideal Cert.Kernel20Ideal.Gen

/-- Where the windows' blocks sit at each point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem frame_ref : Cert.quiescent_Reference20Ideal := fun m ρ _ =>
  quiet_of_run (by decide) (Cert.Reference20Ideal.Value.run (F := Ideal) m ρ) fun _ _ h => h.2

theorem algebraic : Cert.algebraic_Kernel20Ideal_Reference20Ideal := by
  pair_intro
  · run_from Cert.Kernel20Ideal.Gen.run_main m g
  · run_from Cert.Reference20Ideal.Value.run (F := Ideal) m' g'
    refine ((dats m 0 c).arrAt_eq_of_covers 2 _ (by decide +kernel) fun t _ y => ?_).symm
    blk_simp
    rw [after0_2]
    frame_out
    refine Cert.Prod.block_plain (fun k => ?_) fun k => (Cert.Prod.unstack_one _ _ _).trans ?_
    all_goals blk_point [iblk, V, idx t]

end Cert.Kernel20Ideal.Sb

namespace Cert.Kernel25Ideal.Sb

open Cert.Kernel25Ideal Cert.Kernel25Ideal.Gen

/-- Where the windows' blocks sit at each point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem frame_ref : Cert.quiescent_Reference25Ideal := fun m ρ _ =>
  quiet_of_run (by decide) (Cert.Reference25Ideal.Value.run (F := Ideal) m ρ) fun _ _ h => h.2

theorem algebraic : Cert.algebraic_Kernel25Ideal_Reference25Ideal := by
  pair_intro
  · run_from Cert.Kernel25Ideal.Gen.run_main m g
  · run_from Cert.Reference25Ideal.Value.run (F := Ideal) m' g'
    refine ((dats m 0 c).arrAt_eq_of_covers 3 _ (by decide +kernel) fun t _ y => ?_).symm
    blk_simp
    rw [after0_3]
    frame_out
    refine Cert.Prod.block_add (Cert.Prod.block_plain (fun k => ?_) (fun k => ?_)) ?_
    all_goals blk_point [iblk, V, idx t]

end Cert.Kernel25Ideal.Sb

end
-- ==== Proof.Gm.lean ====
module

public import proofs.«01_k».proof.Defs
public import proofs.«01_k».proof.Proof.Prod
public import proofs.«01_k».proof.Proof.Quiet
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13Ideal
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel21Ideal
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22Ideal
public import proofs.«01_k».proof.Proof.Gen.Reference22Ideal
public import proofs.«01_k».proof.Proof.Gen.Kernel22Ideal.Value
public import proofs.«01_k».proof.Proof.Gen.Reference22Ideal.Run
public import Idealize.ShloMosaic.Lib.Claim

@[expose] public section

/-!
The gMLP layer's products: backward, through its output weight, that weight's gradient, through its input
weight, and that one's gradient; forward, with the input weight and bias, and with the output weight. Those with
the output weight are also the SSD layer's.
-/

set_option maxRecDepth 16384

noncomputable section

open Idealize.ShloMosaic Idealize.ShloMosaic.TcCoe Idealize.SL.Sem
open Idealize.ShloMosaic.Pipeline (Dat)

namespace Cert.Kernel10Ideal.Gm

open Cert.Kernel10Ideal Cert.Kernel10Ideal.Gen

/-- Where the windows' blocks sit at each point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem frame_ref : Cert.quiescent_Reference10Ideal := fun m ρ _ =>
  quiet_of_run (by decide) (Cert.Reference10Ideal.Value.run (F := Ideal) m ρ) fun _ _ h => h.2

theorem algebraic : Cert.algebraic_Kernel10Ideal_Reference10Ideal := by
  pair_intro
  · run_from Cert.Kernel10Ideal.Gen.run_main m g
  · run_from Cert.Reference10Ideal.Value.run (F := Ideal) m' g'
    refine ((dats m 0 c).arrAt_eq_of_covers 2 _ (by decide +kernel) fun t _ y => ?_).symm
    blk_simp
    rw [after0_2]
    frame_out
    refine Cert.Prod.block_rows (fun k => ?_) (fun k => ?_)
    all_goals blk_point [iblk, V, idx t]

end Cert.Kernel10Ideal.Gm

namespace Cert.Kernel11Ideal.Gm

open Cert.Kernel11Ideal Cert.Kernel11Ideal.Gen

/-- Where the windows' blocks sit at each point. -/
theorem idx : ∀ t : Fin cfg0.N, win0_0.index t = ![0, t.val] ∧ win0_1.index t = ![0, 0]
    ∧ win0_2.index t = ![t.val, 0] :=
  (by decide +kernel : ∀ t : Fin grid0.N, _)

theorem frame_ref : Cert.quiescent_Reference11Ideal := fun m ρ _ =>
  quiet_of_run (by decide) (Cert.Reference11Ideal.Value.run (F := Ideal) m ρ) fun _ _ h => h.2

theorem algebraic : Cert.algebraic_Kernel11Ideal_Reference11Ideal := by
  pair_intro
  · run_from Cert.Kernel11Ideal.Gen.run_main m g
  · run_from Cert.Reference11Ideal.Value.run (F := Ideal) m' g'
    refine ((dats m 0 c).arrAt_eq_of_covers 2 _ (by decide +kernel) fun t _ y => ?_).symm
    blk_simp
    rw [after0_2]
    frame_out
    refine Cert.Prod.block_cols (fun k => ?_) (fun k => ?_)
    all_goals blk_point [iblk, V, idx t]

end Cert.Kernel11Ideal.Gm

namespace Cert.Kernel12Ideal.Gm

open Cert.Kernel12Ideal Cert.Kernel12Ideal.Gen

variable (m : (ℓ : Loc nD τ sig) → Buf (Elt Ideal) ℓ)

/-- Where the windows' blocks sit at each point. -/
theorem idx : ∀ t : Fin cfg0.N, win0_0.index t = ![t.val / 4, t.val % 4]
    ∧ win0_1.index t = ![t.val % 4, 0, 0] ∧ win0_2.index t = ![t.val / 4, 0] :=
  (by decide +kernel : ∀ t : Fin grid0.N, _)

/-- What a row's last point writes out, as a sum over the row's four points. -/
theorem row (c : Dev nD) (j : S1024x1024.Idx) (t : ℕ) (h : t < cfg0.N) (h3 : t % 4 = 3) :
    (outsAt0 m c t h).1 j = ∑ s : Fin 4,
      k0_pay1 (iblk m c 0 ⟨t - (3 - s.val), by omega⟩) (iblk m c 1 ⟨t - (3 - s.val), by omega⟩) j := by
  refine Cert.Prod.row_of_four (fun t h => (outsAt0 m c t h).2 j)
    (fun t h => k0_pay1 (iblk m c 0 ⟨t, h⟩) (iblk m c 1 ⟨t, h⟩) j) (fun t h => (outsAt0 m c t h).1 j)
    (fun t h h0 => ?_) (fun t h h1 => ?_) (fun t h h2 => ?_) t h h3
  · rw [outsAt0_A m c ⟨t, h⟩ h0 (by simp only; omega) (by simp only; omega)]
    frame_out
    pointwise [k0_pay2]
  · rw [outsAt0_B m c ⟨t, h⟩ (by simp only; omega) h1 (by simp only; omega)]
    frame_out
    pointwise [k0_pay3]
    exact congrArg (· + _) (congrFun (Memref.IsWhole.read_unread (m := Memref.whole cc0_scratch0) _ _) j)
  · rw [outsAt0_C m c ⟨t, h⟩ (by simp only; omega) (by simp only; omega) h2]
    frame_out
    pointwise [k0_pay4]
    exact congrArg (· + _) (congrFun (Memref.IsWhole.read_unread (m := Memref.whole cc0_scratch0) _ _) j)

theorem frame_ref : Cert.quiescent_Reference12Ideal := fun m ρ _ =>
  quiet_of_run (by decide) (Cert.Reference12Ideal.Value.run (F := Ideal) m ρ) fun _ _ h => h.2

theorem algebraic : Cert.algebraic_Kernel12Ideal_Reference12Ideal := by
  pair_intro
  · run_from Cert.Kernel12Ideal.Gen.run_main m g
  · run_from Cert.Reference12Ideal.Value.run (F := Ideal) m' g'
    refine ((dats m 0 c).arrAt_eq_of_covers 2 _ (by decide +kernel) fun t hf y => ?_).symm
    have ht : t.val < 16 := t.isLt
    have h3 := (flush0_2 t).mp hf
    blk_simp
    rw [after0_2, row m c y t.val t.isLt h3]
    refine Cert.Prod.four_rows (K := 1024) rfl (fun s k _ => ?_) (fun s k _ => ?_)
    all_goals blk_point [iblk, V, idx t, idx ⟨t.val - (3 - s.val), Nat.lt_of_le_of_lt (Nat.sub_le _ _) t.isLt⟩]

end Cert.Kernel12Ideal.Gm

namespace Cert.Kernel13Ideal.Gm

open Cert.Kernel13Ideal Cert.Kernel13Ideal.Gen

/-- Where the windows' blocks sit at each point. -/
theorem idx : ∀ t : Fin cfg0.N, win0_0.index t = ![0, 0] ∧ win0_1.index t = ![0, t.val]
    ∧ win0_2.index t = ![t.val, 0, 0] :=
  (by decide +kernel : ∀ t : Fin grid0.N, _)

theorem frame_ref : Cert.quiescent_Reference13Ideal := fun m ρ _ =>
  quiet_of_run (by decide) (Cert.Reference13Ideal.Value.run (F := Ideal) m ρ) fun _ _ h => h.2

theorem algebraic : Cert.algebraic_Kernel13Ideal_Reference13Ideal := by
  pair_intro
  · run_from Cert.Kernel13Ideal.Gen.run_main m g
  · run_from Cert.Reference13Ideal.Value.run (F := Ideal) m' g'
    refine ((dats m 0 c).arrAt_eq_of_covers 2 _ (by decide +kernel) fun t _ y => ?_).symm
    blk_simp
    rw [after0_2]
    frame_out
    refine Cert.Prod.block_dealt (K := 1024) rfl (fun k => ?_) (fun k _ => ?_)
    all_goals blk_point [iblk, V, idx t]

end Cert.Kernel13Ideal.Gm

namespace Cert.Kernel21Ideal.Gm

open Cert.Kernel21Ideal Cert.Kernel21Ideal.Gen

/-- Where the windows' blocks sit at each point. -/
theorem idx : ∀ t : Fin cfg0.N, win0_0.index t = ![t.val / 4, 0] ∧ win0_1.index t = ![t.val % 4, 0, 0]
    ∧ win0_2.index t = ![0, t.val % 4] ∧ win0_3.index t = ![t.val / 4, t.val % 4] :=
  (by decide +kernel : ∀ t : Fin grid0.N, _)

theorem frame_ref : Cert.quiescent_Reference21Ideal := fun m ρ _ =>
  quiet_of_run (by decide) (Cert.Reference21Ideal.Value.run (F := Ideal) m ρ) fun _ _ h => h.2

theorem algebraic : Cert.algebraic_Kernel21Ideal_Reference21Ideal := by
  pair_intro
  · run_from Cert.Kernel21Ideal.Gen.run_main m g
  · run_from Cert.Reference21Ideal.Value.run (F := Ideal) m' g'
    refine ((dats m 0 c).arrAt_eq_of_covers 3 _ (by decide +kernel) fun t _ y => ?_).symm
    blk_simp
    rw [after0_3]
    frame_out
    refine congrArg₂ (fun u l : EReal => u + l) (Cert.Prod.block_plain (fun k => ?_) fun k => ?_) ?_
    · blk_point [iblk, V, idx t]
    · refine (Cert.Prod.unstack_one _ _ _).trans ?_
      blk_point [iblk, V, idx t]
    · pointwise []
      blk_point [iblk, V, idx t]

end Cert.Kernel21Ideal.Gm

namespace Cert.Kernel22Ideal.Gm

open Cert.Kernel22Ideal Cert.Kernel22Ideal.Gen

/-- Where the windows' blocks sit at each point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem frame_ref : Cert.quiescent_Reference22Ideal := fun m ρ _ =>
  quiet_of_run (by decide) (Cert.Reference22Ideal.Value.run (F := Ideal) m ρ) fun _ _ h => h.2

theorem algebraic : Cert.algebraic_Kernel22Ideal_Reference22Ideal := by
  pair_intro
  · run_from Cert.Kernel22Ideal.Gen.run_main m g
  · run_from Cert.Reference22Ideal.Value.run (F := Ideal) m' g'
    refine ((dats m 0 c).arrAt_eq_of_covers 3 _ (by decide +kernel) fun t _ y => ?_).symm
    blk_simp
    rw [after0_3]
    frame_out
    refine Cert.Prod.block_add (Cert.Prod.block_plain (fun k => ?_) (fun k => ?_)) ?_
    all_goals blk_point [iblk, V, idx t]

end Cert.Kernel22Ideal.Gm

end
-- ==== Proof.Ssm.lean ====
module

public import proofs.«01_k».proof.Defs
public import proofs.«01_k».proof.Proof.Prod
public import proofs.«01_k».proof.Proof.Quiet
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16Ideal
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17Ideal
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel23Ideal
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24Ideal
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel30Ideal
public import proofs.«01_k».proof.Proof.Gen.Reference30Ideal
public import proofs.«01_k».proof.Proof.Gen.Kernel30Ideal.Value
public import proofs.«01_k».proof.Proof.Gen.Reference30Ideal.Run
public import proofs.«01_k».proof.Proof.Gen.Kernel31Ideal
public import proofs.«01_k».proof.Proof.Gen.Reference31Ideal
public import proofs.«01_k».proof.Proof.Gen.Kernel31Ideal.Value
public import proofs.«01_k».proof.Proof.Gen.Reference31Ideal.Run
public import proofs.«01_k».proof.Proof.Gen.Kernel32Ideal
public import proofs.«01_k».proof.Proof.Gen.Reference32Ideal
public import proofs.«01_k».proof.Proof.Gen.Kernel32Ideal.Value
public import proofs.«01_k».proof.Proof.Gen.Reference32Ideal.Run
public import Idealize.ShloMosaic.Lib.Claim

@[expose] public section

/-!
The SSD layer's products with the two big parts of its input weight: forward, and for each the gradient of
the hidden states through it and its own gradient.
-/

set_option maxRecDepth 16384

noncomputable section

open Idealize.ShloMosaic Idealize.ShloMosaic.TcCoe Idealize.SL.Sem
open Idealize.ShloMosaic.Pipeline (Dat)

namespace Cert.Kernel14Ideal.Ssm

open Cert.Kernel14Ideal Cert.Kernel14Ideal.Gen

/-- Where the windows' blocks sit at each point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

theorem frame_ref : Cert.quiescent_Reference14Ideal := fun m ρ _ =>
  quiet_of_run (by decide) (Cert.Reference14Ideal.Value.run (F := Ideal) m ρ) fun _ _ h => h.2

theorem algebraic : Cert.algebraic_Kernel14Ideal_Reference14Ideal := by
  pair_intro
  · run_from Cert.Kernel14Ideal.Gen.run_main m g
  · run_from Cert.Reference14Ideal.Value.run (F := Ideal) m' g'
    refine ((dats m 0 c).arrAt_eq_of_covers 3 _ (by decide +kernel) fun t _ y => ?_).symm
    blk_simp
    rw [after0_3]
    frame_out
    refine Cert.Prod.block_add (Cert.Prod.block_rows (fun k => ?_) (fun k => ?_)) ?_
    all_goals blk_point [iblk, V, idx t]

end Cert.Kernel14Ideal.Ssm

namespace Cert.Kernel15Ideal.Ssm

open Cert.Kernel15Ideal Cert.Kernel15Ideal.Gen

/-- Where the windows' blocks sit at each point. -/
theorem idx : ∀ t : Fin cfg0.N, win0_0.index t = ![0, 0] ∧ win0_1.index t = ![0, t.val]
    ∧ win0_2.index t = ![0, t.val] :=
  (by decide +kernel : ∀ t : Fin grid0.N, _)

theorem frame_ref : Cert.quiescent_Reference15Ideal := fun m ρ _ =>
  quiet_of_run (by decide) (Cert.Reference15Ideal.Value.run (F := Ideal) m ρ) fun _ _ h => h.2

theorem algebraic : Cert.algebraic_Kernel15Ideal_Reference15Ideal := by
  pair_intro
  · run_from Cert.Kernel15Ideal.Gen.run_main m g
  · run_from Cert.Reference15Ideal.Value.run (F := Ideal) m' g'
    refine ((dats m 0 c).arrAt_eq_of_covers 2 _ (by decide +kernel) fun t _ y => ?_).symm
    blk_simp
    rw [after0_2]
    frame_out
    refine Cert.Prod.block_cols (fun k => ?_) (fun k => ?_)
    all_goals blk_point [iblk, V, idx t]

end Cert.Kernel15Ideal.Ssm

namespace Cert.Kernel16Ideal.Ssm

open Cert.Kernel16Ideal Cert.Kernel16Ideal.Gen

/-- Where the windows' blocks sit at each point. -/
theorem idx : ∀ t : Fin cfg0.N, win0_0.index t = ![t.val, 0] ∧ win0_1.index t = ![0, 0]
    ∧ win0_2.index t = ![t.val, 0] :=
  (by decide +kernel : ∀ t : Fin grid0.N, _)

theorem frame_ref : Cert.quiescent_Reference16Ideal := fun m ρ _ =>
  quiet_of_run (by decide) (Cert.Reference16Ideal.Value.run (F := Ideal) m ρ) fun _ _ h => h.2

theorem algebraic : Cert.algebraic_Kernel16Ideal_Reference16Ideal := by
  pair_intro
  · run_from Cert.Kernel16Ideal.Gen.run_main m g
  · run_from Cert.Reference16Ideal.Value.run (F := Ideal) m' g'
    refine ((dats m 0 c).arrAt_eq_of_covers 2 _ (by decide +kernel) fun t _ y => ?_).symm
    blk_simp
    rw [after0_2]
    frame_out
    refine Cert.Prod.block_rows (fun k => ?_) (fun k => ?_)
    all_goals blk_point [iblk, V, idx t]

end Cert.Kernel16Ideal.Ssm

namespace Cert.Kernel17Ideal.Ssm

open Cert.Kernel17Ideal Cert.Kernel17Ideal.Gen

/-- Where the windows' blocks sit at each point. -/
theorem idx : ∀ t : Fin cfg0.N, win0_0.index t = ![0, 0] ∧ win0_1.index t = ![0, t.val]
    ∧ win0_2.index t = ![0, t.val] :=
  (by decide +kernel : ∀ t : Fin grid0.N, _)

theorem frame_ref : Cert.quiescent_Reference17Ideal := fun m ρ _ =>
  quiet_of_run (by decide) (Cert.Reference17Ideal.Value.run (F := Ideal) m ρ) fun _ _ h => h.2

theorem algebraic : Cert.algebraic_Kernel17Ideal_Reference17Ideal := by
  pair_intro
  · run_from Cert.Kernel17Ideal.Gen.run_main m g
  · run_from Cert.Reference17Ideal.Value.run (F := Ideal) m' g'
    refine ((dats m 0 c).arrAt_eq_of_covers 2 _ (by decide +kernel) fun t _ y => ?_).symm
    blk_simp
    rw [after0_2]
    frame_out
    refine Cert.Prod.block_cols (fun k => ?_) (fun k => ?_)
    all_goals blk_point [iblk, V, idx t]

end Cert.Kernel17Ideal.Ssm

namespace Cert.Kernel23Ideal.Ssm

open Cert.Kernel23Ideal Cert.Kernel23Ideal.Gen

/-- Where the windows' blocks sit at each point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem frame_ref : Cert.quiescent_Reference23Ideal := fun m ρ _ =>
  quiet_of_run (by decide) (Cert.Reference23Ideal.Value.run (F := Ideal) m ρ) fun _ _ h => h.2

theorem algebraic : Cert.algebraic_Kernel23Ideal_Reference23Ideal := by
  pair_intro
  · run_from Cert.Kernel23Ideal.Gen.run_main m g
  · run_from Cert.Reference23Ideal.Value.run (F := Ideal) m' g'
    refine ((dats m 0 c).arrAt_eq_of_covers 2 _ (by decide +kernel) fun t _ y => ?_).symm
    blk_simp
    rw [after0_2]
    frame_out
    refine Cert.Prod.block_plain (fun k => ?_) (fun k => ?_)
    all_goals blk_point [iblk, V, idx t]

end Cert.Kernel23Ideal.Ssm

namespace Cert.Kernel24Ideal.Ssm

open Cert.Kernel24Ideal Cert.Kernel24Ideal.Gen

/-- Where the windows' blocks sit at each point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem frame_ref : Cert.quiescent_Reference24Ideal := fun m ρ _ =>
  quiet_of_run (by decide) (Cert.Reference24Ideal.Value.run (F := Ideal) m ρ) fun _ _ h => h.2

theorem algebraic : Cert.algebraic_Kernel24Ideal_Reference24Ideal := by
  pair_intro
  · run_from Cert.Kernel24Ideal.Gen.run_main m g
  · run_from Cert.Reference24Ideal.Value.run (F := Ideal) m' g'
    refine ((dats m 0 c).arrAt_eq_of_covers 2 _ (by decide +kernel) fun t _ y => ?_).symm
    blk_simp
    rw [after0_2]
    frame_out
    refine Cert.Prod.block_plain (fun k => ?_) (fun k => ?_)
    all_goals blk_point [iblk, V, idx t]

end Cert.Kernel24Ideal.Ssm

namespace Cert.Kernel30Ideal.Ssm

open Cert.Kernel30Ideal Cert.Kernel30Ideal.Gen

/-- Where the windows' blocks sit at each point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem frame_ref : Cert.quiescent_Reference30Ideal := fun m ρ _ =>
  quiet_of_run (by decide) (Cert.Reference30Ideal.Value.run (F := Ideal) m ρ) fun _ _ h => h.2

theorem algebraic : Cert.algebraic_Kernel30Ideal_Reference30Ideal := by
  pair_intro
  · run_from Cert.Kernel30Ideal.Gen.run_main m g
  · run_from Cert.Reference30Ideal.Value.run (F := Ideal) m' g'
    refine ((dats m 0 c).arrAt_eq_of_covers 3 _ (by decide +kernel) fun t _ y => ?_).symm
    blk_simp
    rw [after0_3]
    frame_out
    refine Cert.Prod.block_add (Cert.Prod.block_rows (fun k => ?_) (fun k => ?_)) ?_
    all_goals blk_point [iblk, V, idx t]

end Cert.Kernel30Ideal.Ssm

namespace Cert.Kernel31Ideal.Ssm

open Cert.Kernel31Ideal Cert.Kernel31Ideal.Gen

/-- Where the windows' blocks sit at each point. -/
theorem idx : ∀ t : Fin cfg0.N, win0_0.index t = ![0, 0] ∧ win0_1.index t = ![0, 0] ∧ win0_2.index t = ![0, 0] :=
  (by decide +kernel : ∀ t : Fin grid0.N, _)

theorem frame_ref : Cert.quiescent_Reference31Ideal := fun m ρ _ =>
  quiet_of_run (by decide) (Cert.Reference31Ideal.Value.run (F := Ideal) m ρ) fun _ _ h => h.2

theorem algebraic : Cert.algebraic_Kernel31Ideal_Reference31Ideal := by
  pair_intro
  · run_from Cert.Kernel31Ideal.Gen.run_main m g
  · run_from Cert.Reference31Ideal.Value.run (F := Ideal) m' g'
    refine ((dats m 0 c).arrAt_eq_of_covers 2 _ (by decide +kernel) fun t _ y => ?_).symm
    blk_simp
    rw [after0_2]
    frame_out
    refine Cert.Prod.block_cols (fun k => ?_) (fun k => ?_)
    all_goals blk_point [iblk, V, idx t]

end Cert.Kernel31Ideal.Ssm

namespace Cert.Kernel32Ideal.Ssm

open Cert.Kernel32Ideal Cert.Kernel32Ideal.Gen

/-- Where the windows' blocks sit at each point. -/
theorem idx : ∀ t : Fin cfg0.N, win0_0.index t = ![t.val, 0] ∧ win0_1.index t = ![0, 0] ∧ win0_2.index t = ![t.val, 0] :=
  (by decide +kernel : ∀ t : Fin grid0.N, _)

theorem frame_ref : Cert.quiescent_Reference32Ideal := fun m ρ _ =>
  quiet_of_run (by decide) (Cert.Reference32Ideal.Value.run (F := Ideal) m ρ) fun _ _ h => h.2

theorem algebraic : Cert.algebraic_Kernel32Ideal_Reference32Ideal := by
  pair_intro
  · run_from Cert.Kernel32Ideal.Gen.run_main m g
  · run_from Cert.Reference32Ideal.Value.run (F := Ideal) m' g'
    refine ((dats m 0 c).arrAt_eq_of_covers 2 _ (by decide +kernel) fun t _ y => ?_).symm
    blk_simp
    rw [after0_2]
    frame_out
    refine Cert.Prod.block_plain (fun k => ?_) (fun k => ?_)
    all_goals blk_point [iblk, V, idx t]

end Cert.Kernel32Ideal.Ssm

end
-- ==== Proof.Mix.lean ====
module

public import proofs.«01_k».proof.Defs
public import proofs.«01_k».proof.Proof.Quiet
public import proofs.«01_k».proof.Proof.Gen.Kernel26Ideal
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27Ideal
public import proofs.«01_k».proof.Proof.Gen.Reference27Ideal
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

/-!
The mixing of positions inside a chunk, one matrix per group of columns: forward, and its gradients.
-/

set_option maxRecDepth 16384

noncomputable section

open Idealize.ShloMosaic Idealize.ShloMosaic.TcCoe Idealize.SL.Sem
open Idealize.ShloMosaic.Pipeline (Dat)

namespace Cert.Reference26Ideal.Mix

open Cert.Reference26Ideal Cert.Reference26Ideal.Gen

/-- The causal part of the mixing weights, as the reference computes it. -/
def wR (w : FVec Ideal S16x128x128 .f32) : FVec Ideal S16x128x128 .f32 :=
  select (broadcastInDim S16x128x128 ![1, 2] bcast_S128x128_S16x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) w (broadcastInDim S16x128x128 ![] bcast_S_S16x128x128 (id (constant S_ .f32 0x00000000#32)))

/-- The reference's result. -/
def REF (u : FVec Ideal S4096x2048 .f32) (v : FVec Ideal S4096x2048 .bf16) (w : FVec Ideal S16x128x128 .f32) (b : FVec Ideal S16x128 .f32) :
    FVec Ideal S4096x2048 .bf16 :=
  truncf .bf16 (mulf u (shapeCast _ (addf (transpose S32x128x16x128 [1, 3, 0, 2] (Host.dotGeneral dot_S32x128x16x128_S16x128x128_S16x32x128x128_1_2_03_1_2_0 none (shapeCast _ (extf .f32 v bitsLt_bf16_f32) shapeCasts_S4096x2048_S32x128x16x128) (wR w)) transposes_S16x32x128x128_S32x128x16x128_1_3_0_2) (broadcastInDim S32x128x16x128 ![0, 1, 2, 3] bcast_S1x128x16x1_S32x128x16x128_0_1_2_3 (shapeCast _ (transpose S128x16 [1, 0] b transposes_S16x128_S128x16_1_0) shapeCasts_S128x16_S1x128x16x1))) shapeCasts_S32x128x16x128_S4096x2048)) bitsLt_bf16_f32

/-- The reference's result at an index. -/
theorem ref_at (u : FVec Ideal S4096x2048 .f32) (v : FVec Ideal S4096x2048 .bf16) (w : FVec Ideal S16x128x128 .f32) (b : FVec Ideal S16x128 .f32)
    (j : S4096x2048.Idx) (n : ℕ) (g : Fin 16) (t : Fin 128) (hn : n < 32) (h0 : (j 0).val = n * 128 + t.val) (h1 : (j 1).val / 128 = g.val) :
    REF u v w b j = u j * (∑ s : Fin 128, wR w (ix3 g t s) * v (ix2 ⟨n * 128 + s.val, by omega⟩ (j 1)) + b (ix2 g t)) := by
  have e : (j 0).val / 128 = n ∧ (j 0).val % 128 = t.val := by omega
  have et : (⟨(j 0).val % 128, Nat.mod_lt _ (by decide)⟩ : Fin 128) = t := Fin.ext e.2
  have eg : (⟨(j 1).val / 128, by omega⟩ : Fin 16) = g := Fin.ext h1
  pointwise [REF]
  simp only [e.1, et, eg]
  exact congrArg (fun z => u j * (z + b (ix2 g t))) (Finset.sum_congr rfl fun s _ => mul_comm _ _)

end Cert.Reference26Ideal.Mix

namespace Cert.Kernel26Ideal.Mix

open Cert.Kernel26Ideal Cert.Kernel26Ideal.Gen
open Cert.Reference26Ideal.Mix (wR REF ref_at)

variable (m : (ℓ : Loc nD τ sig) → Buf (Elt Ideal) ℓ)

/-- Where the windows' blocks sit at each point. -/
theorem idx : ∀ t : Fin cfg0.N, win0_0.index t = ![t.val, 0] ∧ win0_1.index t = ![t.val, 0]
    ∧ win0_2.index t = ![0, 0, 0] ∧ win0_3.index t = ![0, 0] ∧ win0_4.index t = ![t.val, 0] :=
  (by decide +kernel : ∀ t : Fin grid0.N, _)

/-- The weights the points read. -/
theorem V_w (c : Dev nD) : V m c main_v3 = truncf .bf16 (wR (m ((c : Thread nD τ).loc main_arg2))) bitsLt_bf16_f32 := by
  simp only [V, hostOps0, hostOps0_1, hostOps0_2, hostOps0_3, hostOps0_4, List.flatten_cons, List.flatten_nil, List.append_nil, List.cons_append, List.nil_append, StableHlo.after_cons, StableHlo.after_nil]
  after_results_simp
  after_results_loop
  try rfl

/-- The biases the points read. -/
theorem V_b (c : Dev nD) : V m c main_v6 = shapeCast _ (broadcastInDim S128x16x128 ![0, 1] bcast_S128x16_S128x16x128_0_1 (transpose S128x16 [1, 0] (m ((c : Thread nD τ).loc main_arg3) : FVec Ideal S16x128 .f32) transposes_S16x128_S128x16_1_0)) shapeCasts_S128x16x128_S128x2048 := by
  simp only [V, hostOps0, hostOps0_1, hostOps0_2, hostOps0_3, hostOps0_4, List.flatten_cons, List.flatten_nil, List.append_nil, List.cons_append, List.nil_append, StableHlo.after_cons, StableHlo.after_nil]
  after_results_simp
  after_results_loop
  try rfl

/-- The weights' block is all of them. -/
theorem rd_w (c : Dev nD) (t : Fin cfg0.N) (j : S16x128x128.Idx) : iblk m c 2 t j = V m c main_v3 j := by
  blk_point [iblk, idx t]

/-- The biases' block is all of them. -/
theorem rd_b (c : Dev nD) (t : Fin cfg0.N) (j : S128x2048.Idx) : iblk m c 3 t j = V m c main_v6 j := by
  blk_point [iblk, idx t]

/-- What a point stores of one group of columns, from what it loads. -/
theorem pay (v0 : Vec Ideal S1x128x128 .bf16) (v2 : Vec Ideal S128x128 .bf16) (v4 v7 : Vec Ideal S128x128 .f32) (x : S128x128.Idx) :
    k0_pay2 v0 v2 v4 v7 x = v7 x * (∑ s : Fin 128, v0 (ix3 0 (x 0) s) * v2 (ix2 s (x 1)) + v4 x) := by
  pointwise [k0_pay2]

/-- The same, from the point's blocks. -/
theorem group (x0 : Vec Ideal S128x2048 .f32) (x1 : Vec Ideal S128x2048 .bf16) (x2 : Vec Ideal S16x128x128 .bf16) (x3 : Vec Ideal S128x2048 .f32)
    (g o : ℕ) (hw) (hv) (x : S128x128.Idx) (y : S128x2048.Idx) (k : Fin 16)
    (h0 : (y 0).val = 0 + (x 0).val) (h1 : (y 1).val = o + (x 1).val) (hk : k.val = g) :
    k0_pay2 (View.ld x2 (Rect.unit (s := S16x128x128) ![g, 0, 0] S1x128x128.size hw)) (View.ld x1 (Rect.unit (s := S128x2048) ![0, o] S128x128.size hv))
      (View.ld x3 (Rect.unit (s := S128x2048) ![0, o] S128x128.size hv)) (View.ld x0 (Rect.unit (s := S128x2048) ![0, o] S128x128.size hv)) x
      = x0 y * (∑ s : Fin 128, x2 (ix3 k (y 0) s) * x1 (ix2 s (y 1)) + x3 y) := by
  refine (pay _ _ _ _ x).trans (congrArg₂ (· * ·) ?_ (congrArg₂ (· + ·) (Finset.sum_congr rfl fun s _ => congrArg₂ (· * ·) ?_ ?_) ?_))
  · exact View.ld_unit_apply_of x0 _ _ hv x y (Fin.forall_fin_two.2 ⟨h0, h1⟩)
  · refine View.ld_unit_apply_of x2 _ _ hw _ _ fun a => ?_
    match a with
    | 0 => exact hk
    | 1 => exact h0
    | 2 => exact (Nat.zero_add _).symm
  · exact View.ld_unit_apply_of x1 _ _ hv _ _ (Fin.forall_fin_two.2 ⟨(Nat.zero_add _).symm, h1⟩)
  · exact View.ld_unit_apply_of x3 _ _ hv x y (Fin.forall_fin_two.2 ⟨h0, h1⟩)

/-- What a point stores. -/
theorem point (x0 : Vec Ideal S128x2048 .f32) (x1 : Vec Ideal S128x2048 .bf16) (x2 : Vec Ideal S16x128x128 .bf16) (x3 : Vec Ideal S128x2048 .f32)
    (y : S128x2048.Idx) (k : Fin 16) (hk : (y 1).val / 128 = k.val) :
    out0_4 x0 x1 x2 x3 y = x0 y * (∑ s : Fin 128, x2 (ix3 k (y 0) s) * x1 (ix2 s (y 1)) + x3 y) := by
  unfold out0_4
  canon_tiles x h
  all_goals (refine group x0 x1 x2 x3 _ _ _ _ x y k ?_ ?_ ?_ <;> omega)

theorem frame_ref : Cert.quiescent_Reference26Ideal := fun m ρ _ =>
  quiet_of_run (by decide) (Cert.Reference26Ideal.Value.run (F := Ideal) m ρ) fun _ _ h => h.2

theorem algebraic : Cert.algebraic_Kernel26Ideal_Reference26Ideal := by
  pair_intro
  · run_from Cert.Kernel26Ideal.Value.run_blocks m g
  · run_from Cert.Reference26Ideal.Value.run (F := Ideal) m' g'
    refine Eq.trans ?_ ((dats m 0 c).arrAt_eq_of_covers 4 (REF (m ((c.tc : Thread nD τ).loc main_arg0)) (m ((c.tc : Thread nD τ).loc main_arg1)) (m ((c.tc : Thread nD τ).loc main_arg2)) (m ((c.tc : Thread nD τ).loc main_arg3))) (by decide +kernel) fun t _ y => ?_).symm
    · rfl
    have hy : (y 1).val < 2048 := (y 1).isLt
    blk_simp
    rw [after0_4]
    refine (point _ _ _ _ y ⟨(y 1).val / 128, by omega⟩ rfl).trans ?_
    refine Eq.trans ?_ (ref_at _ _ _ _ _ t.val ⟨(y 1).val / 128, by omega⟩ (y 0) t.isLt ?_ ?_).symm
    · refine congrArg₂ (· * ·) ?_ (congrArg₂ (· + ·) (Finset.sum_congr rfl fun s _ => congrArg₂ (· * ·) ?_ ?_) ?_)
      · blk_point [iblk, V, idx t]
      · exact (rd_w m c t _).trans (congrFun (V_w m c) _)
      · blk_point [iblk, V, idx t]
      · exact (rd_b m c t _).trans ((congrFun (V_b m c) _).trans (by pointwise []))
    · blk_simp [idx t]
    · blk_simp [idx t]

end Cert.Kernel26Ideal.Mix

namespace Cert.Reference27Ideal.Mix

open Cert.Reference27Ideal Cert.Reference27Ideal.Gen

section
variable (dg u : FVec Ideal S4096x2048 .f32) (v : FVec Ideal S4096x2048 .bf16) (w : FVec Ideal S16x128x128 .bf16) (b : FVec Ideal S128x2048 .f32)

/-- The reference's first result. -/
def duR : FVec Ideal S4096x2048 .f32 :=
  mulf dg (shapeCast _ (addf (transpose S32x128x16x128 [1, 3, 0, 2] (Host.dotGeneral dot_S32x128x16x128_S16x128x128_S16x32x128x128_1_2_03_1_2_0 none (shapeCast _ (extf .f32 v bitsLt_bf16_f32) shapeCasts_S4096x2048_S32x128x16x128) (extf .f32 w bitsLt_bf16_f32)) transposes_S16x32x128x128_S32x128x16x128_1_3_0_2) (broadcastInDim S32x128x16x128 ![0, 1, 2, 3] bcast_S1x128x16x128_S32x128x16x128_0_1_2_3 (shapeCast _ b shapeCasts_S128x2048_S1x128x16x128))) shapeCasts_S32x128x16x128_S4096x2048)

/-- The gradient of the mixed values, by chunk and group. -/
def mixR : FVec Ideal S32x128x16x128 .f32 := shapeCast _ (mulf u dg) shapeCasts_S4096x2048_S32x128x16x128

/-- The reference's second result. -/
def dvR : FVec Ideal S4096x2048 .f32 :=
  shapeCast _ (transpose S32x128x16x128 [1, 3, 0, 2] (Host.dotGeneral dot_S16x32x128x128_S16x128x128_S16x32x128x128_3_1_12_2_0_0 none (transpose S16x32x128x128 [2, 0, 3, 1] (mixR dg u) transposes_S32x128x16x128_S16x32x128x128_2_0_3_1) (extf .f32 w bitsLt_bf16_f32)) transposes_S16x32x128x128_S32x128x16x128_1_3_0_2) shapeCasts_S32x128x16x128_S4096x2048

/-- The reference's third result. -/
def dwR : FVec Ideal S16x128x128 .f32 :=
  Host.dotGeneral dot_S16x32x128x128_S32x128x16x128_S16x128x128_12_03_3_1_0_2 none (transpose S16x32x128x128 [2, 0, 3, 1] (mixR dg u) transposes_S32x128x16x128_S16x32x128x128_2_0_3_1) (shapeCast _ (extf .f32 v bitsLt_bf16_f32) shapeCasts_S4096x2048_S32x128x16x128)

/-- The reference's fourth result. -/
def dbR : FVec Ideal S128x2048 .f32 :=
  shapeCast _ (shapeCast _ (Host.reduceAdd (mixR dg u) (constant S_ .f32 0x00000000#32) reducesTo_S32x128x16x128_S128x16x128_d0 h_S_) shapeCasts_S128x16x128_S1x128x16x128) shapeCasts_S1x128x16x128_S128x2048

theorem duR_at (j : S4096x2048.Idx) (n : ℕ) (g : Fin 16) (t : Fin 128) (hn : n < 32) (h0 : (j 0).val = n * 128 + t.val) (h1 : (j 1).val / 128 = g.val) :
    duR dg v w b j = dg j * (∑ s : Fin 128, w (ix3 g t s) * v (ix2 ⟨n * 128 + s.val, by omega⟩ (j 1)) + b (ix2 t (j 1))) := by
  have e : (j 0).val / 128 = n ∧ (j 0).val % 128 = t.val := by omega
  have et : (⟨(j 0).val % 128, Nat.mod_lt _ (by decide)⟩ : Fin 128) = t := Fin.ext e.2
  have eg : (⟨(j 1).val / 128, by omega⟩ : Fin 16) = g := Fin.ext h1
  pointwise [duR]
  simp only [e.1, et, eg]
  exact congrArg (fun z => dg j * (z + b (ix2 t (j 1)))) (Finset.sum_congr rfl fun s _ => mul_comm _ _)

theorem dvR_at (j : S4096x2048.Idx) (n : ℕ) (g : Fin 16) (s : Fin 128) (hn : n < 32) (h0 : (j 0).val = n * 128 + s.val) (h1 : (j 1).val / 128 = g.val) :
    dvR dg u w j = ∑ t : Fin 128, w (ix3 g t s) * (dg (ix2 ⟨n * 128 + t.val, by omega⟩ (j 1)) * u (ix2 ⟨n * 128 + t.val, by omega⟩ (j 1))) := by
  have e : (j 0).val / 128 = n ∧ (j 0).val % 128 = s.val := by omega
  have et : (⟨(j 0).val % 128, Nat.mod_lt _ (by decide)⟩ : Fin 128) = s := Fin.ext e.2
  have eg : (⟨(j 1).val / 128, by omega⟩ : Fin 16) = g := Fin.ext h1
  pointwise [dvR, mixR]
  simp only [e.1, et, eg]
  exact Finset.sum_congr rfl fun t _ => (mul_comm _ _).trans (congrArg (_ * ·) (mul_comm _ _))

theorem dwR_at (g : Fin 16) (t s : Fin 128) : dwR dg u v (ix3 g t s)
    = ∑ n : Fin 32, ∑ c : Fin 128, dg (ix2 ⟨n.val * 128 + t.val, by omega⟩ ⟨g.val * 128 + c.val, by omega⟩) * u (ix2 ⟨n.val * 128 + t.val, by omega⟩ ⟨g.val * 128 + c.val, by omega⟩)
      * v (ix2 ⟨n.val * 128 + s.val, by omega⟩ ⟨g.val * 128 + c.val, by omega⟩) := by
  pointwise [dwR, mixR]
  exact Finset.sum_congr rfl fun n _ => Finset.sum_congr rfl fun c _ => congrArg (· * _) (mul_comm _ _)

theorem dbR_at (t : Fin 128) (q : Fin 2048) : dbR dg u (ix2 t q)
    = ∑ n : Fin 32, dg (ix2 ⟨n.val * 128 + t.val, by omega⟩ q) * u (ix2 ⟨n.val * 128 + t.val, by omega⟩ q) := by
  pointwise [dbR, mixR]
  exact Finset.sum_congr rfl fun n _ => mul_comm _ _
end

/-- A buffer of the reference's. -/
abbrev refAt (c : Dev nD) (b : Ref sig .tc) : Loc nD τ sig := (c.tc : Thread nD τ).loc b

/-- The reference's run, its results by their names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (refAt c main_v11) = duR (m (refAt c main_arg0)) (m (refAt c main_arg2)) (m (refAt c main_arg3)) (m (refAt c main_arg4))
      ∧ r.2.mem (refAt c main_v20) = dvR (m (refAt c main_arg0)) (m (refAt c main_arg1)) (m (refAt c main_arg3))
      ∧ r.2.mem (refAt c main_v17) = dwR (m (refAt c main_arg0)) (m (refAt c main_arg1)) (m (refAt c main_arg2))
      ∧ r.2.mem (refAt c main_v15) = dbR (m (refAt c main_arg0)) (m (refAt c main_arg1))
      ∧ r.2.mem (refAt c main_arg0) = m (refAt c main_arg0)
      ∧ r.2.mem (refAt c main_arg1) = m (refAt c main_arg1)
      ∧ r.2.mem (refAt c main_arg2) = m (refAt c main_arg2)
      ∧ r.2.mem (refAt c main_arg3) = m (refAt c main_arg3)
      ∧ r.2.mem (refAt c main_arg4) = m (refAt c main_arg4) := by
  unfold duR dvR dwR dbR mixR
  exact Value.run (F := Ideal) m ρ

theorem frame_ref : Cert.quiescent_Reference27Ideal := fun m ρ _ =>
  quiet_of_run (by decide) (ref_run m ρ) fun _ _ h => h.2.2.2.2

end Cert.Reference27Ideal.Mix

namespace Cert.Kernel27Ideal.Mix

open Cert.Kernel27Ideal Cert.Kernel27Ideal.Gen
open Cert.Reference27Ideal.Mix (duR dvR dwR dbR duR_at dvR_at dwR_at dbR_at ref_run)

/-- A store that later stores cover leaves no trace. -/
theorem canon_covered {Val : EltTy → Type} [∀ e, Nonempty (Val e)] {s : Shape} {e : EltTy} (p : View.Piece Val s e) (y : s.Idx) :
    ∀ L : List (View.Piece Val s e), (∃ q ∈ L, y ∈ q.1.set) → View.canon (L ++ [p]) y = View.canon L y
  | [], h => by obtain ⟨q, hq, _⟩ := h; simp at hq
  | q :: L, h => by
    by_cases hm : y ∈ q.1.set
    · obtain ⟨x, rfl⟩ := q.1.exists_idx_of_mem hm
      rw [List.cons_append, show q.1.idx x = q.1.emb x from rfl, View.canon_cons_emb, View.canon_cons_emb]
    · rw [List.cons_append, View.canon_cons_of_not_mem _ _ hm, View.canon_cons_of_not_mem _ _ hm]
      obtain ⟨q', hq, hy⟩ := h
      rcases List.mem_cons.mp hq with rfl | hq'
      · exact absurd hy hm
      · exact canon_covered p y L ⟨q', hq', hy⟩

variable (m : (ℓ : Loc nD τ sig) → Buf (Elt Ideal) ℓ)

/-- Where the windows' blocks sit at each point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![t.val, 0]
    ∧ win0_7.index t = ![0, 0, 0] ∧ win0_8.index t = ![0, 0] :=
  (by decide +kernel : ∀ t : Fin grid0.N, _)

theorem pay_du (v3 : Vec Ideal S128x128 .bf16) (v4 : Vec Ideal S128x128 .f32) (v5 : Vec Ideal S1x128x128 .bf16) (v8 : Vec Ideal S128x128 .f32) (x : S128x128.Idx) :
    k0_pay8 v3 v4 v5 v8 x = v4 x * (∑ s : Fin 128, v5 (ix3 0 (x 0) s) * v3 (ix2 s (x 1)) + v8 x) := by
  pointwise [k0_pay8]

theorem pay_dv (v4 v12 : Vec Ideal S128x128 .f32) (v15 : Vec Ideal S1x128x128 .bf16) (x : S128x128.Idx) :
    k0_pay11 v4 v12 v15 x = ∑ t : Fin 128, v15 (ix3 0 t (x 0)) * (v4 (ix2 t (x 1)) * v12 (ix2 t (x 1))) := by
  pointwise [k0_pay11, k0_pay10, k0_pay9]

theorem pay_dw (v3 : Vec Ideal S128x128 .bf16) (v4 v12 : Vec Ideal S128x128 .f32) (v19 : Vec Ideal S1x128x128 .f32) (x : S1x128x128.Idx) :
    k0_pay12 v3 v4 v12 v19 x = v19 x + ∑ c : Fin 128, v4 (ix2 (x 1) c) * v12 (ix2 (x 1) c) * v3 (ix2 (x 2) c) := by
  pointwise [k0_pay12, k0_pay10, k0_pay9]

theorem pay_db (v4 v12 v26 : Vec Ideal S128x128 .f32) (x : S128x128.Idx) :
    k0_pay13 (k0_pay9 v4 v12) v26 x = v26 x + v4 x * v12 x := by
  pointwise [k0_pay13, k0_pay9]

theorem zero_dw (y : S16x128x128.Idx) : (k0_pay6 : FVec Ideal S16x128x128 .f32) y = 0 := by
  pointwise [k0_pay6]

theorem zero_db (y : S128x2048.Idx) : (k0_pay7 : FVec Ideal S128x2048 .f32) y = 0 := by
  pointwise [k0_pay7]

section
variable (x0 x1 : Vec Ideal S128x2048 .f32) (x2 : Vec Ideal S128x2048 .bf16) (x3 : Vec Ideal S16x128x128 .bf16) (x4 : Vec Ideal S128x2048 .f32)

/-- A group's part of the first result. -/
def duT (k : Fin 16) (y : S128x2048.Idx) : EReal := x0 y * (∑ s : Fin 128, x3 (ix3 k (y 0) s) * x2 (ix2 s (y 1)) + x4 y)

/-- A group's part of the second result. -/
def dvT (k : Fin 16) (y : S128x2048.Idx) : EReal := ∑ t : Fin 128, x3 (ix3 k t (y 0)) * (x0 (ix2 t (y 1)) * x1 (ix2 t (y 1)))

/-- A point's part of the biases' gradient. -/
def dbT (y : S128x2048.Idx) : EReal := x0 y * x1 y

/-- A point's part of the weights' gradient. -/
def dwT (y : S16x128x128.Idx) : EReal :=
  ∑ c : Fin 128, x0 (ix2 (y 1) ⟨(y 0).val * 128 + c.val, by have : (y 0).val < 16 := (y 0).isLt; omega⟩) * x1 (ix2 (y 1) ⟨(y 0).val * 128 + c.val, by have : (y 0).val < 16 := (y 0).isLt; omega⟩)
    * x2 (ix2 (y 2) ⟨(y 0).val * 128 + c.val, by have : (y 0).val < 16 := (y 0).isLt; omega⟩)

/-- A group's matrix at an index. -/
theorem ld_w {e : EltTy} (X : Vec Ideal S16x128x128 e) (g : ℕ) (hw) (k : Fin 16) (a b : Fin 128) (hk : k.val = g) :
    View.ld X (Rect.unit (s := S16x128x128) ![g, 0, 0] S1x128x128.size hw) (ix3 0 a b) = X (ix3 k a b) := by
  refine View.ld_unit_apply_of X _ _ hw _ _ fun i => ?_
  match i with
  | 0 => exact hk
  | 1 => exact (Nat.zero_add _).symm
  | 2 => exact (Nat.zero_add _).symm

/-- A group's columns at an index. -/
theorem ld_c {e : EltTy} (X : Vec Ideal S128x2048 e) (o : ℕ) (hv) (x : S128x128.Idx) (a : Fin 128) (q : Fin 2048) (ha : a = x 0) (hq : q.val = o + (x 1).val) :
    View.ld X (Rect.unit (s := S128x2048) ![0, o] S128x128.size hv) x = X (ix2 a q) :=
  View.ld_unit_apply_of X _ _ hv _ _ (Fin.forall_fin_two.2 ⟨by subst ha; exact (Nat.zero_add _).symm, hq⟩)

theorem group_du (g o : ℕ) (hw) (hv) (x : S128x128.Idx) (y : S128x2048.Idx) (k : Fin 16)
    (h0 : (y 0).val = 0 + (x 0).val) (h1 : (y 1).val = o + (x 1).val) (hk : k.val = g) :
    k0_pay8 (View.ld x2 (Rect.unit (s := S128x2048) ![0, o] S128x128.size hv)) (View.ld x0 (Rect.unit (s := S128x2048) ![0, o] S128x128.size hv))
      (View.ld x3 (Rect.unit (s := S16x128x128) ![g, 0, 0] S1x128x128.size hw)) (View.ld x4 (Rect.unit (s := S128x2048) ![0, o] S128x128.size hv)) x
      = duT x0 x2 x3 x4 k y := by
  have e0 : x 0 = y 0 := Fin.ext (by omega)
  refine (pay_du _ _ _ _ x).trans (congrArg₂ (· * ·) ?_ (congrArg₂ (· + ·) (Finset.sum_congr rfl fun s _ => congrArg₂ (· * ·) ?_ ?_) ?_))
  · exact View.ld_unit_apply_of x0 _ _ hv x y (Fin.forall_fin_two.2 ⟨h0, h1⟩)
  · rw [e0]; exact ld_w x3 g hw k _ _ hk
  · exact ld_c x2 o hv _ _ _ rfl h1
  · exact View.ld_unit_apply_of x4 _ _ hv x y (Fin.forall_fin_two.2 ⟨h0, h1⟩)

theorem group_dv (g o : ℕ) (hw) (hv) (x : S128x128.Idx) (y : S128x2048.Idx) (k : Fin 16)
    (h0 : (y 0).val = 0 + (x 0).val) (h1 : (y 1).val = o + (x 1).val) (hk : k.val = g) :
    k0_pay11 (View.ld x0 (Rect.unit (s := S128x2048) ![0, o] S128x128.size hv)) (View.ld x1 (Rect.unit (s := S128x2048) ![0, o] S128x128.size hv))
      (View.ld x3 (Rect.unit (s := S16x128x128) ![g, 0, 0] S1x128x128.size hw)) x
      = dvT x0 x1 x3 k y := by
  have e0 : x 0 = y 0 := Fin.ext (by omega)
  refine (pay_dv _ _ _ x).trans (Finset.sum_congr rfl fun s _ => congrArg₂ (· * ·) ?_ (congrArg₂ (· * ·) ?_ ?_))
  · rw [e0]; exact ld_w x3 g hw k _ _ hk
  · exact ld_c x0 o hv _ _ _ rfl h1
  · exact ld_c x1 o hv _ _ _ rfl h1

theorem group_dw (X : Vec Ideal S16x128x128 .f32) (g o : ℕ) (hw) (hv) (x : S1x128x128.Idx) (y : S16x128x128.Idx)
    (h0 : (y 0).val = g + (x 0).val) (h1 : (y 1).val = 0 + (x 1).val) (h2 : (y 2).val = 0 + (x 2).val) (ho : o = g * 128) :
    k0_pay12 (View.ld x2 (Rect.unit (s := S128x2048) ![0, o] S128x128.size hv)) (View.ld x0 (Rect.unit (s := S128x2048) ![0, o] S128x128.size hv))
      (View.ld x1 (Rect.unit (s := S128x2048) ![0, o] S128x128.size hv)) (View.ld X (Rect.unit (s := S16x128x128) ![g, 0, 0] S1x128x128.size hw)) x
      = X y + dwT x0 x1 x2 y := by
  have hx : (x 0).val < 1 := (x 0).isLt
  have e1 : x 1 = y 1 := Fin.ext (by omega)
  have e2 : x 2 = y 2 := Fin.ext (by omega)
  have hq : (y 0).val * 128 = o := by omega
  refine (pay_dw _ _ _ _ x).trans (congrArg₂ (· + ·) ?_ (Finset.sum_congr rfl fun c _ => congrArg₂ (· * ·) (congrArg₂ (· * ·) ?_ ?_) ?_))
  · refine View.ld_unit_apply_of X _ _ hw x y fun i => ?_
    match i with
    | 0 => exact h0
    | 1 => exact h1
    | 2 => exact h2
  · exact ld_c x0 o hv _ _ _ e1.symm (congrArg (· + c.val) hq)
  · exact ld_c x1 o hv _ _ _ e1.symm (congrArg (· + c.val) hq)
  · exact ld_c x2 o hv _ _ _ e2.symm (congrArg (· + c.val) hq)

theorem group_db (X : Vec Ideal S128x2048 .f32) (o : ℕ) (hv) (x : S128x128.Idx) (y : S128x2048.Idx)
    (h0 : (y 0).val = 0 + (x 0).val) (h1 : (y 1).val = o + (x 1).val) :
    k0_pay13 (k0_pay9 (View.ld x0 (Rect.unit (s := S128x2048) ![0, o] S128x128.size hv)) (View.ld x1 (Rect.unit (s := S128x2048) ![0, o] S128x128.size hv)))
      (View.ld X (Rect.unit (s := S128x2048) ![0, o] S128x128.size hv)) x = X y + dbT x0 x1 y := by
  refine (pay_db _ _ _ x).trans (congrArg₂ (· + ·) ?_ (congrArg₂ (· * ·) ?_ ?_))
  all_goals exact View.ld_unit_apply_of _ _ _ hv x y (Fin.forall_fin_two.2 ⟨h0, h1⟩)
end

/-- What a point leaves in the first result's block. -/
theorem point_du (c : Dev nD) (t : Fin cfg0.N) (y : S128x2048.Idx) (k : Fin 16) (hk : (y 1).val / 128 = k.val) : (outsAt0 m c t.val t.isLt).1 y
    = duT (iblk m c 0 t) (iblk m c 2 t) (iblk m c 3 t) (iblk m c 4 t) k y := by
  by_cases h : t.val % 32 = 0
  · rw [outsAt0_A m c t h]
    frame_out
    canon_tiles x hx
    all_goals (refine group_du (iblk m c 0 t) (iblk m c 2 t) (iblk m c 3 t) (iblk m c 4 t) _ _ _ _ x y k ?_ ?_ ?_ <;> omega)
  · rw [outsAt0_B m c t h]
    frame_out
    canon_tiles x hx
    all_goals (refine group_du (iblk m c 0 t) (iblk m c 2 t) (iblk m c 3 t) (iblk m c 4 t) _ _ _ _ x y k ?_ ?_ ?_ <;> omega)

/-- What a point leaves in the second result's block. -/
theorem point_dv (c : Dev nD) (t : Fin cfg0.N) (y : S128x2048.Idx) (k : Fin 16) (hk : (y 1).val / 128 = k.val) : (outsAt0 m c t.val t.isLt).2.1 y
    = dvT (iblk m c 0 t) (iblk m c 1 t) (iblk m c 3 t) k y := by
  by_cases h : t.val % 32 = 0
  · rw [outsAt0_A m c t h]
    frame_out
    canon_tiles x hx
    all_goals (refine group_dv (iblk m c 0 t) (iblk m c 1 t) (iblk m c 3 t) _ _ _ _ x y k ?_ ?_ ?_ <;> omega)
  · rw [outsAt0_B m c t h]
    frame_out
    canon_tiles x hx
    all_goals (refine group_dv (iblk m c 0 t) (iblk m c 1 t) (iblk m c 3 t) _ _ _ _ x y k ?_ ?_ ?_ <;> omega)

/-- What the third result's block holds after a point: the sum over the points so far. -/
theorem sums_dw (c : Dev nD) (y : S16x128x128.Idx) (t : ℕ) (h : t < cfg0.N) : (outsAt0 m c t h).2.2.1 y
    = ∑ s : Fin (t + 1), dwT (iblk m c 0 ⟨s.val, by omega⟩) (iblk m c 1 ⟨s.val, by omega⟩) (iblk m c 2 ⟨s.val, by omega⟩) y := by
  induction t with
  | zero =>
    rw [outsAt0_A m c ⟨0, h⟩ rfl, Fin.sum_univ_one]
    frame_open
    simp (disch := decide) only [↓ View.readCov_skip, ↓ View.readCov_cons_toLoadRect, ↓ View.readCov_fill]
    frame_out
    refine (canon_covered _ y [_, _, _, _, _, _, _, _, _, _, _, _, _, _, _, _] (View.cover_of_tiled_head _ _ _ (by rfl) y)).trans ?_
    refine Eq.trans ?_ (zero_add _)
    refine Eq.trans (b := k0_pay6 y + _) ?_ (congrArg (· + _) (zero_dw y))
    generalize (k0_pay6 (F := Ideal)) = X
    canon_tiles x hx
    all_goals (refine group_dw (iblk m c 0 ⟨0, h⟩) (iblk m c 1 ⟨0, h⟩) (iblk m c 2 ⟨0, h⟩) X _ _ _ _ x y ?_ ?_ ?_ ?_ <;> omega)
  | succ t ih =>
    have h32 : t + 1 < 32 := h
    rw [outsAt0_B m c ⟨t + 1, h⟩ (by simp only; omega), Fin.sum_univ_castSucc]
    frame_out
    refine Eq.trans ?_ (congrArg (· + _) (ih (by omega)))
    canon_tiles x hx
    all_goals (refine group_dw (iblk m c 0 ⟨t + 1, h⟩) (iblk m c 1 ⟨t + 1, h⟩) (iblk m c 2 ⟨t + 1, h⟩) (outsAt0 m c t (by omega)).2.2.1 _ _ _ _ x y ?_ ?_ ?_ ?_ <;> omega)

/-- What the fourth result's block holds after a point: the sum over the points so far. -/
theorem sums_db (c : Dev nD) (y : S128x2048.Idx) (t : ℕ) (h : t < cfg0.N) : (outsAt0 m c t h).2.2.2 y
    = ∑ s : Fin (t + 1), dbT (iblk m c 0 ⟨s.val, by omega⟩) (iblk m c 1 ⟨s.val, by omega⟩) y := by
  induction t with
  | zero =>
    rw [outsAt0_A m c ⟨0, h⟩ rfl, Fin.sum_univ_one]
    frame_open
    simp (disch := decide) only [↓ View.readCov_skip, ↓ View.readCov_cons_toLoadRect, ↓ View.readCov_fill]
    frame_out
    refine (canon_covered _ y [_, _, _, _, _, _, _, _, _, _, _, _, _, _, _, _] (View.cover_of_tiled_head _ _ _ (by rfl) y)).trans ?_
    refine Eq.trans ?_ (zero_add _)
    refine Eq.trans (b := k0_pay7 y + _) ?_ (congrArg (· + _) (zero_db y))
    generalize (k0_pay7 (F := Ideal)) = X
    canon_tiles x hx
    all_goals (refine group_db (iblk m c 0 ⟨0, h⟩) (iblk m c 1 ⟨0, h⟩) X _ _ x y ?_ ?_ <;> omega)
  | succ t ih =>
    have h32 : t + 1 < 32 := h
    rw [outsAt0_B m c ⟨t + 1, h⟩ (by simp only; omega), Fin.sum_univ_castSucc]
    frame_out
    refine Eq.trans ?_ (congrArg (· + _) (ih (by omega)))
    canon_tiles x hx
    all_goals (refine group_db (iblk m c 0 ⟨t + 1, h⟩) (iblk m c 1 ⟨t + 1, h⟩) (outsAt0 m c t (by omega)).2.2.2 _ _ x y ?_ ?_ <;> omega)

/-- The array the grid leaves in the first result. -/
theorem final5 (c : Dev nD) : (dats m 0 c).arrAt 5 (cfgs 0).N = duR (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hy : (y 1).val < 2048 := (y 1).isLt
  blk_simp
  rw [after0_5]
  refine (point_du m c t y ⟨(y 1).val / 128, by omega⟩ rfl).trans (Eq.trans ?_ (duR_at _ _ _ _ _ t.val ⟨(y 1).val / 128, by omega⟩ (y 0) t.isLt ?_ ?_).symm)
  · refine congrArg₂ (· * ·) ?_ (congrArg₂ (· + ·) (Finset.sum_congr rfl fun s _ => congrArg₂ (· * ·) ?_ ?_) ?_)
    all_goals blk_point [iblk, V, idx t]
  all_goals blk_simp [idx t]

/-- The array the grid leaves in the second result. -/
theorem final6 (c : Dev nD) : (dats m 0 c).arrAt 6 (cfgs 0).N = dvR (m ((c : Thread nD τ).loc main_arg0)) (m ((c : Thread nD τ).loc main_arg1)) (m ((c : Thread nD τ).loc main_arg3)) := by
  refine (dats m 0 c).arrAt_eq_of_covers 6 _ (by decide +kernel) fun t _ y => ?_
  have hy : (y 1).val < 2048 := (y 1).isLt
  blk_simp
  rw [after0_6]
  refine (point_dv m c t y ⟨(y 1).val / 128, by omega⟩ rfl).trans (Eq.trans ?_ (dvR_at _ _ _ _ t.val ⟨(y 1).val / 128, by omega⟩ (y 0) t.isLt ?_ ?_).symm)
  · refine Finset.sum_congr rfl fun s _ => congrArg₂ (· * ·) ?_ (congrArg₂ (· * ·) ?_ ?_)
    all_goals blk_point [iblk, V, idx t]
  all_goals blk_simp [idx t]

/-- The array the grid leaves in the third result. -/
theorem final7 (c : Dev nD) : (dats m 0 c).arrAt 7 (cfgs 0).N = dwR (m ((c : Thread nD τ).loc main_arg0)) (m ((c : Thread nD τ).loc main_arg1)) (m ((c : Thread nD τ).loc main_arg2)) := by
  refine (dats m 0 c).arrAt_eq_of_covers 7 _ (by decide +kernel) fun t hf y => ?_
  have h31 := (flush0_7 t).mp hf
  have h32 : t.val < 32 := t.isLt
  blk_simp
  rw [after0_7, sums_dw]
  refine Eq.trans (α := EReal) ?_ ((dwR_at (m ((c : Thread nD τ).loc main_arg0)) (m ((c : Thread nD τ).loc main_arg1)) (m ((c : Thread nD τ).loc main_arg2)) (y 0) (y 1) (y 2)).symm.trans ?_)
  · obtain rfl : t = ⟨31, by decide⟩ := Fin.ext (by simp only; omega)
    refine Finset.sum_congr rfl fun s _ => Finset.sum_congr rfl fun k _ => congrArg₂ (· * ·) (congrArg₂ (· * ·) ?_ ?_) ?_
    all_goals blk_point [iblk, V, idx ⟨s.val, by omega⟩]
  · blk_point [idx t]

/-- The array the grid leaves in the fourth result. -/
theorem final8 (c : Dev nD) : (dats m 0 c).arrAt 8 (cfgs 0).N = dbR (m ((c : Thread nD τ).loc main_arg0)) (m ((c : Thread nD τ).loc main_arg1)) := by
  refine (dats m 0 c).arrAt_eq_of_covers 8 _ (by decide +kernel) fun t hf y => ?_
  have h31 := (flush0_8 t).mp hf
  have h32 : t.val < 32 := t.isLt
  blk_simp
  rw [after0_8, sums_db]
  refine Eq.trans (α := EReal) ?_ ((dbR_at (m ((c : Thread nD τ).loc main_arg0)) (m ((c : Thread nD τ).loc main_arg1)) (y 0) (y 1)).symm.trans ?_)
  · obtain rfl : t = ⟨31, by decide⟩ := Fin.ext (by simp only; omega)
    refine Finset.sum_congr rfl fun s _ => congrArg₂ (· * ·) ?_ ?_
    all_goals blk_point [iblk, V, idx ⟨s.val, by omega⟩]
  · blk_point [idx t]

theorem algebraic : Cert.algebraic_Kernel27Ideal_Reference27Ideal := by
  pair_intro
  · run_from Cert.Kernel27Ideal.Gen.run_main m g
  · run_from ref_run m' g'
    · exact (final5 m c).symm
    · exact (final6 m c).symm
    · exact (final7 m c).symm
    · exact (final8 m c).symm

end Cert.Kernel27Ideal.Mix

end
-- ==== Proof.Rms.lean ====
module

public import Idealize.ShloMosaic.Lib.Pointwise

@[expose] public section

/-! The gradient of a row's normalisation, over the extended reals: the two orders of its operations agree, whatever the arguments. -/

noncomputable section

open Idealize.ShloMosaic

namespace Cert.Rms

/-- A row's mean square, with the small constant added. -/
abbrev ms (f : Fin 1024 → EReal) : EReal :=
  Ideal.div (∑ k, f k * f k) (Ideal.ofBits FTy.f32 0x44800000#32) + Ideal.ofBits FTy.f32 0x358637BD#32

theorem thousand : Ideal.ofBits FTy.f32 0x44800000#32 = ((1024 : ℝ) : EReal) := by
  simp [Ideal.ofBits, Ideal.ieee]
  rw [← EReal.coe_mul]
  congr 1
  norm_num

theorem small : ∃ e : ℝ, 0 < e ∧ Ideal.ofBits FTy.f32 0x358637BD#32 = (e : EReal) := by
  refine ⟨_, ?_, by simp [Ideal.ofBits, Ideal.ieee]; rfl⟩
  norm_num

theorem minus_half : Ideal.ofBits FTy.f32 0xBF000000#32 = ((-1 / 2 : ℝ) : EReal) := by
  simp [Ideal.ofBits, Ideal.ieee]
  rw [← EReal.coe_mul, ← EReal.coe_neg]
  congr 1
  norm_num

theorem sq_nonneg (x : EReal) : 0 ≤ x * x := by
  rcases le_total 0 x with h | h
  · exact EReal.mul_nonneg h h
  · exact EReal.mul_nonneg_iff.mpr (.inr ⟨h, h⟩)

/-- A mean square is positive. -/
theorem ms_pos (f : Fin 1024 → EReal) : 0 < ms f := by
  obtain ⟨e, he, h⟩ := small
  have hs : (0 : EReal) ≤ (∑ k, f k * f k) * ((1 / 1024 : ℝ) : EReal) :=
    EReal.mul_nonneg (Finset.sum_nonneg fun k _ => sq_nonneg (f k)) (EReal.coe_nonneg.mpr (by norm_num))
  unfold ms
  rw [thousand, Ideal.div_coe (by norm_num), h]
  calc (0 : EReal) < (e : EReal) := EReal.coe_pos.mpr he
    _ = 0 + e := (zero_add _).symm
    _ ≤ _ := add_le_add_left hs _

/-- The inverse root of a positive number: zero, or a positive real. -/
theorem root {V : EReal} (h : 0 < V) : (V = ⊤ ∧ Ideal.rsqrt V = 0) ∨ ∃ v r : ℝ, V = v ∧ Ideal.rsqrt V = r ∧ v ≠ 0 ∧ 0 < r ∧ r * r * v = 1 := by
  induction V with
  | bot => exact absurd h (by simp)
  | top => exact .inl ⟨rfl, rfl⟩
  | coe v =>
    have hv : 0 < v := EReal.coe_pos.mp h
    refine .inr ⟨v, (Real.sqrt v)⁻¹, rfl, ?_, hv.ne', inv_pos.mpr (Real.sqrt_pos.mpr hv), ?_⟩
    · rw [Ideal.rsqrt_coe, if_neg hv.le.not_gt, if_neg hv.ne']
    · rw [← mul_inv, Real.mul_self_sqrt hv.le, inv_mul_cancel₀ hv.ne']

/-- A real multiple, taken twice. -/
theorem twice (T : EReal) (a : ℝ) : T * (a : EReal) + T * (a : EReal) = T * ((2 * a : ℝ) : EReal) := by
  induction T with
  | coe t => rw [← EReal.coe_mul, ← EReal.coe_mul, ← EReal.coe_add]; congr 1; ring
  | top =>
    rcases lt_trichotomy a 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- A nonnegative real factor comes out of a sum. -/
theorem sum_mul_coe {n : ℕ} (f : Fin n → EReal) {r : ℝ} (h : 0 ≤ r) : ∑ k, f k * (r : EReal) = (∑ k, f k) * (r : EReal) := by
  induction n with
  | zero => simp
  | succ n ih =>
    rw [Fin.sum_univ_castSucc, Fin.sum_univ_castSucc, ih,
      EReal.right_distrib_of_nonneg_of_ne_top (EReal.coe_nonneg.mpr h) (EReal.coe_ne_top r)]

/-- The normalisation's gradient at one entry `X` of a row, `D` that of the normalised entry and `d` that of the row: the mean taken
    of the normalised row, and the gradient through the mean square added twice. -/
theorem grad (f d : Fin 1024 → EReal) (D X : EReal) :
    Ideal.rsqrt (ms f) * (D - X * Ideal.rsqrt (ms f)
        * Ideal.div (∑ k, d k * (f k * Ideal.rsqrt (ms f))) (Ideal.ofBits FTy.f32 0x44800000#32))
      = D * Ideal.rsqrt (ms f)
        + X * Ideal.div ((∑ k, f k * d k) * (Ideal.ofBits FTy.f32 0xBF000000#32 * Ideal.div (Ideal.rsqrt (ms f)) (ms f)))
            (Ideal.ofBits FTy.f32 0x44800000#32)
        + Ideal.div ((∑ k, f k * d k) * (Ideal.ofBits FTy.f32 0xBF000000#32 * Ideal.div (Ideal.rsqrt (ms f)) (ms f)))
            (Ideal.ofBits FTy.f32 0x44800000#32) * X := by
  have hV := ms_pos f
  generalize ms f = V at hV
  rw [thousand, minus_half]
  simp only [Ideal.div_coe (show (1024 : ℝ) ≠ 0 by norm_num)]
  rcases root hV with ⟨h, hr⟩ | ⟨v, r, h, hr, hv, hp, e⟩
  · have hd : Ideal.div (0 : EReal) ⊤ = 0 := by simp [Ideal.div]
    rw [hr, h, hd]
    simp
  · rw [hr, h, Ideal.div_coe hv]
    have hs : ∑ k, d k * (f k * (r : EReal)) = (∑ k, f k * d k) * (r : EReal) := by
      rw [← sum_mul_coe _ hp.le]
      exact Finset.sum_congr rfl fun k _ => by rw [mul_left_comm, ← mul_assoc]
    rw [hs]
    generalize ∑ k, f k * d k = S
    rw [sub_eq_add_neg, EReal.left_distrib_of_nonneg_of_ne_top (EReal.coe_nonneg.mpr hp.le) (EReal.coe_ne_top r), mul_comm D, add_assoc]
    congr 1
    have e1 : X * (S * (((-1 / 2 : ℝ) : EReal) * ((r : EReal) * ((1 / v : ℝ) : EReal))) * ((1 / 1024 : ℝ) : EReal))
        = X * S * ((-1 / 2 * (r * (1 / v)) * (1 / 1024) : ℝ) : EReal) := by
      push_cast
      ac_rfl
    have e2 : (r : EReal) * -(X * (r : EReal) * (S * (r : EReal) * ((1 / 1024 : ℝ) : EReal)))
        = X * S * ((-(r * r * r * (1 / 1024)) : ℝ) : EReal) := by
      push_cast
      rw [mul_neg, mul_neg]
      congr 1
      ac_rfl
    rw [mul_comm _ X, e1, e2, twice]
    congr 2
    have : 1 / v = r * r := by field_simp; linarith
    rw [this]
    ring

end Cert.Rms

end
-- ==== Proof.Norm.lean ====
module

public import proofs.«01_k».proof.Defs
public import proofs.«01_k».proof.Proof.Quiet
public import proofs.«01_k».proof.Proof.Rms
public import proofs.«01_k».proof.Proof.Gen.Kernel28Ideal
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29Ideal
public import proofs.«01_k».proof.Proof.Gen.Reference29Ideal
public import proofs.«01_k».proof.Proof.Gen.Kernel29Ideal.Value
public import proofs.«01_k».proof.Proof.Gen.Reference29Ideal.Run
public import Idealize.ShloMosaic.Lib.Pipeline.ValueKit
public import Idealize.ShloMosaic.Lib.Pointwise
public import Idealize.ShloMosaic.Lib.Claim

@[expose] public section

/-!
The normalisation of a row by its root mean square: forward, and its gradients with the residual's added.
-/

set_option maxRecDepth 16384

noncomputable section

open Idealize.ShloMosaic Idealize.ShloMosaic.TcCoe Idealize.SL.Sem
open Idealize.ShloMosaic.Pipeline (Dat)

namespace Cert.Kernel29Ideal.Norm

open Cert.Kernel29Ideal Cert.Kernel29Ideal.Gen

/-- Where the windows' blocks sit at each point. -/
theorem idx : ∀ t : Fin cfg0.N, win0_0.index t = ![t.val, 0] ∧ win0_1.index t = ![0, 0]
    ∧ win0_2.index t = ![t.val, 0] :=
  (by decide +kernel : ∀ t : Fin grid0.N, _)

theorem frame_ref : Cert.quiescent_Reference29Ideal := fun m ρ _ =>
  quiet_of_run (by decide) (Cert.Reference29Ideal.Value.run (F := Ideal) m ρ) fun _ _ h => h.2

theorem algebraic : Cert.algebraic_Kernel29Ideal_Reference29Ideal := by
  pair_intro
  · run_from Cert.Kernel29Ideal.Gen.run_main m g
  · run_from Cert.Reference29Ideal.Value.run (F := Ideal) m' g'
    refine ((dats m 0 c).arrAt_eq_of_covers 2 _ (by decide +kernel) fun t _ y => ?_).symm
    blk_simp
    rw [after0_2]
    frame_out
    pointwise [k0_pay1]
    blk_point [iblk, V, idx t]

end Cert.Kernel29Ideal.Norm

namespace Cert.Kernel28Ideal.Norm

open Cert.Kernel28Ideal Cert.Kernel28Ideal.Gen Cert.Rms

variable (m : (ℓ : Loc nD τ sig) → Buf (Elt Ideal) ℓ)

section
open Cert.Reference28Ideal Cert.Reference28Ideal.Gen
variable (x dy dres : FVec Ideal S4096x1024 .f32) (g : FVec Ideal S1x1024 .f32)

/-- A number in every row. -/
abbrev rowR (b : BitVec 32) : FVec Ideal S4096x1 .f32 := broadcastInDim S4096x1 ![] bcast_S_S4096x1 (constant S_ .f32 b)

/-- The rows' mean squares, with the small constant added. -/
abbrev meanR : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (rowR 0x44800000#32)) (rowR 0x358637BD#32)

/-- The gradient of the normalised row. -/
abbrev inR : FVec Ideal S4096x1024 .f32 := mulf dy (broadcastInDim S4096x1024 ![0, 1] bcast_S1x1024_S4096x1024_0_1 g)

/-- The gradient through the mean square. -/
abbrev meanGradR : FVec Ideal S4096x1024 .f32 :=
  broadcastInDim S4096x1024 ![0] bcast_S4096_S4096x1024_0 (Host.reduceAdd (Host.divf (mulf (shapeCast _ (Host.reduceAdd (mulf x (inR dy g)) (constant S_ .f32 0x00000000#32) reducesTo_S4096x1024_S4096_d1 h_S_) shapeCasts_S4096_S4096x1) (mulf (rowR 0xBF000000#32) (Host.divf (Host.rsqrt (meanR x)) (meanR x)))) (rowR 0x44800000#32)) (constant S_ .f32 0x00000000#32) reducesTo_S4096x1_S4096_d1 h_S_)

/-- The reference's first result. -/
def dxR : FVec Ideal S4096x1024 .f32 :=
  addf dres (addf (addf (mulf (inR dy g) (broadcastInDim S4096x1024 ![0, 1] bcast_S4096x1_S4096x1024_0_1 (Host.rsqrt (meanR x)))) (mulf x (meanGradR x dy g))) (mulf (meanGradR x dy g) x))

/-- The reference's third result. -/
def dgR : FVec Ideal S1x1024 .f32 :=
  shapeCast _ (Host.reduceAdd (mulf (mulf x (broadcastInDim S4096x1024 ![0, 1] bcast_S4096x1_S4096x1024_0_1 (Host.rsqrt (meanR x)))) dy) (constant S_ .f32 0x00000000#32) reducesTo_S4096x1024_S1024_d0 h_S_) Cert.Reference28Ideal.Gen.shapeCasts_S1024_S1x1024

/-- The first result at an index, in the order in which the points compute it. -/
theorem dxR_at (j : S4096x1024.Idx) : dxR x dy dres g j = dres j + Ideal.rsqrt (ms fun k => x (ix2 (j 0) k))
    * (dy j * g (ix2 0 (j 1)) - x j * Ideal.rsqrt (ms fun k => x (ix2 (j 0) k))
      * Ideal.div (∑ k, dy (ix2 (j 0) k) * g (ix2 0 k) * (x (ix2 (j 0) k) * Ideal.rsqrt (ms fun k => x (ix2 (j 0) k))))
        (Ideal.ofBits FTy.f32 0x44800000#32)) := by
  rw [grad (fun k => x (ix2 (j 0) k)) fun k => dy (ix2 (j 0) k) * g (ix2 0 k)]
  pointwise [dxR]
  rw [Fin.sum_univ_one]

theorem dgR_at (j : S1x1024.Idx) : dgR x dy j
    = ∑ i : Fin 4096, dy (ix2 i (j 1)) * (x (ix2 i (j 1)) * Ideal.rsqrt (ms fun k => x (ix2 i k))) := by
  pointwise [dgR]
  exact Finset.sum_congr rfl fun i _ => mul_comm _ _
end

theorem pay_dx (v0 : Vec Ideal S512x1024 .f32) (v1 : Vec Ideal S1x1024 .f32) (v2 v3 : Vec Ideal S512x1024 .f32) (j : S512x1024.Idx) :
    k0_pay4 v0 v1 v2 v3 j = v3 j + Ideal.rsqrt (ms fun k => v0 (ix2 (j 0) k))
      * (v2 j * v1 (ix2 0 (j 1)) - v0 j * Ideal.rsqrt (ms fun k => v0 (ix2 (j 0) k))
        * Ideal.div (∑ k, v2 (ix2 (j 0) k) * v1 (ix2 0 k) * (v0 (ix2 (j 0) k) * Ideal.rsqrt (ms fun k => v0 (ix2 (j 0) k))))
          (Ideal.ofBits FTy.f32 0x44800000#32)) := by
  pointwise [k0_pay4, k0_pay3, k0_pay2]

theorem pay_dg (v0 v2 : Vec Ideal S512x1024 .f32) (j : S1x1024.Idx) : k0_pay5 v0 v2 j
    = ∑ i : Fin 512, v2 (ix2 i (j 1)) * (v0 (ix2 i (j 1)) * Ideal.rsqrt (ms fun k => v0 (ix2 i k))) := by
  pointwise [k0_pay5, k0_pay3, k0_pay2]

/-- Where the windows' blocks sit at each point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)

/-- What a point leaves in the blocks of the first two results. -/
theorem rows (c : Dev nD) (t : Fin cfg0.N) :
    (outsAt0 m c t.val t.isLt).1 = k0_pay4 (iblk m c 0 t) (iblk m c 1 t) (iblk m c 2 t) (iblk m c 3 t)
    ∧ (outsAt0 m c t.val t.isLt).2.1 = k0_pay6 (iblk m c 0 t) (iblk m c 1 t) (iblk m c 2 t) (iblk m c 3 t) := by
  by_cases h : t.val % 8 = 0
  · rw [outsAt0_A m c t h]
    constructor
    all_goals frame_out
  · rw [outsAt0_B m c t h]
    constructor
    all_goals frame_out

/-- What the third result's block holds after a point: the sum over the points so far. -/
theorem sums (c : Dev nD) (j : S1x1024.Idx) (t : ℕ) (h : t < cfg0.N) : (outsAt0 m c t h).2.2 j
    = ∑ s : Fin (t + 1), k0_pay5 (iblk m c 0 ⟨s.val, by omega⟩) (iblk m c 2 ⟨s.val, by omega⟩) j := by
  induction t with
  | zero =>
    rw [outsAt0_A m c ⟨0, h⟩ rfl, Fin.sum_univ_one]
    frame_out
    pointwise [k0_pay1, k0_pay7]
  | succ t ih =>
    have h8 : t + 1 < 8 := h
    rw [outsAt0_B m c ⟨t + 1, h⟩ (by simp only; omega), Fin.sum_univ_castSucc]
    frame_out
    pointwise [k0_pay1]
    exact congrArg (· + _) (ih (by omega))

/-- A buffer of the reference's. -/
abbrev refAt (c : Dev Cert.Reference28Ideal.nD) (b : Ref Cert.Reference28Ideal.sig .tc) : Loc Cert.Reference28Ideal.nD Cert.Reference28Ideal.τ Cert.Reference28Ideal.sig :=
  (c.tc : Thread Cert.Reference28Ideal.nD Cert.Reference28Ideal.τ).loc b

/-- The reference's run, its results by their names above. -/
theorem ref_run (m : (ℓ : Loc Cert.Reference28Ideal.nD Cert.Reference28Ideal.τ Cert.Reference28Ideal.sig) → Buf (Elt Ideal) ℓ)
    (ρ : Dev Cert.Reference28Ideal.nD → PrngReg) :
    θ_run Cert.Reference28Ideal.defs (onTc (τ := Cert.Reference28Ideal.τ) (Cert.Reference28Ideal.main (F := Ideal))) ⟨m, fun _ => 0, ρ⟩ fun r => ∀ c : Dev Cert.Reference28Ideal.nD,
      r.2.mem (refAt c Cert.Reference28Ideal.main_v34)
        = dxR (m (refAt c Cert.Reference28Ideal.main_arg0)) (m (refAt c Cert.Reference28Ideal.main_arg2)) (m (refAt c Cert.Reference28Ideal.main_arg3)) (m (refAt c Cert.Reference28Ideal.main_arg1))
      ∧ r.2.mem (refAt c Cert.Reference28Ideal.main_v36)
        = truncf .bf16 (dxR (m (refAt c Cert.Reference28Ideal.main_arg0)) (m (refAt c Cert.Reference28Ideal.main_arg2)) (m (refAt c Cert.Reference28Ideal.main_arg3)) (m (refAt c Cert.Reference28Ideal.main_arg1))) Cert.Reference28Ideal.Gen.bitsLt_bf16_f32
      ∧ r.2.mem (refAt c Cert.Reference28Ideal.main_v17)
        = dgR (m (refAt c Cert.Reference28Ideal.main_arg0)) (m (refAt c Cert.Reference28Ideal.main_arg2))
      ∧ r.2.mem (refAt c Cert.Reference28Ideal.main_arg0) = m (refAt c Cert.Reference28Ideal.main_arg0)
      ∧ r.2.mem (refAt c Cert.Reference28Ideal.main_arg1) = m (refAt c Cert.Reference28Ideal.main_arg1)
      ∧ r.2.mem (refAt c Cert.Reference28Ideal.main_arg2) = m (refAt c Cert.Reference28Ideal.main_arg2)
      ∧ r.2.mem (refAt c Cert.Reference28Ideal.main_arg3) = m (refAt c Cert.Reference28Ideal.main_arg3) := by
  unfold dxR dgR
  exact Cert.Reference28Ideal.Value.run (F := Ideal) m ρ

theorem frame_ref : Cert.quiescent_Reference28Ideal := fun m ρ _ =>
  quiet_of_run (by decide) (ref_run m ρ) fun _ _ h => h.2.2.2

/-- The array the grid leaves in the first result. -/
theorem final4 (c : Dev nD) : (dats m 0 c).arrAt 4 (cfgs 0).N
    = dxR (m ((c : Thread nD τ).loc main_arg0)) (m ((c : Thread nD τ).loc main_arg2)) (m ((c : Thread nD τ).loc main_arg3)) (m ((c : Thread nD τ).loc main_arg1)) := by
  refine (dats m 0 c).arrAt_eq_of_covers 4 _ (by decide +kernel) fun t _ y => ?_
  blk_simp
  rw [after0_4, (rows m c t).1, pay_dx, dxR_at]
  blk_point [iblk, V, idx t]

/-- The array the grid leaves in the second result. -/
theorem final5 (c : Dev nD) : (dats m 0 c).arrAt 5 (cfgs 0).N
    = truncf .bf16 (dxR (m ((c : Thread nD τ).loc main_arg0)) (m ((c : Thread nD τ).loc main_arg2)) (m ((c : Thread nD τ).loc main_arg3)) (m ((c : Thread nD τ).loc main_arg1))) Cert.Reference28Ideal.Gen.bitsLt_bf16_f32 := by
  refine (dats m 0 c).arrAt_eq_of_covers 5 _ (by decide +kernel) fun t _ y => ?_
  blk_simp
  rw [after0_5, (rows m c t).2]
  refine (pay_dx _ _ _ _ _).trans (Eq.trans ?_ (dxR_at _ _ _ _ _).symm)
  blk_point [iblk, V, idx t]

/-- The array the grid leaves in the third result. -/
theorem final6 (c : Dev nD) : (dats m 0 c).arrAt 6 (cfgs 0).N
    = dgR (m ((c : Thread nD τ).loc main_arg0)) (m ((c : Thread nD τ).loc main_arg2)) := by
  refine (dats m 0 c).arrAt_eq_of_covers 6 _ (by decide +kernel) fun t hf y => ?_
  have h7 := (flush0_6 t).mp hf
  blk_simp
  rw [after0_6, sums, dgR_at]
  simp only [pay_dg]
  have h8 : t.val < 8 := t.isLt
  refine Fin.sum_mul_add_congr (fun s k hl => ?_) (by omega)
  blk_point [iblk, V, idx t, idx ⟨s.val, by omega⟩]

theorem algebraic : Cert.algebraic_Kernel28Ideal_Reference28Ideal := by
  pair_intro
  · run_from Cert.Kernel28Ideal.Gen.run_main m g
  · run_from ref_run m' g'
    · exact (final4 m c).symm
    · exact (final5 m c).symm
    · exact (final6 m c).symm

end Cert.Kernel28Ideal.Norm

end
-- ==== Proof.Loss.lean ====
module

public import proofs.«01_k».proof.Defs
public import proofs.«01_k».proof.Proof.Rms
public import proofs.«01_k».proof.Proof.Quiet
public import proofs.«01_k».proof.Proof.Gen.Kernel33Ideal
public import proofs.«01_k».proof.Proof.Gen.Reference33Ideal
public import proofs.«01_k».proof.Proof.Gen.Kernel33Ideal.Value
public import proofs.«01_k».proof.Proof.Gen.Reference33Ideal.Run
public import proofs.«01_k».proof.Proof.Gen.Kernel34Ideal
public import proofs.«01_k».proof.Proof.Gen.Reference34Ideal
public import proofs.«01_k».proof.Proof.Gen.Kernel34Ideal.Value
public import proofs.«01_k».proof.Proof.Gen.Reference34Ideal.Run
public import Idealize.ShloMosaic.Lib.Pipeline.ValueKit
public import Idealize.ShloMosaic.Lib.Pointwise
public import Idealize.ShloMosaic.Lib.Claim

@[expose] public section

/-!
The loss with its gradient, and the optimiser's step for one weight.
-/

set_option maxRecDepth 16384

noncomputable section

open Idealize.ShloMosaic Idealize.ShloMosaic.TcCoe Idealize.SL.Sem
open Idealize.ShloMosaic.Pipeline (Dat)

namespace Cert.Kernel33Ideal.Loss

open Cert.Kernel33Ideal Cert.Kernel33Ideal.Gen Cert.Rms

theorem half : Ideal.ofBits FTy.f32 0x3F000000#32 = ((1 / 2 : ℝ) : EReal) := by
  simp [Ideal.ofBits, Ideal.ieee]
  rw [← EReal.coe_mul]
  congr 1
  norm_num

theorem one : Ideal.ofBits FTy.f32 0x3F800000#32 = ((1 : ℝ) : EReal) := by
  simp [Ideal.ofBits, Ideal.ieee]
  rw [← EReal.coe_mul, ← EReal.coe_one]
  congr 1
  norm_num

theorem two : Ideal.ofBits FTy.f32 0x40000000#32 = ((2 : ℝ) : EReal) := by
  simp [Ideal.ofBits, Ideal.ieee]
  rw [← EReal.coe_mul]
  congr 1
  norm_num

theorem part : Ideal.ofBits FTy.f32 0x3A000000#32 = ((1 / 2048 : ℝ) : EReal) := by
  simp [Ideal.ofBits, Ideal.ieee]
  rw [← EReal.coe_mul]
  congr 1
  norm_num

theorem thousandth : Ideal.ofBits FTy.f32 0x3A800000#32 = ((1 / 1024 : ℝ) : EReal) := by
  simp [Ideal.ofBits, Ideal.ieee]
  rw [← EReal.coe_mul]
  congr 1
  norm_num

/-- The slope at an entry `d`: half of twice `d`, over the entries of a row. -/
theorem slope (d : EReal) :
    Ideal.div (Ideal.ofBits FTy.f32 0x3F000000#32 * Ideal.ofBits FTy.f32 0x3F800000#32) (Ideal.ofBits FTy.f32 0x44800000#32)
      * (Ideal.ofBits FTy.f32 0x40000000#32 * d) = d * Ideal.ofBits FTy.f32 0x3A800000#32 := by
  rw [half, one, two, thousand, thousandth, Ideal.div_coe (by norm_num), ← mul_assoc, mul_comm _ d,
    ← EReal.coe_mul, ← EReal.coe_mul, ← EReal.coe_mul]
  congr 2
  norm_num

/-- A difference's square. -/
abbrev sqr (a b : EReal) : EReal := (a - b) * (a - b)

/-- Half the sum of the rows' means. -/
theorem halves {n : ℕ} (f : Fin n → EReal) :
    Ideal.ofBits FTy.f32 0x3F000000#32 * ∑ i, Ideal.div (f i) (Ideal.ofBits FTy.f32 0x44800000#32)
      = ∑ i, f i * ((1 / 2048 : ℝ) : EReal) := by
  rw [half, thousand, mul_comm, ← sum_mul_coe _ (by norm_num)]
  refine Finset.sum_congr rfl fun i _ => ?_
  rw [Ideal.div_coe (by norm_num), mul_assoc, ← EReal.coe_mul]
  congr 2
  norm_num

/-- The sum over the columns first, and the factor outside. -/
theorem parts {n k : ℕ} (f : Fin n → Fin k → EReal) :
    (∑ j, ∑ i, f i j) * Ideal.ofBits FTy.f32 0x3A000000#32 = ∑ i, (∑ j, f i j) * ((1 / 2048 : ℝ) : EReal) := by
  rw [part, Finset.sum_comm, sum_mul_coe _ (by norm_num)]

variable (m : (ℓ : Loc nD τ sig) → Buf (Elt Ideal) ℓ)

section
open Cert.Reference33Ideal Cert.Reference33Ideal.Gen
variable (p q : FVec Ideal S4096x1024 .f32)

/-- The reference's loss, in every entry. -/
def lossR : FVec Ideal S8x128 .f32 :=
  broadcastInDim S8x128 ![] bcast_S_S8x128 (mulf (constant S_ .f32 0x3F000000#32) (Host.reduceAdd (Host.divf (Host.reduceAdd (mulf (subf p q) (subf p q)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- The reference's slope. -/
def slopeR : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf p q))

theorem slopeR_at (j : S4096x1024.Idx) : slopeR p q j = (p j - q j) * Ideal.ofBits FTy.f32 0x3A800000#32 := by
  rw [← slope]
  pointwise [slopeR]

theorem lossR_at (j : S8x128.Idx) : lossR p q j
    = ∑ i : Fin 4096, (∑ k : Fin 1024, sqr (p (ix2 i k)) (q (ix2 i k))) * ((1 / 2048 : ℝ) : EReal) := by
  rw [← halves]
  pointwise [lossR]
end

theorem pay_slope (v0 v1 : Vec Ideal S1024x1024 .f32) (j : S1024x1024.Idx) :
    k0_pay2 v0 v1 j = (v0 j - v1 j) * Ideal.ofBits FTy.f32 0x3A800000#32 := by
  pointwise [k0_pay2, k0_pay1]

/-- What a point adds to the loss. -/
def add (v0 v1 : Vec Ideal S1024x1024 .f32) : EReal :=
  ∑ i : Fin 1024, (∑ k : Fin 1024, sqr (v0 (ix2 i k)) (v1 (ix2 i k))) * ((1 / 2048 : ℝ) : EReal)

theorem pay_loss (v0 v1 : Vec Ideal S1024x1024 .f32) (a : Vec Ideal S8x128 .f32) (j : S8x128.Idx) :
    k0_pay5 v0 v1 a j = a j + add v0 v1 := by
  rw [add, ← parts fun i k => sqr (v0 (ix2 i k)) (v1 (ix2 i k))]
  pointwise [k0_pay5, k0_pay1]

/-- Where the windows' blocks sit at each point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] :=
  (by decide +kernel : ∀ t : Fin grid0.N, _)

/-- What a point leaves in the blocks of the slope. -/
theorem rows (c : Dev nD) (t : Fin cfg0.N) :
    (outsAt0 m c t.val t.isLt).1 = k0_pay2 (iblk m c 0 t) (iblk m c 1 t)
    ∧ (outsAt0 m c t.val t.isLt).2.1 = k0_pay3 (iblk m c 0 t) (iblk m c 1 t) := by
  by_cases h : t.val % 4 = 0
  · rw [outsAt0_A m c t h]
    constructor
    all_goals frame_out
  · rw [outsAt0_B m c t h]
    constructor
    all_goals frame_out

/-- What the loss's block holds after a point: the sum over the points so far. -/
theorem sums (c : Dev nD) (j : S8x128.Idx) (t : ℕ) (h : t < cfg0.N) : (outsAt0 m c t h).2.2 j
    = ∑ s : Fin (t + 1), add (iblk m c 0 ⟨s.val, by omega⟩) (iblk m c 1 ⟨s.val, by omega⟩) := by
  induction t with
  | zero =>
    rw [outsAt0_A m c ⟨0, h⟩ rfl, Fin.sum_univ_one]
    frame_out
    rw [pay_loss]
    pointwise [k0_pay4]
  | succ t ih =>
    have h4 : t + 1 < 4 := h
    rw [outsAt0_B m c ⟨t + 1, h⟩ (by simp only; omega), Fin.sum_univ_castSucc]
    frame_out
    rw [pay_loss]
    exact congrArg (· + _) (ih (by omega))

/-- A buffer of the reference's. -/
abbrev refAt (c : Dev Cert.Reference33Ideal.nD) (b : Ref Cert.Reference33Ideal.sig .tc) : Loc Cert.Reference33Ideal.nD Cert.Reference33Ideal.τ Cert.Reference33Ideal.sig :=
  (c.tc : Thread Cert.Reference33Ideal.nD Cert.Reference33Ideal.τ).loc b

/-- The reference's run, its results by their names above. -/
theorem ref_run (m : (ℓ : Loc Cert.Reference33Ideal.nD Cert.Reference33Ideal.τ Cert.Reference33Ideal.sig) → Buf (Elt Ideal) ℓ)
    (ρ : Dev Cert.Reference33Ideal.nD → PrngReg) :
    θ_run Cert.Reference33Ideal.defs (onTc (τ := Cert.Reference33Ideal.τ) (Cert.Reference33Ideal.main (F := Ideal))) ⟨m, fun _ => 0, ρ⟩ fun r => ∀ c : Dev Cert.Reference33Ideal.nD,
      r.2.mem (refAt c Cert.Reference33Ideal.main_v15)
        = lossR (m (refAt c Cert.Reference33Ideal.main_arg0)) (m (refAt c Cert.Reference33Ideal.main_arg1))
      ∧ r.2.mem (refAt c Cert.Reference33Ideal.main_v14)
        = slopeR (m (refAt c Cert.Reference33Ideal.main_arg0)) (m (refAt c Cert.Reference33Ideal.main_arg1))
      ∧ r.2.mem (refAt c Cert.Reference33Ideal.main_v16)
        = truncf .bf16 (slopeR (m (refAt c Cert.Reference33Ideal.main_arg0)) (m (refAt c Cert.Reference33Ideal.main_arg1))) Cert.Reference33Ideal.Gen.bitsLt_bf16_f32
      ∧ r.2.mem (refAt c Cert.Reference33Ideal.main_arg0) = m (refAt c Cert.Reference33Ideal.main_arg0)
      ∧ r.2.mem (refAt c Cert.Reference33Ideal.main_arg1) = m (refAt c Cert.Reference33Ideal.main_arg1) := by
  unfold lossR slopeR
  exact Cert.Reference33Ideal.Value.run (F := Ideal) m ρ

theorem frame_ref : Cert.quiescent_Reference33Ideal := fun m ρ _ =>
  quiet_of_run (by decide) (ref_run m ρ) fun _ _ h => h.2.2.2

/-- The array the grid leaves in the slope. -/
theorem final2 (c : Dev nD) : (dats m 0 c).arrAt 2 (cfgs 0).N
    = slopeR (m ((c : Thread nD τ).loc main_arg0)) (m ((c : Thread nD τ).loc main_arg1)) := by
  refine (dats m 0 c).arrAt_eq_of_covers 2 _ (by decide +kernel) fun t _ y => ?_
  blk_simp
  rw [after0_2, (rows m c t).1, pay_slope, slopeR_at]
  blk_point [iblk, V, idx t]

/-- The array the grid leaves in the rounded slope. -/
theorem final3 (c : Dev nD) : (dats m 0 c).arrAt 3 (cfgs 0).N
    = truncf .bf16 (slopeR (m ((c : Thread nD τ).loc main_arg0)) (m ((c : Thread nD τ).loc main_arg1))) Cert.Reference33Ideal.Gen.bitsLt_bf16_f32 := by
  refine (dats m 0 c).arrAt_eq_of_covers 3 _ (by decide +kernel) fun t _ y => ?_
  blk_simp
  rw [after0_3, (rows m c t).2]
  refine (pay_slope _ _ _).trans (Eq.trans ?_ (slopeR_at _ _ _).symm)
  blk_point [iblk, V, idx t]

/-- The array the grid leaves in the loss. -/
theorem final4 (c : Dev nD) : (dats m 0 c).arrAt 4 (cfgs 0).N
    = lossR (m ((c : Thread nD τ).loc main_arg0)) (m ((c : Thread nD τ).loc main_arg1)) := by
  refine (dats m 0 c).arrAt_eq_of_covers 4 _ (by decide +kernel) fun t hf y => ?_
  have h3 := (flush0_4 t).mp hf
  blk_simp
  rw [after0_4, sums, lossR_at]
  simp only [add]
  have h4 : t.val < 4 := t.isLt
  refine Fin.sum_mul_add_congr (fun s k hl => ?_) (by omega)
  blk_point [iblk, V, idx ⟨s.val, by omega⟩]

theorem algebraic : Cert.algebraic_Kernel33Ideal_Reference33Ideal := by
  pair_intro
  · run_from Cert.Kernel33Ideal.Gen.run_main m g
  · run_from ref_run m' g'
    · exact (final4 m c).symm
    · exact (final2 m c).symm
    · exact (final3 m c).symm

end Cert.Kernel33Ideal.Loss

namespace Cert.Kernel34Ideal.Adam

open Cert.Kernel34Ideal Cert.Kernel34Ideal.Gen

variable (m : (ℓ : Loc nD τ sig) → Buf (Elt Ideal) ℓ)

section
open Cert.Reference34Ideal Cert.Reference34Ideal.Gen
variable (w g u v : FVec Ideal S2048x256 .f32)

/-- A number in every entry. -/
abbrev fillR (b : BitVec 32) : FVec Ideal S2048x256 .f32 := broadcastInDim S2048x256 ![] bcast_S_S2048x256 (constant S_ .f32 b)

/-- The reference's first moment after the step. -/
def firstR : FVec Ideal S2048x256 .f32 := addf (mulf (fillR 0x3F666666#32) u) (mulf (fillR 0x3DCCCCCD#32) g)

/-- The reference's second moment after the step. -/
def secondR : FVec Ideal S2048x256 .f32 := addf (mulf (fillR 0x3F7FBE77#32) v) (mulf (fillR 0x3A83126F#32) (mulf g g))

/-- The reference's step. -/
def stepR : FVec Ideal S2048x256 .f32 :=
  mulf (fillR 0xBA83126F#32) (addf (Host.divf (Host.divf (firstR g u) (fillR 0x3F26BD02#32))
    (addf (Host.sqrt (Host.divf (secondR g v) (fillR 0x3C231ACC#32))) (fillR 0x322BCC77#32))) (mulf (fillR 0x3C23D70A#32) w))
end

/-- Where the windows' blocks sit at each point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- A buffer of the reference's. -/
abbrev refAt (c : Dev Cert.Reference34Ideal.nD) (b : Ref Cert.Reference34Ideal.sig .tc) : Loc Cert.Reference34Ideal.nD Cert.Reference34Ideal.τ Cert.Reference34Ideal.sig :=
  (c.tc : Thread Cert.Reference34Ideal.nD Cert.Reference34Ideal.τ).loc b

/-- The reference's run, its results by their names above. -/
theorem ref_run (m : (ℓ : Loc Cert.Reference34Ideal.nD Cert.Reference34Ideal.τ Cert.Reference34Ideal.sig) → Buf (Elt Ideal) ℓ)
    (ρ : Dev Cert.Reference34Ideal.nD → PrngReg) :
    θ_run Cert.Reference34Ideal.defs (onTc (τ := Cert.Reference34Ideal.τ) (Cert.Reference34Ideal.main (F := Ideal))) ⟨m, fun _ => 0, ρ⟩ fun r => ∀ c : Dev Cert.Reference34Ideal.nD,
      r.2.mem (refAt c Cert.Reference34Ideal.main_v23) = stepR (m (refAt c Cert.Reference34Ideal.main_arg0))
          (m (refAt c Cert.Reference34Ideal.main_arg1)) (m (refAt c Cert.Reference34Ideal.main_arg2)) (m (refAt c Cert.Reference34Ideal.main_arg3))
      ∧ r.2.mem (refAt c Cert.Reference34Ideal.main_v4)
        = firstR (m (refAt c Cert.Reference34Ideal.main_arg1)) (m (refAt c Cert.Reference34Ideal.main_arg2))
      ∧ r.2.mem (refAt c Cert.Reference34Ideal.main_v10)
        = secondR (m (refAt c Cert.Reference34Ideal.main_arg1)) (m (refAt c Cert.Reference34Ideal.main_arg3))
      ∧ r.2.mem (refAt c Cert.Reference34Ideal.main_arg1) = m (refAt c Cert.Reference34Ideal.main_arg1)
      ∧ r.2.mem (refAt c Cert.Reference34Ideal.main_arg0) = m (refAt c Cert.Reference34Ideal.main_arg0)
      ∧ r.2.mem (refAt c Cert.Reference34Ideal.main_arg1) = m (refAt c Cert.Reference34Ideal.main_arg1)
      ∧ r.2.mem (refAt c Cert.Reference34Ideal.main_arg2) = m (refAt c Cert.Reference34Ideal.main_arg2)
      ∧ r.2.mem (refAt c Cert.Reference34Ideal.main_arg3) = m (refAt c Cert.Reference34Ideal.main_arg3) := by
  unfold stepR firstR secondR
  exact Cert.Reference34Ideal.Value.run (F := Ideal) m ρ

theorem frame_ref : Cert.quiescent_Reference34Ideal := fun m ρ _ =>
  quiet_of_run (by decide) (ref_run m ρ) fun _ _ h => h.2.2.2.2

/-- The array the grid leaves in the first result. -/
theorem final4 (c : Dev nD) : (dats m 0 c).arrAt 4 (cfgs 0).N = stepR (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay3, k0_pay2, k0_pay1, stepR, firstR, secondR]
  blk_point [iblk, V, idx t]

/-- The array the grid leaves in the second result. -/
theorem final5 (c : Dev nD) : (dats m 0 c).arrAt 5 (cfgs 0).N
    = firstR (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, firstR]
  blk_point [iblk, V, idx t]

/-- The array the grid leaves in the third result. -/
theorem final6 (c : Dev nD) : (dats m 0 c).arrAt 6 (cfgs 0).N
    = secondR (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay2, secondR]
  blk_point [iblk, V, idx t]

/-- The array the grid leaves in the fourth result. -/
theorem final7 (c : Dev nD) : (dats m 0 c).arrAt 7 (cfgs 0).N = m ((c : Thread nD τ).loc main_arg1) := by
  refine (dats m 0 c).arrAt_eq_of_covers 7 _ (by decide +kernel) fun t _ y => ?_
  blk_simp
  rw [after0_7]
  frame_out
  blk_point [iblk, V, idx t]

theorem algebraic : Cert.algebraic_Kernel34Ideal_Reference34Ideal := by
  pair_intro
  · run_from Cert.Kernel34Ideal.Gen.run_main m g
  · run_from ref_run m' g'
    · exact (final4 m c).symm
    · exact (final5 m c).symm
    · exact (final6 m c).symm
    · exact (final7 m c).symm

end Cert.Kernel34Ideal.Adam

end
-- ==== Proof.Gated.lean ====
module

public import proofs.«01_k».proof.Defs
public import proofs.«01_k».proof.Proof.Quiet
public import proofs.«01_k».proof.Proof.Gen.Kernel35Ideal
public import proofs.«01_k».proof.Proof.Gen.Reference35Ideal
public import proofs.«01_k».proof.Proof.Gen.Kernel35Ideal.Value
public import proofs.«01_k».proof.Proof.Gen.Reference35Ideal.Run
public import Idealize.ShloMosaic.Lib.Pipeline.ValueKit
public import Idealize.ShloMosaic.Lib.Pointwise
public import Idealize.ShloMosaic.Lib.Claim

@[expose] public section

/-!
The SSD layer's gated norm, over groups of 256 columns.
-/

set_option maxRecDepth 16384

noncomputable section

open Idealize.ShloMosaic Idealize.ShloMosaic.TcCoe Idealize.SL.Sem
open Idealize.ShloMosaic.Pipeline (Dat)

namespace Cert.Kernel35Ideal.Gated

open Cert.Kernel35Ideal Cert.Kernel35Ideal.Gen

variable (m : (ℓ : Loc nD τ sig) → Buf (Elt Ideal) ℓ)

/-- A group's inverse root mean square, with the small constant added. -/
abbrev root (f : Fin 256 → EReal) : EReal :=
  Ideal.rsqrt (Ideal.div (∑ k, f k * f k) (Ideal.ofBits FTy.f32 0x43800000#32) + Ideal.ofBits FTy.f32 0x358637BD#32)

section
open Cert.Reference35Ideal Cert.Reference35Ideal.Gen
variable (p x z : FVec Ideal S4096x2048 .f32) (d g : FVec Ideal S1x2048 .f32)

/-- The gate at one entry. -/
abbrev gate (p x z d : EReal) : EReal :=
  (p + x * d) * (z * Ideal.div 1 (1 + Ideal.exp (-z)))

/-- The reference's gated array. -/
def gateR : FVec Ideal S4096x2048 .f32 :=
  mulf (addf p (mulf x (broadcastInDim S4096x2048 ![0, 1] bcast_S1x2048_S4096x2048_0_1 d))) (mulf z (Host.divf (broadcastInDim S4096x2048 ![] bcast_S_S4096x2048 (constant S_ .f32 0x3F800000#32)) (addf (broadcastInDim S4096x2048 ![] bcast_S_S4096x2048 (constant S_ .f32 0x3F800000#32)) (Host.exp (Host.negf z)))))

/-- The reference's norm of an array, group by group. -/
def normR : FVec Ideal S4096x2048 .bf16 :=
  truncf .bf16 (mulf (shapeCast _ (mulf (shapeCast _ p shapeCasts_S4096x2048_S4096x8x256) (broadcastInDim S4096x8x256 ![0, 1, 2] bcast_S4096x8x1_S4096x8x256_0_1_2 (Host.rsqrt (addf (Host.divf (broadcastInDim S4096x8x1 ![0, 1] bcast_S4096x8_S4096x8x1_0_1 (Host.reduceAdd (mulf (shapeCast _ p shapeCasts_S4096x2048_S4096x8x256) (shapeCast _ p shapeCasts_S4096x2048_S4096x8x256)) (constant S_ .f32 0x00000000#32) reducesTo_S4096x8x256_S4096x8_d2 h_S_)) (broadcastInDim S4096x8x1 ![] bcast_S_S4096x8x1 (constant S_ .f32 0x43800000#32))) (broadcastInDim S4096x8x1 ![] bcast_S_S4096x8x1 (constant S_ .f32 0x358637BD#32)))))) shapeCasts_S4096x8x256_S4096x2048) (broadcastInDim S4096x2048 ![0, 1] bcast_S1x2048_S4096x2048_0_1 g)) Cert.Reference35Ideal.Gen.bitsLt_bf16_f32

theorem gateR_at (j : S4096x2048.Idx) : gateR p x z d j = gate (p j) (x j) (z j) (d (ix2 0 (j 1))) := by
  pointwise [gateR]

theorem normR_at (j : S4096x2048.Idx) : normR p g j
    = p j * root (fun k => p (ix2 (j 0) ⟨(j 1).val / 256 * 256 + k.val, by have : (j 1).val < 2048 := (j 1).isLt; omega⟩)) * g (ix2 0 (j 1)) := by
  pointwise [normR]
end

/-- One group of columns, normalised. -/
def slab (Y : FVec Ideal S512x2048 .f32) (o : ℕ) (h : S512x2048.Slices ![0, o] S512x256) : FVec Ideal S512x256 .f32 :=
  mulf (extractStridedSlice S512x256 ![0, o] Y h) (broadcastTo S512x256 (rsqrt (addf (divf (shapeCast S512x1 (multiReduction .add [1] S512 (mulf (extractStridedSlice S512x256 ![0, o] Y h) (extractStridedSlice S512x256 ![0, o] Y h)) 0x00000000#32 reduces_S512x256_S512 (.inl rfl) rfl) shapeCasts_S512_S512x1) (broadcast S512x1 (Scalar.ofBits .f32 0x43800000#32))) (broadcast S512x1 (Scalar.ofBits .f32 0x358637BD#32)))) broadcasts_S512x1_S512x256)

theorem slab_at (Y : FVec Ideal S512x2048 .f32) (o : ℕ) (h) (x : S512x256.Idx) (ho : o + 256 ≤ 2048) : slab Y o h x
    = Y (ix2 (x 0) ⟨o + (x 1).val, by have : (x 1).val < 256 := (x 1).isLt; omega⟩) * root fun k => Y (ix2 (x 0) ⟨o + k.val, by omega⟩) := by
  pointwise [slab]

/-- The norm of an entry's group, at the entry. -/
def normed (Y : FVec Ideal S512x2048 .f32) (y : S512x2048.Idx) : EReal :=
  Y y * root fun k => Y (ix2 (y 0) ⟨(y 1).val / 256 * 256 + k.val, by have : (y 1).val < 2048 := (y 1).isLt; omega⟩)

theorem slab_of (Y : FVec Ideal S512x2048 .f32) (o : ℕ) (h) (y : S512x2048.Idx) (b : Fin 256) (hb : o + b.val = (y 1).val)
    (ho : (y 1).val / 256 * 256 = o) : slab Y o h (ix2 (y 0) b) = normed Y y := by
  subst ho
  have hy : (y 1).val < 2048 := (y 1).isLt
  rw [slab_at Y _ h _ (by omega)]
  refine congrArg (fun u : EReal => u * _) (congrArg Y ?_)
  funext a
  match a with
  | 0 => rfl
  | 1 => exact Fin.ext hb

theorem pay (Y : FVec Ideal S512x2048 .f32) (g : Vec Ideal S1x2048 .f32) (y : S512x2048.Idx) :
    k0_pay1 g Y (slab Y 0 slices_S512x2048_o0_0_S512x256) (slab Y 256 slices_S512x2048_o0_256_S512x256) (slab Y 512 slices_S512x2048_o0_512_S512x256)
      (slab Y 768 slices_S512x2048_o0_768_S512x256) (slab Y 1024 slices_S512x2048_o0_1024_S512x256) (slab Y 1280 slices_S512x2048_o0_1280_S512x256)
      (k0_pay10 Y) (k0_pay11 Y) y = normed Y y * g (ix2 0 (y 1)) := by
  show (truncf .bf16 (mulf (concatenate S512x2048 1 [⟨S512x256, slab Y 0 slices_S512x2048_o0_0_S512x256⟩, ⟨S512x256, slab Y 256 slices_S512x2048_o0_256_S512x256⟩, ⟨S512x256, slab Y 512 slices_S512x2048_o0_512_S512x256⟩, ⟨S512x256, slab Y 768 slices_S512x2048_o0_768_S512x256⟩, ⟨S512x256, slab Y 1024 slices_S512x2048_o0_1024_S512x256⟩, ⟨S512x256, slab Y 1280 slices_S512x2048_o0_1280_S512x256⟩, ⟨S512x256, slab Y 1536 slices_S512x2048_o0_1536_S512x256⟩, ⟨S512x256, slab Y 1792 slices_S512x2048_o0_1792_S512x256⟩]
    concatenates_S512x256_S512x256_S512x256_S512x256_S512x256_S512x256_S512x256_S512x256_S512x2048_d1)
    (broadcastTo S512x2048 g broadcasts_S1x2048_S512x2048)) bitsLt_bf16_f32 : FVec Ideal S512x2048 .bf16) y = normed Y y * g (ix2 0 (y 1))
  pointwise []
  refine congrArg (fun u : EReal => u * g (ix2 0 (y 1))) ?_
  have hy : (y 1).val < 2048 := (y 1).isLt
  split_ifs
  all_goals exact slab_of Y _ _ y _ (by dsimp only; omega) (by omega)

theorem pay_gate (v0 v1 v2 : Vec Ideal S512x2048 .f32) (v3 : Vec Ideal S1x2048 .f32) (y : S512x2048.Idx) :
    k0_pay2 v0 v1 v2 v3 y = gate (v0 y) (v1 y) (v2 y) (v3 (ix2 0 (y 1))) := by
  pointwise [k0_pay2]
  rw [zero_sub]

theorem whole (v0 v1 v2 : Vec Ideal S512x2048 .f32) (v3 v4 : Vec Ideal S1x2048 .f32) : k0_pay12 v0 v1 v2 v3 v4 = k0_pay2 v0 v1 v2 v3 := by
  unfold k0_pay12
  frame_out

theorem point (v0 v1 v2 : Vec Ideal S512x2048 .f32) (v3 v4 : Vec Ideal S1x2048 .f32) (y : S512x2048.Idx) :
    k0_pay1 v4 (k0_pay2 v0 v1 v2 v3) (k0_pay3 v0 v1 v2 v3) (k0_pay4 v0 v1 v2 v3) (k0_pay6 (k0_pay5 v0 v1 v2 v3))
      (k0_pay7 (k0_pay2 v0 v1 v2 v3)) (k0_pay8 (k0_pay2 v0 v1 v2 v3)) (k0_pay9 (k0_pay2 v0 v1 v2 v3))
      (k0_pay10 (k0_pay2 v0 v1 v2 v3)) (k0_pay11 (k0_pay2 v0 v1 v2 v3)) y = normed (k0_pay2 v0 v1 v2 v3) y * v4 (ix2 0 (y 1)) :=
  pay (k0_pay2 v0 v1 v2 v3) v4 y

/-- Where the windows' blocks sit at each point. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![t.val, 0] :=
  (by decide +kernel : ∀ t : Fin grid0.N, _)

/-- A buffer of the reference's. -/
abbrev refAt (c : Dev Cert.Reference35Ideal.nD) (b : Ref Cert.Reference35Ideal.sig .tc) : Loc Cert.Reference35Ideal.nD Cert.Reference35Ideal.τ Cert.Reference35Ideal.sig :=
  (c.tc : Thread Cert.Reference35Ideal.nD Cert.Reference35Ideal.τ).loc b

/-- The reference's run, its result by its names above. -/
theorem ref_run (m : (ℓ : Loc Cert.Reference35Ideal.nD Cert.Reference35Ideal.τ Cert.Reference35Ideal.sig) → Buf (Elt Ideal) ℓ)
    (ρ : Dev Cert.Reference35Ideal.nD → PrngReg) :
    θ_run Cert.Reference35Ideal.defs (onTc (τ := Cert.Reference35Ideal.τ) (Cert.Reference35Ideal.main (F := Ideal))) ⟨m, fun _ => 0, ρ⟩ fun r => ∀ c : Dev Cert.Reference35Ideal.nD,
      r.2.mem (refAt c Cert.Reference35Ideal.main_v19)
        = normR (gateR (m (refAt c Cert.Reference35Ideal.main_arg0)) (m (refAt c Cert.Reference35Ideal.main_arg1)) (m (refAt c Cert.Reference35Ideal.main_arg2)) (m (refAt c Cert.Reference35Ideal.main_arg3))) (m (refAt c Cert.Reference35Ideal.main_arg4))
      ∧ r.2.mem (refAt c Cert.Reference35Ideal.main_arg0) = m (refAt c Cert.Reference35Ideal.main_arg0)
      ∧ r.2.mem (refAt c Cert.Reference35Ideal.main_arg1) = m (refAt c Cert.Reference35Ideal.main_arg1)
      ∧ r.2.mem (refAt c Cert.Reference35Ideal.main_arg2) = m (refAt c Cert.Reference35Ideal.main_arg2)
      ∧ r.2.mem (refAt c Cert.Reference35Ideal.main_arg3) = m (refAt c Cert.Reference35Ideal.main_arg3)
      ∧ r.2.mem (refAt c Cert.Reference35Ideal.main_arg4) = m (refAt c Cert.Reference35Ideal.main_arg4) := by
  unfold normR gateR
  exact Cert.Reference35Ideal.Value.run (F := Ideal) m ρ

theorem frame_ref : Cert.quiescent_Reference35Ideal := fun m ρ _ =>
  quiet_of_run (by decide) (ref_run m ρ) fun _ _ h => h.2

/-- The array the grid leaves in the result. -/
theorem final5 (c : Dev nD) : (dats m 0 c).arrAt 5 (cfgs 0).N
    = normR (gateR (m ((c : Thread nD τ).loc main_arg0)) (m ((c : Thread nD τ).loc main_arg1)) (m ((c : Thread nD τ).loc main_arg2)) (m ((c : Thread nD τ).loc main_arg3))) (m ((c : Thread nD τ).loc main_arg4)) := by
  refine (dats m 0 c).arrAt_eq_of_covers 5 _ (by decide +kernel) fun t _ y => ?_
  blk_simp
  rw [after0_5]
  frame_out
  rw [whole]
  refine (point _ _ _ _ _ y).trans (Eq.trans ?_ (normR_at _ _ _).symm)
  simp only [normed, pay_gate, gateR_at]
  blk_point [iblk, V, idx t]

theorem algebraic : Cert.algebraic_Kernel35Ideal_Reference35Ideal := by
  pair_intro
  · run_from Cert.Kernel35Ideal.Gen.run_main m g
  · run_from ref_run m' g'
    exact (final5 m c).symm

end Cert.Kernel35Ideal.Gated

end
-- ==== Proof.Conv.lean ====
module

public import proofs.«01_k».proof.Defs
public import proofs.«01_k».proof.Proof.Quiet
public import proofs.«01_k».proof.Proof.Gen.Kernel36Ideal
public import proofs.«01_k».proof.Proof.Gen.Reference36Ideal
public import proofs.«01_k».proof.Proof.Gen.Kernel36Ideal.Value
public import proofs.«01_k».proof.Proof.Gen.Reference36Ideal.Run
public import Idealize.ShloMosaic.Lib.Pipeline.ValueKit
public import Idealize.ShloMosaic.Lib.Pointwise
public import Idealize.ShloMosaic.Lib.Claim

@[expose] public section

/-!
The gradient through the SSD layer's convolution of positions, four taps deep.
-/

set_option maxRecDepth 16384

noncomputable section

open Idealize.ShloMosaic Idealize.ShloMosaic.TcCoe Idealize.SL.Sem
open Idealize.ShloMosaic.Pipeline (Dat)

namespace Cert.Kernel36Ideal.Conv

open Cert.Kernel36Ideal Cert.Kernel36Ideal.Gen

variable (m : (ℓ : Loc nD τ sig) → Buf (Elt Ideal) ℓ)

section
open Cert.Reference36Ideal Cert.Reference36Ideal.Gen
variable (d : FVec Ideal S4096x4096 .f32) (w0 w1 w2 w3 : FVec Ideal S1x4096 .f32)

/-- The entry `s` rows further on, zero past the end. -/
def later (r : ℕ) (q : Fin 4096) (s : ℕ) : EReal := if h : r + s < 4096 then d (ix2 ⟨r + s, h⟩ q) else 0

/-- A tap's product. -/
abbrev tapR (w : FVec Ideal S1x4096 .f32) : FVec Ideal S4096x4096 .f32 :=
  mulf (broadcastInDim S4096x4096 ![0, 1] bcast_S1x4096_S4096x4096_0_1 w) (shapeCast _ d shapeCasts_S4096x4096_S4096x4096)

/-- The reference's result. -/
def convR : FVec Ideal S4096x4096 .bf16 :=
  truncf .bf16 (extractStridedSlice S4096x4096 ![3, 0] (addf (addf (addf (pad S4099x4096 ![3, 0] ![0, 0] ![0, 0] (tapR d w3) (constant S_ .f32 0x00000000#32) pads_S4096x4096_S4099x4096_300_000 h_S_) (pad S4099x4096 ![2, 0] ![1, 0] ![0, 0] (tapR d w2) (constant S_ .f32 0x00000000#32) pads_S4096x4096_S4099x4096_210_000 h_S_)) (pad S4099x4096 ![1, 0] ![2, 0] ![0, 0] (tapR d w1) (constant S_ .f32 0x00000000#32) pads_S4096x4096_S4099x4096_120_000 h_S_)) (pad S4099x4096 ![0, 0] ![3, 0] ![0, 0] (tapR d w0) (constant S_ .f32 0x00000000#32) pads_S4096x4096_S4099x4096_030_000 h_S_)) slices_S4099x4096_S4096x4096_3_0) Cert.Reference36Ideal.Gen.bitsLt_bf16_f32

theorem convR_at (j : S4096x4096.Idx) : convR d w0 w1 w2 w3 j = w3 (ix2 0 (j 1)) * d j + w2 (ix2 0 (j 1)) * later d (j 0).val (j 1) 1
    + w1 (ix2 0 (j 1)) * later d (j 0).val (j 1) 2 + w0 (ix2 0 (j 1)) * later d (j 0).val (j 1) 3 := by
  pointwise [convR]
  refine congrArg₂ (fun u v : EReal => u + v) (congrArg₂ (fun u v : EReal => u + v) (congrArg₂ (fun u v : EReal => u + v) rfl ?_) ?_) ?_
  · have e : 3 + (j 0).val - 2 = (j 0).val + 1 := by omega
    have e' : 2 ≤ 3 + (j 0).val := by omega
    simp only [e, e', true_and, later]
    split_ifs <;> simp
  · have e : 3 + (j 0).val - 1 = (j 0).val + 2 := by omega
    have e' : 1 ≤ 3 + (j 0).val := by omega
    simp only [e, e', true_and, later]
    split_ifs <;> simp
  · have e : 3 + (j 0).val = (j 0).val + 3 := by omega
    simp only [e, later]
    split_ifs <;> simp
end

/-- One where there is a next block, zero at the last. -/
abbrev flag (i : grid0.Coords) : EReal :=
  (((Scalar.extui (Scalar.cmpi CmpIPredicate.slt (BitVec.ofNat 32 (i 0).val) 7#32) : BitVec 32).toInt : ℝ) : EReal)

/-- The entry `s` rows further on in a block, or in the first rows of the next. -/
def near (v0 : Vec Ideal S512x4096 .f32) (v1 : Vec Ideal S8x4096 .f32) (f : EReal) (a : Fin 512) (q : Fin 4096) (s : ℕ) (hs : s < 4) : EReal :=
  if h : a.val + s < 512 then v0 (ix2 ⟨a.val + s, h⟩ q) else v1 (ix2 ⟨a.val + s - 512, by omega⟩ q) * f

theorem pay (i : grid0.Coords) (v0 : Vec Ideal S512x4096 .f32) (v1 : Vec Ideal S8x4096 .f32) (v7 v8 v9 v10 : Vec Ideal S1x4096 .f32) (y : S512x4096.Idx) :
    k0_pay1 i v0 v1 v7 v8 v9 v10 y = v10 (ix2 0 (y 1)) * v0 y + v9 (ix2 0 (y 1)) * near v0 v1 (flag i) (y 0) (y 1) 1 (by decide)
      + v8 (ix2 0 (y 1)) * near v0 v1 (flag i) (y 0) (y 1) 2 (by decide) + v7 (ix2 0 (y 1)) * near v0 v1 (flag i) (y 0) (y 1) 3 (by decide) := by
  have hy : (y 0).val < 512 := (y 0).isLt
  have e1 : ((y 0).val + 520 - 519) % 520 = (y 0).val + 1 := by omega
  have e2 : ((y 0).val + 520 - 518) % 520 = (y 0).val + 2 := by omega
  have e3 : ((y 0).val + 520 - 517) % 520 = (y 0).val + 3 := by omega
  pointwise [k0_pay1]
  simp only [e1, e2, e3, near]

theorem near_eq (d : FVec Ideal S4096x4096 .f32) (t : ℕ) (ht : t < 8) (v0 : Vec Ideal S512x4096 .f32) (v1 : Vec Ideal S8x4096 .f32)
    (f : EReal) (a : Fin 512) (q : Fin 4096) (s : ℕ) (hs : s < 4) (hf : f = if t < 7 then 1 else 0)
    (h0 : ∀ b : Fin 512, v0 (ix2 b q) = d (ix2 ⟨t * 512 + b.val, by omega⟩ q))
    (h1 : ∀ (b : Fin 8) (h : t < 7), v1 (ix2 b q) = d (ix2 ⟨(t + 1) * 512 + b.val, by omega⟩ q)) :
    near v0 v1 f a q s hs = later d (t * 512 + a.val) q s := by
  subst hf
  unfold near later
  by_cases h : a.val + s < 512
  · rw [dif_pos h, dif_pos (by omega), h0]
    refine congrArg d (congrArg (fun b => ix2 b q) (Fin.ext ?_))
    simp only
    omega
  · rw [dif_neg h]
    by_cases h7 : t < 7
    · rw [if_pos h7, mul_one, dif_pos (by omega), h1 _ h7]
      refine congrArg d (congrArg (fun b => ix2 b q) (Fin.ext ?_))
      simp only
      omega
    · rw [if_neg h7, mul_zero, dif_neg (by omega)]

theorem flag_eq (t : Fin cfg0.N) : flag (grid0.coords t) = if t.val < 7 then 1 else 0 := by
  have h : ∀ t : Fin grid0.N, (Scalar.extui (Scalar.cmpi CmpIPredicate.slt (BitVec.ofNat 32 (grid0.coords t 0).val) 7#32) : BitVec 32).toInt
      = if t.val < 7 then 1 else 0 := by decide +kernel
  unfold flag
  rw [h t]
  split_ifs <;> simp

/-- Where the windows' blocks sit at each point. -/
theorem idx : ∀ t : Fin cfg0.N, win0_0.index t = ![t.val, 0] ∧ win0_1.index t = ![min ((t.val + 1) * 64) 511, 0]
    ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- A buffer of the reference's. -/
abbrev refAt (c : Dev Cert.Reference36Ideal.nD) (b : Ref Cert.Reference36Ideal.sig .tc) : Loc Cert.Reference36Ideal.nD Cert.Reference36Ideal.τ Cert.Reference36Ideal.sig :=
  (c.tc : Thread Cert.Reference36Ideal.nD Cert.Reference36Ideal.τ).loc b

/-- The reference's run, its result by its name above. -/
theorem ref_run (m : (ℓ : Loc Cert.Reference36Ideal.nD Cert.Reference36Ideal.τ Cert.Reference36Ideal.sig) → Buf (Elt Ideal) ℓ)
    (ρ : Dev Cert.Reference36Ideal.nD → PrngReg) :
    θ_run Cert.Reference36Ideal.defs (onTc (τ := Cert.Reference36Ideal.τ) (Cert.Reference36Ideal.main (F := Ideal))) ⟨m, fun _ => 0, ρ⟩ fun r => ∀ c : Dev Cert.Reference36Ideal.nD,
      r.2.mem (refAt c Cert.Reference36Ideal.main_v38)
        = convR (m (refAt c Cert.Reference36Ideal.main_arg0)) (m (refAt c Cert.Reference36Ideal.main_arg1)) (m (refAt c Cert.Reference36Ideal.main_arg2)) (m (refAt c Cert.Reference36Ideal.main_arg3)) (m (refAt c Cert.Reference36Ideal.main_arg4))
      ∧ r.2.mem (refAt c Cert.Reference36Ideal.main_arg0) = m (refAt c Cert.Reference36Ideal.main_arg0)
      ∧ r.2.mem (refAt c Cert.Reference36Ideal.main_arg1) = m (refAt c Cert.Reference36Ideal.main_arg1)
      ∧ r.2.mem (refAt c Cert.Reference36Ideal.main_arg2) = m (refAt c Cert.Reference36Ideal.main_arg2)
      ∧ r.2.mem (refAt c Cert.Reference36Ideal.main_arg3) = m (refAt c Cert.Reference36Ideal.main_arg3)
      ∧ r.2.mem (refAt c Cert.Reference36Ideal.main_arg4) = m (refAt c Cert.Reference36Ideal.main_arg4) := by
  unfold convR
  exact Cert.Reference36Ideal.Value.run (F := Ideal) m ρ

theorem frame_ref : Cert.quiescent_Reference36Ideal := fun m ρ _ =>
  quiet_of_run (by decide) (ref_run m ρ) fun _ _ h => h.2

/-- What a point's blocks hold `s` rows further on. -/
theorem rows (c : Dev nD) (t : Fin cfg0.N) (a : Fin 512) (q : Fin 4096) (s : ℕ) (hs : s < 4) :
    near (iblk m c 0 t) (iblk m c 1 t) (flag (grid0.coords t)) a q s hs
      = later (m ((c : Thread nD τ).loc main_arg0)) (t.val * 512 + a.val) q s := by
  have ht : t.val < 8 := t.isLt
  refine near_eq _ t.val ht _ _ _ a q s hs (flag_eq t) (fun b => ?_) fun b h => ?_
  · blk_point [iblk, V, idx t]
  · have e : min ((t.val + 1) * 64) 511 = (t.val + 1) * 64 := by omega
    blk_point [iblk, V, idx t, e]

/-- The array the grid leaves in the result. -/
theorem final6 (c : Dev nD) : (dats m 0 c).arrAt 6 (cfgs 0).N
    = convR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  refine (pay _ _ _ _ _ _ _ y).trans (Eq.trans ?_ (convR_at _ _ _ _ _ _).symm)
  refine congrArg₂ (fun u v : EReal => u + v) (congrArg₂ (fun u v : EReal => u + v) (congrArg₂ (fun u v : EReal => u + v) (congrArg₂ (fun u v : EReal => u * v) ?_ ?_) (congrArg₂ (fun u v : EReal => u * v) ?_ ((rows m c t (y 0) (y 1) 1 (by decide)).trans (congrArg₂ (fun r q => later _ r q 1) ?_ (Fin.ext ?_)))))
    (congrArg₂ (fun u v : EReal => u * v) ?_ ((rows m c t (y 0) (y 1) 2 (by decide)).trans (congrArg₂ (fun r q => later _ r q 2) ?_ (Fin.ext ?_)))))
    (congrArg₂ (fun u v : EReal => u * v) ?_ ((rows m c t (y 0) (y 1) 3 (by decide)).trans (congrArg₂ (fun r q => later _ r q 3) ?_ (Fin.ext ?_))))
  all_goals first | (blk_simp [idx t]; done) | blk_point [iblk, V, idx t]

theorem algebraic : Cert.algebraic_Kernel36Ideal_Reference36Ideal := by
  pair_intro
  · run_from Cert.Kernel36Ideal.Gen.run_main m g
  · run_from ref_run m' g'
    exact (final6 m c).symm

end Cert.Kernel36Ideal.Conv

end
-- ==== Proof.lean ====
/-
  The claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel8
public import proofs.«01_k».proof.Proof.Gen.Kernel8.Frame
public import proofs.«01_k».proof.Proof.Gen.Kernel9
public import proofs.«01_k».proof.Proof.Gen.Kernel9.Frame
public import proofs.«01_k».proof.Proof.Gen.Kernel10
public import proofs.«01_k».proof.Proof.Gen.Kernel10.Frame
public import proofs.«01_k».proof.Proof.Gen.Kernel11
public import proofs.«01_k».proof.Proof.Gen.Kernel11.Frame
public import proofs.«01_k».proof.Proof.Gen.Kernel12
public import proofs.«01_k».proof.Proof.Gen.Kernel12.Frame
public import proofs.«01_k».proof.Proof.Gen.Kernel13
public import proofs.«01_k».proof.Proof.Gen.Kernel13.Frame
public import proofs.«01_k».proof.Proof.Gen.Kernel14
public import proofs.«01_k».proof.Proof.Gen.Kernel14.Frame
public import proofs.«01_k».proof.Proof.Gen.Kernel15
public import proofs.«01_k».proof.Proof.Gen.Kernel15.Frame
public import proofs.«01_k».proof.Proof.Gen.Kernel16
public import proofs.«01_k».proof.Proof.Gen.Kernel16.Frame
public import proofs.«01_k».proof.Proof.Gen.Kernel17
public import proofs.«01_k».proof.Proof.Gen.Kernel17.Frame
public import proofs.«01_k».proof.Proof.Gen.Kernel18
public import proofs.«01_k».proof.Proof.Gen.Kernel18.Frame
public import proofs.«01_k».proof.Proof.Gen.Kernel19
public import proofs.«01_k».proof.Proof.Gen.Kernel19.Frame
public import proofs.«01_k».proof.Proof.Gen.Kernel20
public import proofs.«01_k».proof.Proof.Gen.Kernel20.Frame
public import proofs.«01_k».proof.Proof.Gen.Kernel21
public import proofs.«01_k».proof.Proof.Gen.Kernel21.Frame
public import proofs.«01_k».proof.Proof.Gen.Kernel22
public import proofs.«01_k».proof.Proof.Gen.Kernel22.Frame
public import proofs.«01_k».proof.Proof.Gen.Kernel23
public import proofs.«01_k».proof.Proof.Gen.Kernel23.Frame
public import proofs.«01_k».proof.Proof.Gen.Kernel24
public import proofs.«01_k».proof.Proof.Gen.Kernel24.Frame
public import proofs.«01_k».proof.Proof.Gen.Kernel25
public import proofs.«01_k».proof.Proof.Gen.Kernel25.Frame
public import proofs.«01_k».proof.Proof.Gen.Kernel26
public import proofs.«01_k».proof.Proof.Gen.Kernel26.Frame
public import proofs.«01_k».proof.Proof.Gen.Kernel27
public import proofs.«01_k».proof.Proof.Gen.Kernel27.Frame
public import proofs.«01_k».proof.Proof.Gen.Kernel28
public import proofs.«01_k».proof.Proof.Gen.Kernel28.Frame
public import proofs.«01_k».proof.Proof.Gen.Kernel29
public import proofs.«01_k».proof.Proof.Gen.Kernel29.Frame
public import proofs.«01_k».proof.Proof.Gen.Kernel30
public import proofs.«01_k».proof.Proof.Gen.Kernel30.Frame
public import proofs.«01_k».proof.Proof.Gen.Kernel31
public import proofs.«01_k».proof.Proof.Gen.Kernel31.Frame
public import proofs.«01_k».proof.Proof.Gen.Kernel32
public import proofs.«01_k».proof.Proof.Gen.Kernel32.Frame
public import proofs.«01_k».proof.Proof.Gen.Kernel33
public import proofs.«01_k».proof.Proof.Gen.Kernel33.Frame
public import proofs.«01_k».proof.Proof.Gen.Kernel34
public import proofs.«01_k».proof.Proof.Gen.Kernel34.Frame
public import proofs.«01_k».proof.Proof.Gen.Kernel35
public import proofs.«01_k».proof.Proof.Gen.Kernel35.Frame
public import proofs.«01_k».proof.Proof.Gen.Kernel36
public import proofs.«01_k».proof.Proof.Gen.Kernel36.Frame
public import proofs.«01_k».proof.Proof.Printed.Launched
public import proofs.«01_k».proof.Proof.Launched
public import proofs.«01_k».proof.Proof.Finite
public import proofs.«01_k».proof.Proof.Ffn
public import proofs.«01_k».proof.Proof.Sb
public import proofs.«01_k».proof.Proof.Gm
public import proofs.«01_k».proof.Proof.Ssm
public import proofs.«01_k».proof.Proof.Mix
public import proofs.«01_k».proof.Proof.Norm
public import proofs.«01_k».proof.Proof.Loss
public import proofs.«01_k».proof.Proof.Gated
public import proofs.«01_k».proof.Proof.Conv

@[expose] public section

noncomputable section

namespace Cert.Proof

open Idealize.ShloMosaic Idealize.SL.Sem

theorem frame_kernel : Cert.quiescent_Kernel := fun m ρ _ => Cert.Kernel.Sb.frame (F := Bits) m ρ Cert.Kernel.Sb.countOk_bits

theorem frame_ideal : Cert.quiescent_KernelIdeal :=
  fun m ρ _ => Cert.KernelIdeal.Sb.frame (F := Ideal) m ρ Cert.KernelIdeal.Sb.countOk_ideal

theorem frame_ref : Cert.quiescent_ReferenceIdeal := fun m ρ _ => by
  exact (θ_run Cert.ReferenceIdeal.defs _ _).mono (fun r h => ⟨fun c => (h c).2.2.2,
      sem_eq_zero_of_no_sems (by decide) r.2⟩) (Cert.ReferenceIdeal.Value.run (F := Ideal) m ρ)

theorem preserves : Cert.preserves_Kernel_KernelIdeal :=
  ⟨IdealRules.named_const.statement Cert.KernelIdeal.κ "dead" .f32 0xC2DC0000#32 ⊥ rfl,
    IdealRules.named_const.statement Cert.KernelIdeal.κ "unseen" .f32 0xF149F2CA#32 ⊥ rfl⟩

theorem algebraic : Cert.algebraic_KernelIdeal_ReferenceIdeal_pre_finite := by
  intro m g m' g' hpre hagree
  have A := Cert.Sb.args_of m hpre
  let Q := fun c : Dev Cert.KernelIdeal.nD => Cert.Sb.ofArr (φ := .bf16) (m ((c.tc : Thread Cert.KernelIdeal.nD Cert.KernelIdeal.τ).loc Cert.KernelIdeal.main_arg0))
  let K := fun c : Dev Cert.KernelIdeal.nD => Cert.Sb.ofArr (φ := .bf16) (m ((c.tc : Thread Cert.KernelIdeal.nD Cert.KernelIdeal.τ).loc Cert.KernelIdeal.main_arg1))
  let W := fun c : Dev Cert.KernelIdeal.nD => Cert.Sb.ofArr (φ := .bf16) (m ((c.tc : Thread Cert.KernelIdeal.nD Cert.KernelIdeal.τ).loc Cert.KernelIdeal.main_arg2))
  let O := fun c : Dev Cert.KernelIdeal.nD => Cert.Sb.ofArr (φ := .f32) (m ((c.tc : Thread Cert.KernelIdeal.nD Cert.KernelIdeal.τ).loc Cert.KernelIdeal.main_arg3))
  refine ⟨fun c => (fun i => ((Cert.Sb.dqS (Q c) (K c) (W c) (O c) (i 0).val (i 1).val : ℝ) : EReal) : FVec Ideal Cert.KernelIdeal.S4096x1024 .f32),
    fun c => (fun i => ((Cert.Sb.dkS (Q c) (K c) (W c) (O c) (i 0).val (i 1).val : ℝ) : EReal) : FVec Ideal Cert.KernelIdeal.S4096x1024 .f32),
    fun c => (fun i => ((Cert.Sb.dvS (Q c) (K c) (O c) (i 0).val (i 1).val : ℝ) : EReal) : FVec Ideal Cert.KernelIdeal.S4096x1024 .f32), ?_, ?_⟩
  · refine (θ_run Cert.KernelIdeal.defs _ _).mono (fun r h c => ?_)
      (θ_run_and (Cert.KernelIdeal.Sb.run_main m g Cert.KernelIdeal.Sb.countOk_ideal) (frame_ideal m g trivial))
    exact ⟨((h.1.1 c).1 6).trans (Cert.KernelIdeal.Sb.final6 (A c) _), ((h.1.1 c).1 7).trans (Cert.KernelIdeal.Sb.final7 (A c) _),
      ((h.1.1 c).1 8).trans (Cert.KernelIdeal.Sb.final8 (A c) _), h.2.1 c⟩
  · refine (θ_run Cert.ReferenceIdeal.defs _ _).mono (fun r h c => ?_) (Cert.ReferenceIdeal.Value.run (F := Ideal) m' g')
    have hc := h c
    rw [Cert.ReferenceIdeal.Sb.v43, Cert.ReferenceIdeal.Sb.v44, Cert.ReferenceIdeal.Sb.v45] at hc
    refine ⟨hc.1.trans ?_, hc.2.1.trans ?_, hc.2.2.1.trans ?_, hc.2.2.2⟩
    all_goals
      rw [(hagree c).1, (hagree c).2.1, (hagree c).2.2.2]
      try rw [(hagree c).2.2.1]
      funext i
      idx_vars i
    · exact Cert.ReferenceIdeal.Sb.dqR_at (A c).q (A c).k (A c).v (A c).o _ _
    · exact Cert.ReferenceIdeal.Sb.dkR_at (A c).q (A c).k (A c).v (A c).o _ _
    · exact Cert.ReferenceIdeal.Sb.dvR_at (A c).q (A c).k (A c).o _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Pre_finite.Gen.facts, Cert.Pre_finite2.Gen.facts,
  frame_kernel, frame_ideal, fun m ρ _ => frame_ideal m ρ trivial, frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  Cert.Ffn.ref_gate, fun m ρ _ => Cert.Ffn.ref_gate m ρ trivial,
  fun m ρ _ => Cert.Kernel3.Gen.frame m ρ, fun m ρ _ => Cert.Kernel3Ideal.Gen.frame m ρ, Cert.Ffn.ref_hidden,
  fun m ρ _ => Cert.Kernel4.Gen.frame m ρ, fun m ρ _ => Cert.Kernel4Ideal.Gen.frame m ρ, Cert.Ffn.ref_upWeight,
  fun m ρ _ => Cert.Kernel5.Gen.frame m ρ, fun m ρ _ => Cert.Kernel5Ideal.Gen.frame m ρ, Cert.Ffn.ref_downWeight,
  fun m ρ _ => Cert.Kernel6.Gen.frame m ρ, fun m ρ _ => Cert.Kernel6Ideal.Gen.frame m ρ, Cert.Ffn.ref_up,
  fun m ρ _ => Cert.Kernel7.Gen.frame m ρ, fun m ρ _ => Cert.Kernel7Ideal.Gen.frame m ρ, Cert.Ffn.ref_down,
  fun m ρ _ => Cert.Kernel8.Gen.frame m ρ, fun m ρ _ => Cert.Kernel8Ideal.Gen.frame m ρ, Cert.Kernel8Ideal.Sb.frame_ref,
  fun m ρ _ => Cert.Kernel9.Gen.frame m ρ, fun m ρ _ => Cert.Kernel9Ideal.Gen.frame m ρ, Cert.Kernel9Ideal.Sb.frame_ref,
  fun m ρ _ => Cert.Kernel10.Gen.frame m ρ, fun m ρ _ => Cert.Kernel10Ideal.Gen.frame m ρ, Cert.Kernel10Ideal.Gm.frame_ref,
  fun m ρ _ => Cert.Kernel11.Gen.frame m ρ, fun m ρ _ => Cert.Kernel11Ideal.Gen.frame m ρ, Cert.Kernel11Ideal.Gm.frame_ref,
  fun m ρ _ => Cert.Kernel12.Gen.frame m ρ, fun m ρ _ => Cert.Kernel12Ideal.Gen.frame m ρ, Cert.Kernel12Ideal.Gm.frame_ref,
  fun m ρ _ => Cert.Kernel13.Gen.frame m ρ, fun m ρ _ => Cert.Kernel13Ideal.Gen.frame m ρ, Cert.Kernel13Ideal.Gm.frame_ref,
  fun m ρ _ => Cert.Kernel14.Gen.frame m ρ, fun m ρ _ => Cert.Kernel14Ideal.Gen.frame m ρ, Cert.Kernel14Ideal.Ssm.frame_ref,
  fun m ρ _ => Cert.Kernel15.Gen.frame m ρ, fun m ρ _ => Cert.Kernel15Ideal.Gen.frame m ρ, Cert.Kernel15Ideal.Ssm.frame_ref,
  fun m ρ _ => Cert.Kernel16.Gen.frame m ρ, fun m ρ _ => Cert.Kernel16Ideal.Gen.frame m ρ, Cert.Kernel16Ideal.Ssm.frame_ref,
  fun m ρ _ => Cert.Kernel17.Gen.frame m ρ, fun m ρ _ => Cert.Kernel17Ideal.Gen.frame m ρ, Cert.Kernel17Ideal.Ssm.frame_ref,
  fun m ρ _ => Cert.Kernel18.Gen.frame m ρ, fun m ρ _ => Cert.Kernel18Ideal.Gen.frame m ρ, Cert.Kernel18Ideal.Sb.frame_ref,
  fun m ρ _ => Cert.Kernel19.Gen.frame m ρ, fun m ρ _ => Cert.Kernel19Ideal.Gen.frame m ρ, Cert.Kernel19Ideal.Sb.frame_ref,
  fun m ρ _ => Cert.Kernel20.Gen.frame m ρ, fun m ρ _ => Cert.Kernel20Ideal.Gen.frame m ρ, Cert.Kernel20Ideal.Sb.frame_ref,
  fun m ρ _ => Cert.Kernel21.Gen.frame m ρ, fun m ρ _ => Cert.Kernel21Ideal.Gen.frame m ρ, Cert.Kernel21Ideal.Gm.frame_ref,
  fun m ρ _ => Cert.Kernel22.Gen.frame m ρ, fun m ρ _ => Cert.Kernel22Ideal.Gen.frame m ρ, Cert.Kernel22Ideal.Gm.frame_ref,
  fun m ρ _ => Cert.Kernel23.Gen.frame m ρ, fun m ρ _ => Cert.Kernel23Ideal.Gen.frame m ρ, Cert.Kernel23Ideal.Ssm.frame_ref,
  fun m ρ _ => Cert.Kernel24.Gen.frame m ρ, fun m ρ _ => Cert.Kernel24Ideal.Gen.frame m ρ, Cert.Kernel24Ideal.Ssm.frame_ref,
  fun m ρ _ => Cert.Kernel25.Gen.frame m ρ, fun m ρ _ => Cert.Kernel25Ideal.Gen.frame m ρ, Cert.Kernel25Ideal.Sb.frame_ref,
  fun m ρ _ => Cert.Kernel26.Gen.frame m ρ, fun m ρ _ => Cert.Kernel26Ideal.Gen.frame m ρ, Cert.Kernel26Ideal.Mix.frame_ref,
  fun m ρ _ => Cert.Kernel27.Gen.frame m ρ, fun m ρ _ => Cert.Kernel27Ideal.Gen.frame m ρ, Cert.Reference27Ideal.Mix.frame_ref,
  fun m ρ _ => Cert.Kernel28.Gen.frame m ρ, fun m ρ _ => Cert.Kernel28Ideal.Gen.frame m ρ, Cert.Kernel28Ideal.Norm.frame_ref,
  fun m ρ _ => Cert.Kernel29.Gen.frame m ρ, fun m ρ _ => Cert.Kernel29Ideal.Gen.frame m ρ, Cert.Kernel29Ideal.Norm.frame_ref,
  fun m ρ _ => Cert.Kernel30.Gen.frame m ρ, fun m ρ _ => Cert.Kernel30Ideal.Gen.frame m ρ, Cert.Kernel30Ideal.Ssm.frame_ref,
  fun m ρ _ => Cert.Kernel31.Gen.frame m ρ, fun m ρ _ => Cert.Kernel31Ideal.Gen.frame m ρ, Cert.Kernel31Ideal.Ssm.frame_ref,
  fun m ρ _ => Cert.Kernel32.Gen.frame m ρ, fun m ρ _ => Cert.Kernel32Ideal.Gen.frame m ρ, Cert.Kernel32Ideal.Ssm.frame_ref,
  fun m ρ _ => Cert.Kernel33.Gen.frame m ρ, fun m ρ _ => Cert.Kernel33Ideal.Gen.frame m ρ, Cert.Kernel33Ideal.Loss.frame_ref,
  fun m ρ _ => Cert.Kernel34.Gen.frame m ρ, fun m ρ _ => Cert.Kernel34Ideal.Gen.frame m ρ, Cert.Kernel34Ideal.Adam.frame_ref,
  fun m ρ _ => Cert.Kernel35.Gen.frame m ρ, fun m ρ _ => Cert.Kernel35Ideal.Gen.frame m ρ, Cert.Kernel35Ideal.Gated.frame_ref,
  fun m ρ _ => Cert.Kernel36.Gen.frame m ρ, fun m ρ _ => Cert.Kernel36Ideal.Gen.frame m ρ, Cert.Kernel36Ideal.Conv.frame_ref,
  preserves, algebraic, trivial, Cert.Ffn.algebraic_gate, trivial, Cert.Ffn.algebraic_hidden, trivial, Cert.Ffn.algebraic_upWeight, trivial, Cert.Ffn.algebraic_downWeight,
  trivial, Cert.Ffn.algebraic_up, trivial, Cert.Ffn.algebraic_down,
  trivial, Cert.Kernel8Ideal.Sb.algebraic, trivial, Cert.Kernel9Ideal.Sb.algebraic, trivial, Cert.Kernel10Ideal.Gm.algebraic,
  trivial, Cert.Kernel11Ideal.Gm.algebraic, trivial, Cert.Kernel12Ideal.Gm.algebraic, trivial, Cert.Kernel13Ideal.Gm.algebraic,
  trivial, Cert.Kernel14Ideal.Ssm.algebraic, trivial, Cert.Kernel15Ideal.Ssm.algebraic, trivial, Cert.Kernel16Ideal.Ssm.algebraic,
  trivial, Cert.Kernel17Ideal.Ssm.algebraic, trivial, Cert.Kernel18Ideal.Sb.algebraic, trivial, Cert.Kernel19Ideal.Sb.algebraic,
  trivial, Cert.Kernel20Ideal.Sb.algebraic, trivial, Cert.Kernel21Ideal.Gm.algebraic, trivial, Cert.Kernel22Ideal.Gm.algebraic,
  trivial, Cert.Kernel23Ideal.Ssm.algebraic, trivial, Cert.Kernel24Ideal.Ssm.algebraic, trivial, Cert.Kernel25Ideal.Sb.algebraic,
  trivial, Cert.Kernel26Ideal.Mix.algebraic, trivial, Cert.Kernel27Ideal.Mix.algebraic, trivial, Cert.Kernel28Ideal.Norm.algebraic, trivial, Cert.Kernel29Ideal.Norm.algebraic,
  trivial, Cert.Kernel30Ideal.Ssm.algebraic, trivial, Cert.Kernel31Ideal.Ssm.algebraic, trivial, Cert.Kernel32Ideal.Ssm.algebraic,
  trivial, Cert.Kernel33Ideal.Loss.algebraic, trivial, Cert.Kernel34Ideal.Adam.algebraic, trivial, Cert.Kernel35Ideal.Gated.algebraic,
  trivial, Cert.Kernel36Ideal.Conv.algebraic⟩

end Cert.Proof

end
